-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v23_0)) (v1 : (c : Dev Cert.Kernel4Ideal.nD) → Buf (Elt Ideal) ((c.tc : Thread Cert.Kernel4Ideal.nD Cert.Kernel4Ideal.τ).loc Cert.Kernel4Ideal.main_v23_1)) (v2 : (c : Dev Cert.Kernel4Ideal.nD) → Buf (Elt Ideal) ((c.tc : Thread Cert.Kernel4Ideal.nD Cert.Kernel4Ideal.τ).loc Cert.Kernel4Ideal.main_v23_2)) (v3 : (c : Dev Cert.Kernel4Ideal.nD) → Buf (Elt Ideal) ((c.tc : Thread Cert.Kernel4Ideal.nD Cert.Kernel4Ideal.τ).loc Cert.Kernel4Ideal.main_v23_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23_0) = v0 c
          ∧ r.2.mem ((c.tc : Thread Cert.Kernel4Ideal.nD Cert.Kernel4Ideal.τ).loc Cert.Kernel4Ideal.main_v23_1) = v1 c
          ∧ r.2.mem ((c.tc : Thread Cert.Kernel4Ideal.nD Cert.Kernel4Ideal.τ).loc Cert.Kernel4Ideal.main_v23_2) = v2 c
          ∧ r.2.mem ((c.tc : Thread Cert.Kernel4Ideal.nD Cert.Kernel4Ideal.τ).loc Cert.Kernel4Ideal.main_v23_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v83) = v0 c
          ∧ r.2.mem ((c.tc : Thread Cert.Reference4Ideal.nD Cert.Reference4Ideal.τ).loc Cert.Reference4Ideal.main_v85) = v1 c
          ∧ r.2.mem ((c.tc : Thread Cert.Reference4Ideal.nD Cert.Reference4Ideal.τ).loc Cert.Reference4Ideal.main_v87) = v2 c
          ∧ r.2.mem ((c.tc : Thread Cert.Reference4Ideal.nD Cert.Reference4Ideal.τ).loc Cert.Reference4Ideal.main_v89) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "inv_384" .f32 0x3B2AAAAB#32 ((1 / 384 : ℝ) : EReal)
  ∧ IdealRules.named_const.Statement Cert.Kernel5Ideal.κ "inv_192" .f32 0x3BAAAAAB#32 ((1 / 192 : ℝ) : EReal)
  ∧ IdealRules.named_const.Statement Cert.Kernel5Ideal.κ "scale" .f32 0x3DD53B95#32 (((Real.sqrt 192)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v79_0)) (v1 : (c : Dev Cert.Kernel5Ideal.nD) → Buf (Elt Ideal) ((c.tc : Thread Cert.Kernel5Ideal.nD Cert.Kernel5Ideal.τ).loc Cert.Kernel5Ideal.main_v79_1)) (v2 : (c : Dev Cert.Kernel5Ideal.nD) → Buf (Elt Ideal) ((c.tc : Thread Cert.Kernel5Ideal.nD Cert.Kernel5Ideal.τ).loc Cert.Kernel5Ideal.main_v79_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v79_0) = v0 c
          ∧ r.2.mem ((c.tc : Thread Cert.Kernel5Ideal.nD Cert.Kernel5Ideal.τ).loc Cert.Kernel5Ideal.main_v79_1) = v1 c
          ∧ r.2.mem ((c.tc : Thread Cert.Kernel5Ideal.nD Cert.Kernel5Ideal.τ).loc Cert.Kernel5Ideal.main_v79_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v147) = v0 c
          ∧ r.2.mem ((c.tc : Thread Cert.Reference5Ideal.nD Cert.Reference5Ideal.τ).loc Cert.Reference5Ideal.main_v149) = v1 c
          ∧ r.2.mem ((c.tc : Thread Cert.Reference5Ideal.nD Cert.Reference5Ideal.τ).loc Cert.Reference5Ideal.main_v151) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x4096x2048 : Shape := ⟨3, ![8, 4096, 2048]⟩
abbrev S8x4096x1024 : Shape := ⟨3, ![8, 4096, 1024]⟩
abbrev S_ : Shape := ⟨0, ![]⟩

class Facts : Prop where
  bitsLt_bf16_f32 : FTy.bits .bf16 < FTy.bits .f32
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel

variable [Facts]

def fn {F : FTy → Type} [FloatOps F] (main_arg0 : FVec F S8x4096x2048 .bf16) (main_arg1 : FVec F S8x4096x2048 .bf16) (main_arg2 : FVec F S8x4096x1024 .bf16) : IVec S_ 1 :=
  let main_v0 : FVec F S8x4096x2048 .f32 := (extf .f32 · bitsLt_bf16_f32) main_arg0
  let main_v1 : FVec F S8x4096x2048 .f32 := Host.absf main_v0
  let main_cst : FVec F S_ .f32 := constant S_ .f32 0x7F800000#32
  let main_v2 : FVec F S8x4096x2048 .f32 := broadcastInDim S8x4096x2048 ![] bcast_S_S8x4096x2048 main_cst
  let main_v3 : IVec S8x4096x2048 1 := cmpf .olt main_v1 main_v2
  let main_c : IVec S_ 1 := constantI S_ 1 1#1
  let main_v4 : IVec S_ 1 := (fun x v => Host.reduce IntOp.andi x v reducesTo_S8x4096x2048_S_d0_1_2 h_S_) main_v3 main_c
  let main_v5 : FVec F S8x4096x2048 .f32 := (extf .f32 · bitsLt_bf16_f32) main_arg1
  let main_v6 : FVec F S8x4096x2048 .f32 := Host.absf main_v5
  let main_cst_0 : FVec F S_ .f32 := constant S_ .f32 0x7F800000#32
  let main_v7 : FVec F S8x4096x2048 .f32 := broadcastInDim S8x4096x2048 ![] bcast_S_S8x4096x2048 main_cst_0
  let main_v8 : IVec S8x4096x2048 1 := cmpf .olt main_v6 main_v7
  let main_c_1 : IVec S_ 1 := constantI S_ 1 1#1
  let main_v9 : IVec S_ 1 := (fun x v => Host.reduce IntOp.andi x v reducesTo_S8x4096x2048_S_d0_1_2 h_S_) main_v8 main_c_1
  let main_v10 : IVec S_ 1 := andi main_v4 main_v9
  main_v10
-- ==== Kernel.lean ====
abbrev S8x4096x2048 : Shape := ⟨3, ![8, 4096, 2048]⟩
abbrev S8x4096x1024 : Shape := ⟨3, ![8, 4096, 1024]⟩
abbrev S1x4096x256 : Shape := ⟨3, ![1, 4096, 256]⟩
abbrev S1x4096x128 : Shape := ⟨3, ![1, 4096, 128]⟩
abbrev S2x512x128 : Shape := ⟨3, ![2, 512, 128]⟩
abbrev S2x512x256 : Shape := ⟨3, ![2, 512, 256]⟩
abbrev S1x256x256 : Shape := ⟨3, ![1, 256, 256]⟩
abbrev S256x256 : Shape := ⟨2, ![256, 256]⟩
abbrev S1x512x256 : Shape := ⟨3, ![1, 512, 256]⟩
abbrev S512x256 : Shape := ⟨2, ![512, 256]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S512x512 : Shape := ⟨2, ![512, 512]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩

abbrev nBuf : Space → Nat
  | .hbm => 4
  | .vmem => 10
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .bf16⟩
  | .hbm, ⟨2, _⟩ => ⟨S8x4096x1024, .bf16⟩
  | .hbm, ⟨3, _⟩ => ⟨S8x4096x1024, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S2x512x128, .f32⟩
  | .local _ .vmem, ⟨9, _⟩ => ⟨S2x512x256, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x2048 : Shape := ⟨3, ![8, 4096, 2048]⟩
abbrev S8x4096x1024 : Shape := ⟨3, ![8, 4096, 1024]⟩
abbrev S8x4096x8x256 : Shape := ⟨4, ![8, 4096, 8, 256]⟩
abbrev S8x8x4096x256 : Shape := ⟨4, ![8, 8, 4096, 256]⟩
abbrev S8x4096x8x128 : Shape := ⟨4, ![8, 4096, 8, 128]⟩
abbrev S8x8x4096x128 : Shape := ⟨4, ![8, 8, 4096, 128]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .bf16⟩
  | .hbm, ⟨2, _⟩ => ⟨S8x4096x1024, .bf16⟩
  | .hbm, ⟨3, _⟩ => ⟨S8x4096x2048, .f32⟩
  | .hbm, ⟨4, _⟩ => ⟨S8x4096x8x256, .f32⟩
  | .hbm, ⟨5, _⟩ => ⟨S8x8x4096x256, .f32⟩
  | .hbm, ⟨6, _⟩ => ⟨S8x4096x2048, .f32⟩
  | .hbm, ⟨7, _⟩ => ⟨S8x4096x8x256, .f32⟩
  | .hbm, ⟨8, _⟩ => ⟨S8x8x4096x256, .f32⟩
  | .hbm, ⟨9, _⟩ => ⟨S8x4096x1024, .f32⟩
  | .hbm, ⟨10, _⟩ => ⟨S8x4096x8x128, .f32⟩
  | .hbm, ⟨11, _⟩ => ⟨S8x8x4096x128, .f32⟩
  | .hbm, ⟨12, _⟩ => ⟨S8x8x4096x4096, .f32⟩
  | .hbm, ⟨13, _⟩ => ⟨S_, .f32⟩
  | .hbm, ⟨14, _⟩ => ⟨S_, .f32⟩
  | .hbm, ⟨15, _⟩ => ⟨S8x8x4096x4096, .f32⟩
  | .hbm, ⟨16, _⟩ => ⟨S8x8x4096x4096, .f32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S8x8x4096x4096, .i1⟩
  | .hbm, ⟨29, _⟩ => ⟨S8x8x4096x4096, .f32⟩
  | .hbm, ⟨30, _⟩ => ⟨S8x8x4096x4096, .f32⟩
  | .hbm, ⟨31, _⟩ => ⟨S_, .f32⟩
  | .hbm, ⟨32, _⟩ => ⟨S8x8x4096, .f32⟩
  | .hbm, ⟨33, _⟩ => ⟨S_, .f32⟩
  | .hbm, ⟨34, _⟩ => ⟨S8x8x4096, .f32⟩
  | .hbm, ⟨35, _⟩ => ⟨S8x8x4096, .f32⟩
  | .hbm, ⟨36, _⟩ => ⟨S8x8x4096x1, .f32⟩
  | .hbm, ⟨37, _⟩ => ⟨S8x8x4096x4096, .f32⟩
  | .hbm, ⟨38, _⟩ => ⟨S8x8x4096x4096, .f32⟩
  | .hbm, ⟨39, _⟩ => ⟨S8x8x4096x4096, .f32⟩
  | .hbm, ⟨40, _⟩ => ⟨S_, .f32⟩
  | .hbm, ⟨41, _⟩ => ⟨S8x8x4096, .f32⟩
  | .hbm, ⟨42, _⟩ => ⟨S8x8x4096x1, .f32⟩
  | .hbm, ⟨43, _⟩ => ⟨S8x8x4096x4096, .f32⟩
  | .hbm, ⟨44, _⟩ => ⟨S8x8x4096x4096, .f32⟩
  | .hbm, ⟨45, _⟩ => ⟨S8x8x4096x128, .f32⟩
  | .hbm, ⟨46, _⟩ => ⟨S8x4096x8x128, .f32⟩
  | .hbm, ⟨47, _⟩ => ⟨S8x4096x1024, .f32⟩
  | .hbm, ⟨48, _⟩ => ⟨S8x4096x1024, .bf16⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel2.lean ====
abbrev S8x4096x1024 : Shape := ⟨3, ![8, 4096, 1024]⟩
abbrev S2x8x4096x256 : Shape := ⟨4, ![2, 8, 4096, 256]⟩
abbrev S1024x1024 : Shape := ⟨2, ![1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x256x1024 : Shape := ⟨3, ![2, 256, 1024]⟩
abbrev S32768x1024 : Shape := ⟨2, ![32768, 1024]⟩
abbrev S2x32768x256 : Shape := ⟨3, ![2, 32768, 256]⟩
abbrev S2x1x1024 : Shape := ⟨3, ![2, 1, 1024]⟩
abbrev S512x1024 : Shape := ⟨2, ![512, 1024]⟩
abbrev S1x512x256 : Shape := ⟨3, ![1, 512, 256]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1x256x1024 : Shape := ⟨3, ![1, 256, 1024]⟩
abbrev S512 : Shape := ⟨1, ![512]⟩
abbrev S512x1 : Shape := ⟨2, ![512, 1]⟩
abbrev S512x128 : Shape := ⟨2, ![512, 128]⟩
abbrev S512x512 : Shape := ⟨2, ![512, 512]⟩
abbrev S1x1024 : Shape := ⟨2, ![1, 1024]⟩
abbrev S1x1024x512 : Shape := ⟨3, ![1, 1024, 512]⟩
abbrev S1024x512 : Shape := ⟨2, ![1024, 512]⟩
abbrev S1x512x1024 : Shape := ⟨3, ![1, 512, 1024]⟩
abbrev S512x256 : Shape := ⟨2, ![512, 256]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 21
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S2x8x4096x256, .f32⟩
  | .hbm, ⟨3, _⟩ => ⟨S1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S2x1024, .f32⟩
  | .hbm, ⟨8, _⟩ => ⟨S2x1024x1024, .f32⟩
  | .hbm, ⟨9, _⟩ => ⟨S2x256x1024, .f32⟩
  | .hbm, ⟨10, _⟩ => ⟨S2x1024x4096, .bf16⟩
  | .hbm, ⟨11, _⟩ => ⟨S2x4096x1024, .bf16⟩
  | .hbm, ⟨12, _⟩ => ⟨S2x1024x1024, .bf16⟩
  | .hbm, ⟨13, _⟩ => ⟨S2x256x1024, .bf16⟩
  | .hbm, ⟨14, _⟩ => ⟨S32768x1024, .f32⟩
  | .hbm, ⟨15, _⟩ => ⟨S32768x1024, .bf16⟩
  | .hbm, ⟨16, _⟩ => ⟨S2x32768x256, .f32⟩
  | .hbm, ⟨17, _⟩ => ⟨S2x1x1024, .f32⟩
  | .hbm, ⟨18, _⟩ => ⟨S2x1x1024, .f32⟩
  | .hbm, ⟨19, _⟩ => ⟨S1024x1024, .bf16⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x512x256, .f32⟩
  | .local _ .vmem, ⟨5, _⟩ => ⟨S1x512x256, .f32⟩
  | .local _ .vmem, ⟨6, _⟩ => ⟨S1024x1024, .bf16⟩
  | .local _ .vmem, ⟨7, _⟩ => ⟨S1x1x1024, .f32⟩
  | .local _ .vmem, ⟨8, _⟩ => ⟨S1x1024x4096, .bf16⟩
  | .local _ .vmem, ⟨9, _⟩ => ⟨S1x4096x1024, .bf16⟩
  | .local _ .vmem, ⟨10, _⟩ => ⟨S1x1x1024, .f32⟩
  | .local _ .vmem, ⟨11, _⟩ => ⟨S1x1024x1024, .bf16⟩
  | .local _ .vmem, ⟨12, _⟩ => ⟨S1x256x1024, .bf16⟩
  | .local _ .vmem, ⟨13, _⟩ => ⟨S512x1024, .f32⟩
  | .local _ .vmem, ⟨14, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x4096x1024 : Shape := ⟨3, ![8, 4096, 1024]⟩
abbrev S2x8x4096x256 : Shape := ⟨4, ![2, 8, 4096, 256]⟩
abbrev S1024x1024 : Shape := ⟨2, ![1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x256x1024 : Shape := ⟨3, ![2, 256, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S1x4096x1024 : Shape := ⟨3, ![1, 4096, 1024]⟩
abbrev S4096x1024 : Shape := ⟨2, ![4096, 1024]⟩
abbrev S1x1024x1024 : Shape := ⟨3, ![1, 1024, 1024]⟩
abbrev S1x8x4096x256 : Shape := ⟨4, ![1, 8, 4096, 256]⟩
abbrev S8x4096x256 : Shape := ⟨3, ![8, 4096, 256]⟩
abbrev S1x256x1024 : Shape := ⟨3, ![1, 256, 1024]⟩
abbrev S256x1024 : Shape := ⟨2, ![256, 1024]⟩
abbrev S32768x1024 : Shape := ⟨2, ![32768, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S2x8x4096x256, .f32⟩
  | .hbm, ⟨3, _⟩ => ⟨S1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S2x1024, .f32⟩
  | .hbm, ⟨8, _⟩ => ⟨S2x1024x1024, .f32⟩
  | .hbm, ⟨9, _⟩ => ⟨S2x256x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S1x1024, .f32⟩
  | .hbm, ⟨14, _⟩ => ⟨S1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S1x1024x4096, .f32⟩
  | .hbm, ⟨32, _⟩ => ⟨S1024x4096, .f32⟩
  | .hbm, ⟨33, _⟩ => ⟨S8x4096x4096, .f32⟩
  | .hbm, ⟨34, _⟩ => ⟨S_, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S1x4096x1024, .f32⟩
  | .hbm, ⟨39, _⟩ => ⟨S4096x1024, .f32⟩
  | .hbm, ⟨40, _⟩ => ⟨S8x4096x1024, .f32⟩
  | .hbm, ⟨41, _⟩ => ⟨S8x4096x1024, .f32⟩
  | .hbm, ⟨42, _⟩ => ⟨S1x1024, .f32⟩
  | .hbm, ⟨43, _⟩ => ⟨S1024, .f32⟩
  | .hbm, ⟨44, _⟩ => ⟨S8x4096x1024, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S1x1024x1024, .f32⟩
  | .hbm, ⟨61, _⟩ => ⟨S1024x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S_, .f32⟩
  | .hbm, ⟨66, _⟩ => ⟨S8x4096x1024, .f32⟩
  | .hbm, ⟨67, _⟩ => ⟨S8x4096x1024, .f32⟩
  | .hbm, ⟨68, _⟩ => ⟨S_, .f32⟩
  | .hbm, ⟨69, _⟩ => ⟨S8x4096x1024, .f32⟩
  | .hbm, ⟨70, _⟩ => ⟨S8x4096x1024, .f32⟩
  | .hbm, ⟨71, _⟩ => ⟨S1x8x4096x256, .f32⟩
  | .hbm, ⟨72, _⟩ => ⟨S8x4096x256, .f32⟩
  | .hbm, ⟨73, _⟩ => ⟨S1x256x1024, .f32⟩
  | .hbm, ⟨74, _⟩ => ⟨S256x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_5 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x2048 : Shape := ⟨3, ![8, 4096, 2048]⟩
abbrev S2x8x4096x256 : Shape := ⟨4, ![2, 8, 4096, 256]⟩
abbrev S2048x1024 : Shape := ⟨2, ![2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x256x1024 : Shape := ⟨3, ![2, 256, 1024]⟩
abbrev S32768x1024 : Shape := ⟨2, ![32768, 1024]⟩
abbrev S32768x2048 : Shape := ⟨2, ![32768, 2048]⟩
abbrev S2x32768x256 : Shape := ⟨3, ![2, 32768, 256]⟩
abbrev S2x1x1024 : Shape := ⟨3, ![2, 1, 1024]⟩
abbrev S512x1024 : Shape := ⟨2, ![512, 1024]⟩
abbrev S512x2048 : Shape := ⟨2, ![512, 2048]⟩
abbrev S1x512x256 : Shape := ⟨3, ![1, 512, 256]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1x256x1024 : Shape := ⟨3, ![1, 256, 1024]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S1x1024 : Shape := ⟨2, ![1, 1024]⟩
abbrev S1x1024x512 : Shape := ⟨3, ![1, 1024, 512]⟩
abbrev S1024x512 : Shape := ⟨2, ![1024, 512]⟩
abbrev S1x512x1024 : Shape := ⟨3, ![1, 512, 1024]⟩
abbrev S512x256 : Shape := ⟨2, ![512, 256]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 23
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096x2048, .bf16⟩
  | .hbm, ⟨2, _⟩ => ⟨S8x4096x2048, .bf16⟩
  | .hbm, ⟨3, _⟩ => ⟨S2x8x4096x256, .f32⟩
  | .hbm, ⟨4, _⟩ => ⟨S2048x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S2x1024, .f32⟩
  | .hbm, ⟨9, _⟩ => ⟨S2x1024x1024, .f32⟩
  | .hbm, ⟨10, _⟩ => ⟨S2x256x1024, .f32⟩
  | .hbm, ⟨11, _⟩ => ⟨S2x1024x4096, .bf16⟩
  | .hbm, ⟨12, _⟩ => ⟨S2x4096x1024, .bf16⟩
  | .hbm, ⟨13, _⟩ => ⟨S2x1024x1024, .bf16⟩
  | .hbm, ⟨14, _⟩ => ⟨S2x256x1024, .bf16⟩
  | .hbm, ⟨15, _⟩ => ⟨S32768x1024, .f32⟩
  | .hbm, ⟨16, _⟩ => ⟨S32768x2048, .bf16⟩
  | .hbm, ⟨17, _⟩ => ⟨S32768x2048, .bf16⟩
  | .hbm, ⟨18, _⟩ => ⟨S2x32768x256, .f32⟩
  | .hbm, ⟨19, _⟩ => ⟨S2x1x1024, .f32⟩
  | .hbm, ⟨20, _⟩ => ⟨S2x1x1024, .f32⟩
  | .hbm, ⟨21, _⟩ => ⟨S2048x1024, .bf16⟩
  | .hbm, ⟨22, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x512x256, .f32⟩
  | .local _ .vmem, ⟨7, _⟩ => ⟨S1x512x256, .f32⟩
  | .local _ .vmem, ⟨8, _⟩ => ⟨S2048x1024, .bf16⟩
  | .local _ .vmem, ⟨9, _⟩ => ⟨S1x1x1024, .f32⟩
  | .local _ .vmem, ⟨10, _⟩ => ⟨S1x1024x4096, .bf16⟩
  | .local _ .vmem, ⟨11, _⟩ => ⟨S1x4096x1024, .bf16⟩
  | .local _ .vmem, ⟨12, _⟩ => ⟨S1x1x1024, .f32⟩
  | .local _ .vmem, ⟨13, _⟩ => ⟨S1x1024x1024, .bf16⟩
  | .local _ .vmem, ⟨14, _⟩ => ⟨S1x256x1024, .bf16⟩
  | .local _ .vmem, ⟨15, _⟩ => ⟨S512x1024, .f32⟩
  | .local _ .vmem, ⟨16, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8x4096x1024 : Shape := ⟨3, ![8, 4096, 1024]⟩
abbrev S8x4096x2048 : Shape := ⟨3, ![8, 4096, 2048]⟩
abbrev S2x8x4096x256 : Shape := ⟨4, ![2, 8, 4096, 256]⟩
abbrev S2048x1024 : Shape := ⟨2, ![2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2x1024x1024 : Shape := ⟨3, ![2, 1024, 1024]⟩
abbrev S2x256x1024 : Shape := ⟨3, ![2, 256, 1024]⟩
abbrev S8x4096x4x512 : Shape := ⟨4, ![8, 4096, 4, 512]⟩
abbrev S_ : Shape := ⟨0, ![]⟩
abbrev S8x4096x4 : Shape := ⟨3, ![8, 4096, 4]⟩
abbrev S8x4096x4x1 : Shape := ⟨4, ![8, 4096, 4, 1]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S1x4096x1024 : Shape := ⟨3, ![1, 4096, 1024]⟩
abbrev S4096x1024 : Shape := ⟨2, ![4096, 1024]⟩
abbrev S1x1024x1024 : Shape := ⟨3, ![1, 1024, 1024]⟩
abbrev S1024x1024 : Shape := ⟨2, ![1024, 1024]⟩
abbrev S1x8x4096x256 : Shape := ⟨4, ![1, 8, 4096, 256]⟩
abbrev S8x4096x256 : Shape := ⟨3, ![8, 4096, 256]⟩
abbrev S1x256x1024 : Shape := ⟨3, ![1, 256, 1024]⟩
abbrev S256x1024 : Shape := ⟨2, ![256, 1024]⟩
abbrev S32768x1024 : Shape := ⟨2, ![32768, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x2048, .bf16⟩
  | .hbm, ⟨2, _⟩ => ⟨S8x4096x2048, .bf16⟩
  | .hbm, ⟨3, _⟩ => ⟨S2x8x4096x256, .f32⟩
  | .hbm, ⟨4, _⟩ => ⟨S2048x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S2x1024, .f32⟩
  | .hbm, ⟨9, _⟩ => ⟨S2x1024x1024, .f32⟩
  | .hbm, ⟨10, _⟩ => ⟨S2x256x1024, .f32⟩
  | .hbm, ⟨11, _⟩ => ⟨S8x4096x2048, .f32⟩
  | .hbm, ⟨12, _⟩ => ⟨S8x4096x4x512, .f32⟩
  | .hbm, ⟨13, _⟩ => ⟨S8x4096x4x512, .f32⟩
  | .hbm, ⟨14, _⟩ => ⟨S_, .f32⟩
  | .hbm, ⟨15, _⟩ => ⟨S8x4096x4, .f32⟩
  | .hbm, ⟨16, _⟩ => ⟨S8x4096x4x1, .f32⟩
  | .hbm, ⟨17, _⟩ => ⟨S_, .f32⟩
  | .hbm, ⟨18, _⟩ => ⟨S8x4096x4x1, .f32⟩
  | .hbm, ⟨19, _⟩ => ⟨S8x4096x4x1, .f32⟩
  | .hbm, ⟨20, _⟩ => ⟨S_, .f32⟩
  | .hbm, ⟨21, _⟩ => ⟨S8x4096x4x1, .f32⟩
  | .hbm, ⟨22, _⟩ => ⟨S8x4096x4x1, .f32⟩
  | .hbm, ⟨23, _⟩ => ⟨S8x4096x4x1, .f32⟩
  | .hbm, ⟨24, _⟩ => ⟨S8x4096x4x512, .f32⟩
  | .hbm, ⟨25, _⟩ => ⟨S8x4096x4x512, .f32⟩
  | .hbm, ⟨26, _⟩ => ⟨S_, .f32⟩
  | .hbm, ⟨27, _⟩ => ⟨S8x4096x4x512, .f32⟩
  | .hbm, ⟨28, _⟩ => ⟨S8x4096x4x512, .f32⟩
  | .hbm, ⟨29, _⟩ => ⟨S8x4096x2048, .f32⟩
  | .hbm, ⟨30, _⟩ => ⟨S8x4096x2048, .f32⟩
  | .hbm, ⟨31, _⟩ => ⟨S8x4096x2048, .f32⟩
  | .hbm, ⟨32, _⟩ => ⟨S8x4096x1024, .f32⟩
  | .hbm, ⟨33, _⟩ => ⟨S8x4096x1024, .f32⟩
  | .hbm, ⟨34, _⟩ => ⟨S1x1024, .f32⟩
  | .hbm, ⟨35, _⟩ => ⟨S1024, .f32⟩
  | .hbm, ⟨36, _⟩ => ⟨S8x4096x1024, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | .hbm, ⟨52, _⟩ => ⟨S1x1024x4096, .f32⟩
  | .hbm, ⟨53, _⟩ => ⟨S1024x4096, .f32⟩
  | .hbm, ⟨54, _⟩ => ⟨S8x4096x4096, .f32⟩
  | .hbm, ⟨55, _⟩ => ⟨S_, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S1x4096x1024, .f32⟩
  | .hbm, ⟨60, _⟩ => ⟨S4096x1024, .f32⟩
  | .hbm, ⟨61, _⟩ => ⟨S8x4096x1024, .f32⟩
  | .hbm, ⟨62, _⟩ => ⟨S8x4096x1024, .f32⟩
  | .hbm, ⟨63, _⟩ => ⟨S1x1024, .f32⟩
  | .hbm, ⟨64, _⟩ => ⟨S1024, .f32⟩
  | .hbm, ⟨65, _⟩ => ⟨S8x4096x1024, .f32⟩
  | .hbm, ⟨66, _⟩ => ⟨S_, .f32⟩
  | .hbm, ⟨67, _⟩ => ⟨S8x4096, .f32⟩
  | .hbm, ⟨68, _⟩ => ⟨S8x4096x1, .f32⟩
  | .hbm, ⟨69, _⟩ => ⟨S_, .f32⟩
  | .hbm, ⟨70, _⟩ => ⟨S8x4096x1, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S8x4096x1, .f32⟩
  | .hbm, ⟨76, _⟩ => ⟨S8x4096x1024, .f32⟩
  | .hbm, ⟨77, _⟩ => ⟨S8x4096x1024, .f32⟩
  | .hbm, ⟨78, _⟩ => ⟨S1x1x1024, .f32⟩
  | .hbm, ⟨79, _⟩ => ⟨S8x4096x1024, .f32⟩
  | .hbm, ⟨80, _⟩ => ⟨S8x4096x1024, .f32⟩
  | .hbm, ⟨81, _⟩ => ⟨S1x1024x1024, .f32⟩
  | .hbm, ⟨82, _⟩ => ⟨S1024x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S_, .f32⟩
  | .hbm, ⟨87, _⟩ => ⟨S8x4096x1024, .f32⟩
  | .hbm, ⟨88, _⟩ => ⟨S8x4096x1024, .f32⟩
  | .hbm, ⟨89, _⟩ => ⟨S_, .f32⟩
  | .hbm, ⟨90, _⟩ => ⟨S8x4096x1024, .f32⟩
  | .hbm, ⟨91, _⟩ => ⟨S8x4096x1024, .f32⟩
  | .hbm, ⟨92, _⟩ => ⟨S1x8x4096x256, .f32⟩
  | .hbm, ⟨93, _⟩ => ⟨S8x4096x256, .f32⟩
  | .hbm, ⟨94, _⟩ => ⟨S1x256x1024, .f32⟩
  | .hbm, ⟨95, _⟩ => ⟨S256x1024, .f32⟩
  | .hbm, ⟨96, _⟩ => ⟨S8x4096x1024, .f32⟩
  | .hbm, ⟨97, _⟩ => ⟨S8x4096x1024, .f32⟩
  | .hbm, ⟨98, _⟩ => ⟨S8x4096x1024, .f32⟩
  | .hbm, ⟨99, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_cst : Ref sig .tc := ⟨.hbm, 55, rfl⟩
abbrev main_call0_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S1024x6144 : Shape := ⟨2, ![1024, 6144]⟩
abbrev S4x512 : Shape := ⟨2, ![4, 512]⟩
abbrev S32768x1024 : Shape := ⟨2, ![32768, 1024]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S1x1024 : Shape := ⟨2, ![1, 1024]⟩
abbrev S1x2048 : Shape := ⟨2, ![1, 2048]⟩
abbrev S32768x2048 : Shape := ⟨2, ![32768, 2048]⟩
abbrev S1024x1024 : Shape := ⟨2, ![1024, 1024]⟩
abbrev S1024x128 : Shape := ⟨2, ![1024, 128]⟩
abbrev S1024x2048 : Shape := ⟨2, ![1024, 2048]⟩
abbrev S1024x1 : Shape := ⟨2, ![1024, 1]⟩
abbrev S1024x256 : Shape := ⟨2, ![1024, 256]⟩
abbrev S1x256 : Shape := ⟨2, ![1, 256]⟩

abbrev nBuf : Space → Nat
  | .hbm => 36
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6144, .f32⟩
  | .hbm, ⟨3, _⟩ => ⟨S4x512, .f32⟩
  | .hbm, ⟨4, _⟩ => ⟨S32768x1024, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S4096, .f32⟩
  | .hbm, ⟨22, _⟩ => ⟨S4096x1, .f32⟩
  | .hbm, ⟨23, _⟩ => ⟨S1x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S1x1024, .f32⟩
  | .hbm, ⟨30, _⟩ => ⟨S1024x6144, .bf16⟩
  | .hbm, ⟨31, _⟩ => ⟨S1x2048, .f32⟩
  | .hbm, ⟨32, _⟩ => ⟨S32768x1024, .bf16⟩
  | .hbm, ⟨33, _⟩ => ⟨S32768x1024, .bf16⟩
  | .hbm, ⟨34, _⟩ => ⟨S32768x2048, .bf16⟩
  | .hbm, ⟨35, _⟩ => ⟨S32768x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x6144, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x2048, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8x4096x1024 : Shape := ⟨3, ![8, 4096, 1024]⟩
abbrev S1024 : Shape := ⟨1, ![1024]⟩
abbrev S1024x6144 : Shape := ⟨2, ![1024, 6144]⟩
abbrev S4x512 : Shape := ⟨2, ![4, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6144 : Shape := ⟨3, ![8, 4096, 6144]⟩
abbrev S8x4096x2048 : Shape := ⟨3, ![8, 4096, 2048]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4096x1x128 : Shape := ⟨3, ![4096, 1, 128]⟩
abbrev S8x4096x4x256 : Shape := ⟨4, ![8, 4096, 4, 256]⟩
abbrev S8x4096x4x128 : Shape := ⟨4, ![8, 4096, 4, 128]⟩
abbrev S1x4096x1x128 : Shape := ⟨4, ![1, 4096, 1, 128]⟩
abbrev S2048 : Shape := ⟨1, ![2048]⟩
abbrev S1x1x2048 : Shape := ⟨3, ![1, 1, 2048]⟩
abbrev S32768x1024 : Shape := ⟨2, ![32768, 1024]⟩
abbrev S32768x2048 : Shape := ⟨2, ![32768, 2048]⟩

abbrev nBuf : Space → Nat
  | .hbm => 111
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6144, .f32⟩
  | .hbm, ⟨3, _⟩ => ⟨S4x512, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x4096x6144, .f32⟩
  | .hbm, ⟨21, _⟩ => ⟨S8x4096x1024, .f32⟩
  | .hbm, ⟨22, _⟩ => ⟨S8x4096x1024, .f32⟩
  | .hbm, ⟨23, _⟩ => ⟨S8x4096x2048, .f32⟩
  | .hbm, ⟨24, _⟩ => ⟨S8x4096x2048, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S4096, .f32⟩
  | .hbm, ⟨42, _⟩ => ⟨S4096x1, .f32⟩
  | .hbm, ⟨43, _⟩ => ⟨S1x128, .f32⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x1x128, .f32⟩
  | .hbm, ⟨49, _⟩ => ⟨S4096x128, .f32⟩
  | .hbm, ⟨50, _⟩ => ⟨S4096x1x128, .f32⟩
  | .hbm, ⟨51, _⟩ => ⟨S8x4096x4x256, .f32⟩
  | .hbm, ⟨52, _⟩ => ⟨S8x4096x4x128, .f32⟩
  | .hbm, ⟨53, _⟩ => ⟨S8x4096x4x128, .f32⟩
  | .hbm, ⟨54, _⟩ => ⟨S1x4096x1x128, .f32⟩
  | .hbm, ⟨55, _⟩ => ⟨S8x4096x4x128, .f32⟩
  | .hbm, ⟨56, _⟩ => ⟨S8x4096x4x128, .f32⟩
  | .hbm, ⟨57, _⟩ => ⟨S1x4096x1x128, .f32⟩
  | .hbm, ⟨58, _⟩ => ⟨S8x4096x4x128, .f32⟩
  | .hbm, ⟨59, _⟩ => ⟨S8x4096x4x128, .f32⟩
  | .hbm, ⟨60, _⟩ => ⟨S8x4096x4x128, .f32⟩
  | .hbm, ⟨61, _⟩ => ⟨S1x4096x1x128, .f32⟩
  | .hbm, ⟨62, _⟩ => ⟨S8x4096x4x128, .f32⟩
  | .hbm, ⟨63, _⟩ => ⟨S8x4096x4x128, .f32⟩
  | .hbm, ⟨64, _⟩ => ⟨S1x4096x1x128, .f32⟩
  | .hbm, ⟨65, _⟩ => ⟨S8x4096x4x128, .f32⟩
  | .hbm, ⟨66, _⟩ => ⟨S8x4096x4x128, .f32⟩
  | .hbm, ⟨67, _⟩ => ⟨S8x4096x4x128, .f32⟩
  | .hbm, ⟨68, _⟩ => ⟨S8x4096x4x256, .f32⟩
  | .hbm, ⟨69, _⟩ => ⟨S8x4096x4x256, .f32⟩
  | .hbm, ⟨70, _⟩ => ⟨S8x4096x4x128, .f32⟩
  | .hbm, ⟨71, _⟩ => ⟨S8x4096x4x128, .f32⟩
  | .hbm, ⟨72, _⟩ => ⟨S1x4096x1x128, .f32⟩
  | .hbm, ⟨73, _⟩ => ⟨S8x4096x4x128, .f32⟩
  | .hbm, ⟨74, _⟩ => ⟨S8x4096x4x128, .f32⟩
  | .hbm, ⟨75, _⟩ => ⟨S1x4096x1x128, .f32⟩
  | .hbm, ⟨76, _⟩ => ⟨S8x4096x4x128, .f32⟩
  | .hbm, ⟨77, _⟩ => ⟨S8x4096x4x128, .f32⟩
  | .hbm, ⟨78, _⟩ => ⟨S8x4096x4x128, .f32⟩
  | .hbm, ⟨79, _⟩ => ⟨S1x4096x1x128, .f32⟩
  | .hbm, ⟨80, _⟩ => ⟨S8x4096x4x128, .f32⟩
  | .hbm, ⟨81, _⟩ => ⟨S8x4096x4x128, .f32⟩
  | .hbm, ⟨82, _⟩ => ⟨S1x4096x1x128, .f32⟩
  | .hbm, ⟨83, _⟩ => ⟨S8x4096x4x128, .f32⟩
  | .hbm, ⟨84, _⟩ => ⟨S8x4096x4x128, .f32⟩
  | .hbm, ⟨85, _⟩ => ⟨S8x4096x4x128, .f32⟩
  | .hbm, ⟨86, _⟩ => ⟨S8x4096x4x256, .f32⟩
  | .hbm, ⟨87, _⟩ => ⟨S_, .f32⟩
  | .hbm, ⟨88, _⟩ => ⟨S8x4096x4x256, .f32⟩
  | .hbm, ⟨89, _⟩ => ⟨S8x4096x4x256, .f32⟩
  | .hbm, ⟨90, _⟩ => ⟨S8x4096x2048, .f32⟩
  | .hbm, ⟨91, _⟩ => ⟨S8x4096x2048, .f32⟩
  | .hbm, ⟨92, _⟩ => ⟨S_, .f32⟩
  | .hbm, ⟨93, _⟩ => ⟨S8x4096x2048, .f32⟩
  | .hbm, ⟨94, _⟩ => ⟨S8x4096x2048, .f32⟩
  | .hbm, ⟨95, _⟩ => ⟨S_, .f32⟩
  | .hbm, ⟨96, _⟩ => ⟨S8x4096x2048, .f32⟩
  | .hbm, ⟨97, _⟩ => ⟨S8x4096x2048, .f32⟩
  | .hbm, ⟨98, _⟩ => ⟨S8x4096x2048, .f32⟩
  | .hbm, ⟨99, _⟩ => ⟨S2048, .f32⟩
  | .hbm, ⟨100, _⟩ => ⟨S1x1x2048, .f32⟩
  | .hbm, ⟨101, _⟩ => ⟨S8x4096x2048, .f32⟩
  | .hbm, ⟨102, _⟩ => ⟨S8x4096x2048, .f32⟩
  | .hbm, ⟨103, _⟩ => ⟨S32768x1024, .f32⟩
  | .hbm, ⟨104, _⟩ => ⟨S32768x1024, .bf16⟩
  | .hbm, ⟨105, _⟩ => ⟨S32768x1024, .f32⟩
  | .hbm, ⟨106, _⟩ => ⟨S32768x1024, .bf16⟩
  | .hbm, ⟨107, _⟩ => ⟨S32768x2048, .f32⟩
  | .hbm, ⟨108, _⟩ => ⟨S32768x2048, .bf16⟩
  | .hbm, ⟨109, _⟩ => ⟨S32768x2048, .f32⟩
  | .hbm, ⟨110, _⟩ => ⟨S32768x2048, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_cst_7 : Ref sig .tc := ⟨.hbm, 87, rfl⟩
abbrev main_v75 : Ref sig .tc := ⟨.hbm, 88, rfl⟩
abbrev main_v76 : Ref sig .tc := ⟨.hbm, 89, rfl⟩
abbrev main_call0_v0 : Ref sig .tc := ⟨.hbm, 90, rfl⟩
abbrev main_call0_v1 : Ref sig .tc := ⟨.hbm, 91, rfl⟩
abbrev main_call0_cst : Ref sig .tc := ⟨.hbm, 92, rfl⟩
abbrev main_call0_v2 : Ref sig .tc := ⟨.hbm, 93, rfl⟩
abbrev main_call0_v3 : Ref sig .tc := ⟨.hbm, 94, rfl⟩
abbrev main_call0_cst_0 : Ref sig .tc := ⟨.hbm, 95, rfl⟩
abbrev main_call0_v4 : Ref sig .tc := ⟨.hbm, 96, rfl⟩
abbrev main_call0_v5 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩

abbrev nD : Nat := 1
abbrev τ : Topo := Topo.v7x

variable {F : FTy → Type} [FloatOps F]
-- ==== Kernel5.lean ====
abbrev S8x4096x1024 : Shape := ⟨3, ![8, 4096, 1024]⟩
abbrev S1024 : Shape := ⟨1, ![1024]⟩
abbrev S1024x704 : Shape := ⟨2, ![1024, 704]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S192 : Shape := ⟨1, ![192]⟩
abbrev S32768x1024 : Shape := ⟨2, ![32768, 1024]⟩
abbrev S1024x64 : Shape := ⟨2, ![1024, 64]⟩
abbrev S1024x32 : Shape := ⟨2, ![1024, 32]⟩
abbrev S1024x768 : Shape := ⟨2, ![1024, 768]⟩
abbrev S384x8x192 : Shape := ⟨3, ![384, 8, 192]⟩
abbrev S384x8x64 : Shape := ⟨3, ![384, 8, 64]⟩
abbrev S384x8x32 : Shape := ⟨3, ![384, 8, 32]⟩
abbrev S384x8x256 : Shape := ⟨3, ![384, 8, 256]⟩
abbrev S384x2048 : Shape := ⟨2, ![384, 2048]⟩
abbrev S64 : Shape := ⟨1, ![64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S128 : Shape := ⟨1, ![128]⟩
abbrev S1x128 : Shape := ⟨2, ![1, 128]⟩
abbrev S1x1024 : Shape := ⟨2, ![1, 1024]⟩
abbrev S1x384 : Shape := ⟨2, ![1, 384]⟩
abbrev S1x256 : Shape := ⟨2, ![1, 256]⟩
abbrev S32768x2048 : Shape := ⟨2, ![32768, 2048]⟩
abbrev S1024x1024 : Shape := ⟨2, ![1024, 1024]⟩
abbrev S1024x128 : Shape := ⟨2, ![1024, 128]⟩
abbrev S1024x2048 : Shape := ⟨2, ![1024, 2048]⟩
abbrev S128x128 : Shape := ⟨2, ![128, 128]⟩
abbrev S256x128 : Shape := ⟨2, ![256, 128]⟩
abbrev S512x1024 : Shape := ⟨2, ![512, 1024]⟩
abbrev S512x128 : Shape := ⟨2, ![512, 128]⟩
abbrev S512x768 : Shape := ⟨2, ![512, 768]⟩
abbrev S512x384 : Shape := ⟨2, ![512, 384]⟩
abbrev S512x256 : Shape := ⟨2, ![512, 256]⟩
abbrev S384x128 : Shape := ⟨2, ![384, 128]⟩
abbrev S384x256 : Shape := ⟨2, ![384, 256]⟩
abbrev S256x256 : Shape := ⟨2, ![256, 256]⟩

abbrev nBuf : Space → Nat
  | .hbm => 101
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x704, .f32⟩
  | .hbm, ⟨3, _⟩ => ⟨S384, .f32⟩
  | .hbm, ⟨4, _⟩ => ⟨S256, .f32⟩
  | .hbm, ⟨5, _⟩ => ⟨S384x1536, .f32⟩
  | .hbm, ⟨6, _⟩ => ⟨S256x2048, .f32⟩
  | .hbm, ⟨7, _⟩ => ⟨S192, .f32⟩
  | .hbm, ⟨8, _⟩ => ⟨S192, .f32⟩
  | .hbm, ⟨9, _⟩ => ⟨S32768x1024, .f32⟩
  | .hbm, ⟨10, _⟩ => ⟨S1024x64, .f32⟩
  | .hbm, ⟨11, _⟩ => ⟨S1024x32, .f32⟩
  | .hbm, ⟨12, _⟩ => ⟨S1024x32, .f32⟩
  | .hbm, ⟨13, _⟩ => ⟨S1024x32, .f32⟩
  | .hbm, ⟨14, _⟩ => ⟨S1024x64, .f32⟩
  | .hbm, ⟨15, _⟩ => ⟨S1024x768, .f32⟩
  | .hbm, ⟨16, _⟩ => ⟨S384x8x192, .f32⟩
  | .hbm, ⟨17, _⟩ => ⟨S384x8x64, .f32⟩
  | .hbm, ⟨18, _⟩ => ⟨S384x8x32, .f32⟩
  | .hbm, ⟨19, _⟩ => ⟨S384x8x32, .f32⟩
  | .hbm, ⟨20, _⟩ => ⟨S384x8x32, .f32⟩
  | .hbm, ⟨21, _⟩ => ⟨S384x8x64, .f32⟩
  | .hbm, ⟨22, _⟩ => ⟨S384x8x256, .f32⟩
  | .hbm, ⟨23, _⟩ => ⟨S384x2048, .f32⟩
  | .hbm, ⟨24, _⟩ => ⟨S64, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S4096, .f32⟩
  | .hbm, ⟨42, _⟩ => ⟨S4096x1, .f32⟩
  | .hbm, ⟨43, _⟩ => ⟨S1x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x128, .f32⟩
  | .hbm, ⟨50, _⟩ => ⟨S32, .f32⟩
  | .hbm, ⟨51, _⟩ => ⟨S32, .f32⟩
  | .hbm, ⟨52, _⟩ => ⟨S128, .f32⟩
  | .hbm, ⟨53, _⟩ => ⟨S1x128, .f32⟩
  | .hbm, ⟨54, _⟩ => ⟨S4096x128, .f32⟩
  | .hbm, ⟨55, _⟩ => ⟨S4096x128, .f32⟩
  | .hbm, ⟨56, _⟩ => ⟨S64, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S4096, .f32⟩
  | .hbm, ⟨74, _⟩ => ⟨S4096x1, .f32⟩
  | .hbm, ⟨75, _⟩ => ⟨S1x32, .f32⟩
  | .hbm, ⟨76, _⟩ => ⟨S4096x32, .f32⟩
  | .hbm, ⟨77, _⟩ => ⟨S4096x32, .f32⟩
  | .hbm, ⟨78, _⟩ => ⟨S4096x32, .f32⟩
  | .hbm, ⟨79, _⟩ => ⟨S4096x32, .f32⟩
  | .hbm, ⟨80, _⟩ => ⟨S4096x32, .f32⟩
  | .hbm, ⟨81, _⟩ => ⟨S4096x128, .f32⟩
  | .hbm, ⟨82, _⟩ => ⟨S32, .f32⟩
  | .hbm, ⟨83, _⟩ => ⟨S32, .f32⟩
  | .hbm, ⟨84, _⟩ => ⟨S128, .f32⟩
  | .hbm, ⟨85, _⟩ => ⟨S1x128, .f32⟩
  | .hbm, ⟨86, _⟩ => ⟨S4096x128, .f32⟩
  | .hbm, ⟨87, _⟩ => ⟨S4096x128, .f32⟩
  | .hbm, ⟨88, _⟩ => ⟨S1x1024, .f32⟩
  | .hbm, ⟨89, _⟩ => ⟨S1024x768, .bf16⟩
  | .hbm, ⟨90, _⟩ => ⟨S1x384, .f32⟩
  | .hbm, ⟨91, _⟩ => ⟨S1x256, .f32⟩
  | .hbm, ⟨92, _⟩ => ⟨S384x2048, .bf16⟩
  | .hbm, ⟨93, _⟩ => ⟨S256x2048, .bf16⟩
  | .hbm, ⟨94, _⟩ => ⟨S128, .f32⟩
  | .hbm, ⟨95, _⟩ => ⟨S1x128, .f32⟩
  | .hbm, ⟨96, _⟩ => ⟨S128, .f32⟩
  | .hbm, ⟨97, _⟩ => ⟨S1x128, .f32⟩
  | .hbm, ⟨98, _⟩ => ⟨S32768x2048, .bf16⟩
  | .hbm, ⟨99, _⟩ => ⟨S32768x2048, .bf16⟩
  | .hbm, ⟨100, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1x384, .f32⟩
  | .local _ .vmem, ⟨5, _⟩ => ⟨S1x256, .f32⟩
  | .local _ .vmem, ⟨6, _⟩ => ⟨S384x2048, .bf16⟩
  | .local _ .vmem, ⟨7, _⟩ => ⟨S256x2048, .bf16⟩
  | .local _ .vmem, ⟨8, _⟩ => ⟨S1x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1024x1024, .bf16⟩
  | .local _ .vmem, ⟨19, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79_0 : Ref sig .tc := ⟨.hbm, 98, rfl⟩
abbrev main_v79_1 : Ref sig .tc := ⟨.hbm, 99, rfl⟩
abbrev main_v79_2 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel5Ideal.lean ====
variable {F : FTy → Type} [FloatOps F] [Named F]
def κ : String → Option EReal := fun
  | "inv_192" => some ((1 / 192 : ℝ) : EReal)
  | "inv_384" => some ((1 / 384 : ℝ) : EReal)
  | "scale" => some (((Real.sqrt 192)⁻¹ * (Real.log 2)⁻¹ : ℝ) : EReal)
  | _ => none
-- ==== Reference5Ideal.lean ====
abbrev S8x4096x1024 : Shape := ⟨3, ![8, 4096, 1024]⟩
abbrev S1024 : Shape := ⟨1, ![1024]⟩
abbrev S1024x704 : Shape := ⟨2, ![1024, 704]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S192 : Shape := ⟨1, ![192]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x704 : Shape := ⟨3, ![8, 4096, 704]⟩
abbrev S8x4096x384 : Shape := ⟨3, ![8, 4096, 384]⟩
abbrev S8x4096x256 : Shape := ⟨3, ![8, 4096, 256]⟩
abbrev S8x4096x64 : Shape := ⟨3, ![8, 4096, 64]⟩
abbrev S1x1x384 : Shape := ⟨3, ![1, 1, 384]⟩
abbrev S8x4096x1536 : Shape := ⟨3, ![8, 4096, 1536]⟩
abbrev S8x4096x8x192 : Shape := ⟨4, ![8, 4096, 8, 192]⟩
abbrev S1x1x256 : Shape := ⟨3, ![1, 1, 256]⟩
abbrev S8x4096x2048 : Shape := ⟨3, ![8, 4096, 2048]⟩
abbrev S8x4096x8x256 : Shape := ⟨4, ![8, 4096, 8, 256]⟩
abbrev S8x4096x8x128 : Shape := ⟨4, ![8, 4096, 8, 128]⟩
abbrev S8x4096x1x64 : Shape := ⟨4, ![8, 4096, 1, 64]⟩
abbrev S8x4096x8x64 : Shape := ⟨4, ![8, 4096, 8, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S8x4096x8 : Shape := ⟨3, ![8, 4096, 8]⟩
abbrev S8x4096x8x1 : Shape := ⟨4, ![8, 4096, 8, 1]⟩
abbrev S1x1x1x192 : Shape := ⟨4, ![1, 1, 1, 192]⟩
abbrev S8x4096x8x32 : Shape := ⟨4, ![8, 4096, 8, 32]⟩
abbrev S1x4096x1x32 : Shape := ⟨4, ![1, 4096, 1, 32]⟩
abbrev S32768x2048 : Shape := ⟨2, ![32768, 2048]⟩
abbrev S32768x1024 : Shape := ⟨2, ![32768, 1024]⟩

abbrev nBuf : Space → Nat
  | .hbm => 184
  | .vmem => 0
  | .smem => 0
  | _ => 0

abbrev hbmTy0_0 (i : Nat) : BufTy := match i % 128 with
  | 0 => ⟨S8x4096x1024, .f32⟩
  | 1 => ⟨S1024, .f32⟩
  | 2 => ⟨S1024x704, .f32⟩
  | 3 => ⟨S384, .f32⟩
  | 4 => ⟨S256, .f32⟩
  | 5 => ⟨S384x1536, .f32⟩
  | 6 => ⟨S256x2048, .f32⟩
  | 7 => ⟨S192, .f32⟩
  | 8 => ⟨S192, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1x1x1024, .f32⟩
  | 23 => ⟨S8x4096x1024, .f32⟩
  | 24 => ⟨S8x4096x1024, .f32⟩
  | 25 => ⟨S8x4096x704, .f32⟩
  | 26 => ⟨S8x4096x384, .f32⟩
  | 27 => ⟨S8x4096x256, .f32⟩
  | 28 => ⟨S8x4096x64, .f32⟩
  | 29 => ⟨S8x4096x384, .f32⟩
  | 30 => ⟨S_, .f32⟩
  | 31 => ⟨S8x4096, .f32⟩
  | 32 => ⟨S8x4096x1, .f32⟩
  | 33 => ⟨S_, .f32⟩
  | 34 => ⟨S8x4096x1, .f32⟩
  | 35 => ⟨S8x4096x1, .f32⟩
  | 36 => ⟨S_, .f32⟩
  | 37 => ⟨S8x4096x1, .f32⟩
  | 38 => ⟨S8x4096x1, .f32⟩
  | 39 => ⟨S8x4096x1, .f32⟩
  | 40 => ⟨S8x4096x384, .f32⟩
  | 41 => ⟨S8x4096x384, .f32⟩
  | 42 => ⟨S1x1x384, .f32⟩
  | 43 => ⟨S8x4096x384, .f32⟩
  | 44 => ⟨S8x4096x384, .f32⟩
  | 45 => ⟨S8x4096x1536, .f32⟩
  | 46 => ⟨S8x4096x8x192, .f32⟩
  | 47 => ⟨S8x4096x256, .f32⟩
  | 48 => ⟨S_, .f32⟩
  | 49 => ⟨S8x4096, .f32⟩
  | 50 => ⟨S8x4096x1, .f32⟩
  | 51 => ⟨S_, .f32⟩
  | 52 => ⟨S8x4096x1, .f32⟩
  | 53 => ⟨S8x4096x1, .f32⟩
  | 54 => ⟨S_, .f32⟩
  | 55 => ⟨S8x4096x1, .f32⟩
  | 56 => ⟨S8x4096x1, .f32⟩
  | 57 => ⟨S8x4096x1, .f32⟩
  | 58 => ⟨S8x4096x256, .f32⟩
  | 59 => ⟨S8x4096x256, .f32⟩
  | 60 => ⟨S1x1x256, .f32⟩
  | 61 => ⟨S8x4096x256, .f32⟩
  | 62 => ⟨S8x4096x256, .f32⟩
  | 63 => ⟨S8x4096x2048, .f32⟩
  | 64 => ⟨S8x4096x8x256, .f32⟩
  | 65 => ⟨S8x4096x8x128, .f32⟩
  | 66 => ⟨S8x4096x8x128, .f32⟩
  | 67 => ⟨S8x4096x1x64, .f32⟩
  | 68 => ⟨S8x4096x8x64, .f32⟩
  | 69 => ⟨S8x4096x8x192, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S4096, .f32⟩
  | 87 => ⟨S4096x1, .f32⟩
  | 88 => ⟨S1x32, .f32⟩
  | 89 => ⟨S4096x32, .f32⟩
  | 90 => ⟨S4096x32, .f32⟩
  | 91 => ⟨S4096x32, .f32⟩
  | 92 => ⟨S4096x32, .f32⟩
  | 93 => ⟨S4096x1x32, .f32⟩
  | 94 => ⟨S4096x32, .f32⟩
  | 95 => ⟨S4096x1x32, .f32⟩
  | 96 => ⟨S8x4096x8x192, .f32⟩
  | 97 => ⟨S_, .f32⟩
  | 98 => ⟨S8x4096x8, .f32⟩
  | 99 => ⟨S8x4096x8x1, .f32⟩
  | 100 => ⟨S_, .f32⟩
  | 101 => ⟨S8x4096x8x1, .f32⟩
  | 102 => ⟨S8x4096x8x1, .f32⟩
  | 103 => ⟨S_, .f32⟩
  | 104 => ⟨S8x4096x8x1, .f32⟩
  | 105 => ⟨S8x4096x8x1, .f32⟩
  | 106 => ⟨S8x4096x8x1, .f32⟩
  | 107 => ⟨S8x4096x8x192, .f32⟩
  | 108 => ⟨S8x4096x8x192, .f32⟩
  | 109 => ⟨S1x1x1x192, .f32⟩
  | 110 => ⟨S8x4096x8x192, .f32⟩
  | 111 => ⟨S8x4096x8x192, .f32⟩
  | 112 => ⟨S8x4096x8x128, .f32⟩
  | 113 => ⟨S8x4096x8x64, .f32⟩
  | 114 => ⟨S8x4096x8x192, .f32⟩
  | 115 => ⟨S_, .f32⟩
  | 116 => ⟨S8x4096x8, .f32⟩
  | 117 => ⟨S8x4096x8x1, .f32⟩
  | 118 => ⟨S_, .f32⟩
  | 119 => ⟨S8x4096x8x1, .f32⟩
  | 120 => ⟨S8x4096x8x1, .f32⟩
  | 121 => ⟨S_, .f32⟩
  | 122 => ⟨S8x4096x8x1, .f32⟩
  | 123 => ⟨S8x4096x8x1, .f32⟩
  | 124 => ⟨S8x4096x8x1, .f32⟩
  | 125 => ⟨S8x4096x8x192, .f32⟩
  | 126 => ⟨S8x4096x8x192, .f32⟩
  | 127 => ⟨S1x1x1x192, .f32⟩
  | _ => ⟨S8x4096x1024, .f32⟩

abbrev hbmTy0_1 (i : Nat) : BufTy := match i % 128 with
  | 0 => ⟨S8x4096x8x192, .f32⟩
  | 1 => ⟨S8x4096x8x192, .f32⟩
  | 2 => ⟨S8x4096x8x128, .f32⟩
  | 3 => ⟨S8x4096x8x64, .f32⟩
  | 4 => ⟨S8x4096x8x32, .f32⟩
  | 5 => ⟨S8x4096x8x32, .f32⟩
  | 6 => ⟨S1x4096x1x32, .f32⟩
  | 7 => ⟨S8x4096x8x32, .f32⟩
  | 8 => ⟨S8x4096x8x32, .f32⟩
  | 9 => ⟨S1x4096x1x32, .f32⟩
  | 10 => ⟨S8x4096x8x32, .f32⟩
  | 11 => ⟨S8x4096x8x32, .f32⟩
  | 12 => ⟨S8x4096x8x32, .f32⟩
  | 13 => ⟨S1x4096x1x32, .f32⟩
  | 14 => ⟨S8x4096x8x32, .f32⟩
  | 15 => ⟨S8x4096x8x32, .f32⟩
  | 16 => ⟨S1x4096x1x32, .f32⟩
  | 17 => ⟨S8x4096x8x32, .f32⟩
  | 18 => ⟨S8x4096x8x32, .f32⟩
  | 19 => ⟨S8x4096x8x32, .f32⟩
  | 20 => ⟨S8x4096x8x64, .f32⟩
  | 21 => ⟨S8x4096x8x32, .f32⟩
  | 22 => ⟨S8x4096x8x32, .f32⟩
  | 23 => ⟨S1x4096x1x32, .f32⟩
  | 24 => ⟨S8x4096x8x32, .f32⟩
  | 25 => ⟨S8x4096x8x32, .f32⟩
  | 26 => ⟨S1x4096x1x32, .f32⟩
  | 27 => ⟨S8x4096x8x32, .f32⟩
  | 28 => ⟨S8x4096x8x32, .f32⟩
  | 29 => ⟨S8x4096x8x32, .f32⟩
  | 30 => ⟨S1x4096x1x32, .f32⟩
  | 31 => ⟨S8x4096x8x32, .f32⟩
  | 32 => ⟨S8x4096x8x32, .f32⟩
  | 33 => ⟨S1x4096x1x32, .f32⟩
  | 34 => ⟨S8x4096x8x32, .f32⟩
  | 35 => ⟨S8x4096x8x32, .f32⟩
  | 36 => ⟨S8x4096x8x32, .f32⟩
  | 37 => ⟨S8x4096x8x64, .f32⟩
  | 38 => ⟨S8x4096x8x256, .f32⟩
  | 39 => ⟨S_, .f32⟩
  | 40 => ⟨S_, .f32⟩
  | 41 => ⟨S8x4096x8x256, .f32⟩
  | 42 => ⟨S8x4096x8x256, .f32⟩
  | 43 => ⟨S_, .f32⟩
  | 44 => ⟨S_, .f32⟩
  | 45 => ⟨S8x4096x8x256, .f32⟩
  | 46 => ⟨S8x4096x8x256, .f32⟩
  | 47 => ⟨S_, .f32⟩
  | 48 => ⟨S8x4096x8x64, .f32⟩
  | 49 => ⟨S8x4096x8x256, .f32⟩
  | 50 => ⟨S32768x2048, .f32⟩
  | 51 => ⟨S32768x2048, .bf16⟩
  | 52 => ⟨S32768x2048, .f32⟩
  | 53 => ⟨S32768x2048, .bf16⟩
  | 54 => ⟨S32768x1024, .f32⟩
  | 55 => ⟨S32768x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_v75 : Ref sig .tc := ⟨.hbm, 99, rfl⟩
abbrev main_cst_14 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_16 : Ref sig .tc := ⟨.hbm, 115, rfl⟩
abbrev main_v89 : Ref sig .tc := ⟨.hbm, 116, rfl⟩
abbrev main_v90 : Ref sig .tc := ⟨.hbm, 117, rfl⟩
abbrev main_cst_17 : Ref sig .tc := ⟨.hbm, 118, rfl⟩
abbrev main_v91 : Ref sig .tc := ⟨.hbm, 119, rfl⟩
abbrev main_v92 : Ref sig .tc := ⟨.hbm, 120, rfl⟩
abbrev main_cst_18 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_19 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_20 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_cst_21 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩

abbrev nD : Nat := 1
abbrev τ : Topo := Topo.v7x

variable {F : FTy → Type} [FloatOps F]
-- ==== Proof.Attn.Online.lean ====
/- The row-level mathematics of the attention kernel: the running maximum and the running weighted sum of a row of
   scores, how a block of keys advances them, and why their quotient is the softmax-weighted mean. -/
module

public import Idealize.ShloMosaic.PureOps
public import Idealize.ShloMosaic.Lib.Pointwise

@[expose] public section

noncomputable section

namespace Cert.Attn

open Idealize.ShloMosaic Finset

/-- The weight `2^(s - m)` of a score `s` against a maximum `m`. -/
def wgt (s m : EReal) : EReal := Ideal.exp2 (s - m)

/-- The maximum of the first `n` scores. -/
def rowMax (s : ℕ → EReal) (n : ℕ) : EReal := (range n).sup s

/-- The sum of the first `n` values, each weighted against the maximum of the first `n` scores. -/
def rowAcc (s v : ℕ → EReal) (n : ℕ) : EReal := ∑ j ∈ range n, wgt (s j) (rowMax s n) * v j

/-- A power of two is not negative. -/
theorem exp2_nonneg (x : EReal) : 0 ≤ Ideal.exp2 x := by
  induction x with
  | bot => simp
  | top => simp
  | coe r => rw [Ideal.exp2_coe]; exact_mod_cast (Real.rpow_pos_of_pos (by norm_num) r).le

/-- A weight is not negative. -/
theorem wgt_nonneg (s m : EReal) : 0 ≤ wgt s m := exp2_nonneg _

/-- A score of `-∞` has weight zero. -/
@[simp] theorem wgt_bot (m : EReal) : wgt ⊥ m = 0 := by simp [wgt]

/-- Against `+∞` every weight is zero. -/
@[simp] theorem wgt_top (s : EReal) : wgt s ⊤ = 0 := by
  simp [wgt, sub_eq_add_neg]

/-- The weight of one real against another. -/
theorem wgt_coe (a b : ℝ) : wgt a b = ((2 : ℝ) ^ (a - b) : ℝ) := by
  rw [wgt, ← EReal.coe_sub, Ideal.exp2_coe]; rfl

/-- A score at most the maximum has a finite weight. -/
theorem wgt_ne_top {s m : EReal} (h : s ≤ m) : wgt s m ≠ ⊤ := by
  induction m with
  | top => simp
  | bot => rw [le_bot_iff.mp h]; simp
  | coe b =>
    induction s with
    | top => simp at h
    | bot => simp
    | coe a => rw [wgt_coe]; exact EReal.coe_ne_top _

/-- Weights compose along growing maxima. -/
theorem wgt_mul {s m m' : EReal} (h : s ≤ m) (h' : m ≤ m') : wgt m m' * wgt s m = wgt s m' := by
  induction m' with
  | top => simp
  | bot =>
    obtain rfl := le_bot_iff.mp h'
    rw [le_bot_iff.mp h]; simp
  | coe c =>
    induction m with
    | top => simp at h'
    | bot => rw [le_bot_iff.mp h]; simp
    | coe b =>
      induction s with
      | top => simp at h
      | bot => simp
      | coe a =>
        rw [wgt_coe, wgt_coe, wgt_coe, ← EReal.coe_mul, ← Real.rpow_add (by norm_num)]
        congr 2; ring

/-- A nonnegative finite factor goes under a finite sum. -/
theorem mul_sum_of_nonneg {ι : Type*} (t : Finset ι) (c : EReal) (f : ι → EReal) (h0 : 0 ≤ c) (h1 : c ≠ ⊤) :
    c * ∑ j ∈ t, f j = ∑ j ∈ t, c * f j := by
  classical
  induction t using Finset.induction_on with
  | empty => simp
  | insert a t ha ih =>
    rw [sum_insert ha, sum_insert ha, EReal.left_distrib_of_nonneg_of_ne_top h0 h1, ih]

/-- A score among the first `n` is at most their maximum. -/
theorem le_rowMax (s : ℕ → EReal) {n j : ℕ} (h : j < n) : s j ≤ rowMax s n :=
  Finset.le_sup (f := s) (mem_range.mpr h)

/-- The maximum of the first `n + k` scores, from the first `n` and the next `k`. -/
theorem rowMax_add (s : ℕ → EReal) (n k : ℕ) :
    rowMax s (n + k) = max (rowMax s n) (rowMax (fun j => s (n + j)) k) := by
  induction k with
  | zero => simp [rowMax]
  | succ k ih =>
    have e : ∀ (f : ℕ → EReal) (a : ℕ), rowMax f (a + 1) = max (f a) (rowMax f a) := fun f a => by
      simp [rowMax, Finset.range_add_one]
    rw [← Nat.add_assoc, e, ih, e, max_left_comm]

/-- The maximum grows with the number of scores. -/
theorem rowMax_mono (s : ℕ → EReal) (n k : ℕ) : rowMax s n ≤ rowMax s (n + k) := by
  rw [rowMax_add]; exact le_max_left _ _

/-- A block of `k` keys advances the weighted sum: the old sum is rescaled to the new maximum, the block's part added. -/
theorem rowAcc_add (s v : ℕ → EReal) (n k : ℕ) :
    rowAcc s v (n + k) = wgt (rowMax s n) (rowMax s (n + k)) * rowAcc s v n
      + ∑ j ∈ range k, wgt (s (n + j)) (rowMax s (n + k)) * v (n + j) := by
  unfold rowAcc
  rw [sum_range_add, mul_sum_of_nonneg _ _ _ (wgt_nonneg _ _) (wgt_ne_top (rowMax_mono s n k))]
  congr 1
  refine sum_congr rfl fun j hj => ?_
  rw [← mul_assoc, wgt_mul (le_rowMax s (mem_range.mp hj)) (rowMax_mono s n k)]

/-- Scores of `-∞` after the first `n` leave the maximum as it is. -/
theorem rowMax_of_bot (s : ℕ → EReal) {n N : ℕ} (hn : n ≤ N) (h : ∀ j, n ≤ j → s j = ⊥) : rowMax s N = rowMax s n := by
  obtain ⟨k, rfl⟩ := Nat.exists_eq_add_of_le hn
  rw [rowMax_add, max_eq_left]
  refine Finset.sup_le fun j _ => ?_
  rw [h (n + j) (by omega)]; exact bot_le

/-- Scores of `-∞` after the first `n` leave the weighted sum as it is. -/
theorem rowAcc_of_bot (s v : ℕ → EReal) {n N : ℕ} (hn : n ≤ N) (h : ∀ j, n ≤ j → s j = ⊥) :
    rowAcc s v N = rowAcc s v n := by
  unfold rowAcc
  rw [rowMax_of_bot s hn h]
  symm
  refine sum_subset (range_subset_range.mpr hn) fun j _ hj => ?_
  rw [h j (by simpa using hj), wgt_bot, zero_mul]

/-- The maximum reads the first `n` scores only. -/
theorem rowMax_congr {s s' : ℕ → EReal} {n : ℕ} (h : ∀ j < n, s j = s' j) : rowMax s n = rowMax s' n :=
  Finset.sup_congr rfl fun j hj => h j (mem_range.mp hj)

/-- A maximum over `Fin n` is the maximum of the first `n`. -/
theorem sup_fin (s : ℕ → EReal) (n : ℕ) : (Finset.univ.sup fun j : Fin n => s j) = rowMax s n := by
  refine le_antisymm (Finset.sup_le fun j _ => le_rowMax s j.isLt) (Finset.sup_le fun j hj => ?_)
  exact Finset.le_sup (f := fun j : Fin n => s j) (mem_univ (⟨j, mem_range.mp hj⟩ : Fin n))

/-- A maximum folded from `-∞` over `Fin n`. -/
theorem fold_fin (s : ℕ → EReal) (n : ℕ) : (Finset.univ.fold max ⊥ fun j : Fin n => s j) = rowMax s n := by
  rw [← sup_fin]; rfl

/-- The factor between the two exponentials: the logarithm of the number two. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]

/-- The pattern of the infinity a maximum starts from. -/
theorem ofBits_neg_inf : Ideal.ofBits .f32 0xFF800000#32 = ⊥ := by
  simp [Ideal.ofBits, Ideal.ieee]

/-- The pattern of the number one in the short format. -/
theorem ofBits_one_bf16 : Ideal.ofBits .bf16 0x3F80#16 = 1 := by
  simp [Ideal.ofBits, Ideal.ieee, -EReal.coe_mul]; norm_num

/-- A finite sum of reals. -/
theorem coe_sum {ι : Type*} (t : Finset ι) (f : ι → ℝ) : ((∑ j ∈ t, f j : ℝ) : EReal) = ∑ j ∈ t, (f j : EReal) := by
  classical
  induction t using Finset.induction_on with
  | empty => simp
  | insert a t ha ih => rw [sum_insert ha, sum_insert ha, EReal.coe_add, ih]

/-- `e` to a multiple of `log 2` is a power of two. -/
theorem exp_mul_log_two (a b : ℝ) :
    Ideal.exp ((a : EReal) * (Real.log 2 : ℝ) - (b : EReal) * (Real.log 2 : ℝ)) = wgt a b := by
  rw [wgt_coe, ← EReal.coe_mul, ← EReal.coe_mul, ← EReal.coe_sub, Ideal.exp_coe, Real.rpow_def_of_pos (by norm_num)]
  congr 2; ring

/-- Scaling by `log 2` commutes with the maximum. -/
theorem rowMax_mul_log_two (s : ℕ → EReal) (n : ℕ) :
    rowMax (fun j => s j * (Real.log 2 : ℝ)) n = rowMax s n * (Real.log 2 : ℝ) := by
  have hL : (0 : ℝ) < Real.log 2 := Real.log_pos (by norm_num)
  have hm : Monotone fun x : EReal => x * (Real.log 2 : ℝ) := fun x y h =>
    mul_le_mul_of_nonneg_right h (by exact_mod_cast hL.le)
  unfold rowMax
  rw [Finset.comp_sup_eq_sup_comp_of_is_total (fun x : EReal => x * (Real.log 2 : ℝ)) hm
    (EReal.bot_mul_of_pos (by exact_mod_cast hL))]
  rfl

/-- The softmax of a row, weighted sum taken after the division, is the quotient of the two running sums: the scores are
    none of them `+∞` and not all `-∞`. -/
theorem softmax_row (s v : ℕ → EReal) (n : ℕ) (ht : ∀ j < n, s j ≠ ⊤) (hb : ∃ j < n, s j ≠ ⊥) :
    ∑ j ∈ range n, Ideal.div (Ideal.exp (s j * (Real.log 2 : ℝ) - rowMax (fun j => s j * (Real.log 2 : ℝ)) n))
        (∑ i ∈ range n, Ideal.exp (s i * (Real.log 2 : ℝ) - rowMax (fun j => s j * (Real.log 2 : ℝ)) n)) * v j
      = Ideal.div (rowAcc s v n) (rowAcc s (fun _ => 1) n) := by
  have hL : (0 : ℝ) < Real.log 2 := Real.log_pos (by norm_num)
  obtain ⟨j₀, hj₀, hj₀b⟩ := hb
  have hmb : rowMax s n ≠ ⊥ := fun h => hj₀b (le_bot_iff.mp (h ▸ le_rowMax s hj₀))
  have hmt : rowMax s n ≠ ⊤ := by
    refine ne_of_lt ((Finset.sup_lt_iff bot_lt_top).mpr fun j hj => lt_top_iff_ne_top.mpr (ht j (mem_range.mp hj)))
  obtain ⟨M, hM⟩ : ∃ M : ℝ, rowMax s n = M := ⟨_, (EReal.coe_toReal hmt hmb).symm⟩
  have he : ∀ j < n, Ideal.exp (s j * (Real.log 2 : ℝ) - rowMax (fun j => s j * (Real.log 2 : ℝ)) n) = wgt (s j) M := by
    intro j hj
    rw [rowMax_mul_log_two, hM]
    rcases eq_or_ne (s j) ⊥ with h | h
    · rw [h, EReal.bot_mul_of_pos (by exact_mod_cast hL), ← EReal.coe_mul]; simp
    · lift s j to ℝ using ⟨ht j hj, h⟩ with r
      exact exp_mul_log_two r M
  have hw : ∀ j < n, ∃ r : ℝ, 0 ≤ r ∧ wgt (s j) M = r := by
    intro j hj
    have h1 := wgt_ne_top (hM ▸ le_rowMax s hj)
    have h0 := wgt_nonneg (s j) M
    refine ⟨(wgt (s j) M).toReal, EReal.toReal_nonneg h0, (EReal.coe_toReal h1 ?_).symm⟩
    exact fun h => by simp [h] at h0
  have hsum : ∑ i ∈ range n, Ideal.exp (s i * (Real.log 2 : ℝ) - rowMax (fun j => s j * (Real.log 2 : ℝ)) n)
      = rowAcc s (fun _ => 1) n := by
    unfold rowAcc
    refine sum_congr rfl fun j hj => ?_
    rw [he j (mem_range.mp hj), hM, mul_one]
  obtain ⟨D, hD0, hD⟩ : ∃ D : ℝ, 0 < D ∧ rowAcc s (fun _ => 1) n = D := by
    have h1 : rowAcc s (fun _ => 1) n = ((∑ j ∈ range n, (wgt (s j) M).toReal : ℝ) : EReal) := by
      unfold rowAcc
      rw [coe_sum]
      refine sum_congr rfl fun j hj => ?_
      obtain ⟨r, _, hr⟩ := hw j (mem_range.mp hj)
      rw [hM, mul_one, hr, EReal.toReal_coe]
    refine ⟨_, ?_, h1⟩
    refine sum_pos' (fun j hj => EReal.toReal_nonneg (wgt_nonneg _ _)) ⟨j₀, mem_range.mpr hj₀, ?_⟩
    have h2 := ht j₀ hj₀
    lift s j₀ to ℝ using ⟨h2, hj₀b⟩ with r
    rw [wgt_coe, EReal.toReal_coe]
    exact Real.rpow_pos_of_pos (by norm_num) _
  rw [hsum, hD, Ideal.div_coe hD0.ne', mul_comm]
  have hA : rowAcc s v n = ∑ j ∈ range n, wgt (s j) M * v j := by unfold rowAcc; rw [hM]
  rw [hA, mul_sum_of_nonneg _ _ _ (by exact_mod_cast (one_div_pos.mpr hD0).le) (EReal.coe_ne_top _)]
  refine sum_congr rfl fun j hj => ?_
  rw [he j (mem_range.mp hj), Ideal.div_coe hD0.ne', mul_comm (wgt _ _), mul_assoc]

end Cert.Attn

end
-- ==== Proof.Attn.Steps.lean ====
/- What one unit of the attention kernel (a block of queries against a block of keys) computes, read at an index:
   the maximum over the block, the weighted sum over the block, and the mask of the diagonal blocks. -/
module

public import proofs.«01_k».proof.Proof.Gen.KernelIdeal.Skeleton
public import proofs.«01_k».proof.Proof.Gen.KernelIdeal
public import proofs.«01_k».proof.Proof.Attn.Online
public import Idealize.ShloMosaic.Lib.Pointwise

@[expose] public section

set_option maxRecDepth 16384

noncomputable section

namespace Cert.Attn

open Idealize.ShloMosaic Idealize.ShloMosaic.TcCoe Idealize.SL.Sem Finset
open Cert.KernelIdeal Cert.KernelIdeal.Gen

/-! ## The chunk of a position -/

/-- The kernel's floor division by 64, on a vector of words. -/
def fdiv {S : Shape} (x : IVec S 32) : IVec S 32 :=
  select
    (andi
      (cmpi .ne
        (subi (extui 32 (cmpi .sgt x (broadcast S 0#32)) natLt_1_32) (extui 32 (cmpi .slt x (broadcast S 0#32)) natLt_1_32))
        (broadcast S (Scalar.subi (Scalar.extui (Scalar.cmpi .sgt 64#32 0#32)) (Scalar.extui (Scalar.cmpi .slt 64#32 0#32)))))
      (cmpi .ne (remsi x (broadcast S 64#32)) (broadcast S 0#32)))
    (subi (divsi x (broadcast S 64#32)) (broadcast S 1#32))
    (divsi x (broadcast S 64#32))

/-- The same floor division on one word. -/
def fdivWord (x : BitVec 32) : BitVec 32 :=
  fdiv (S := ⟨0, ![]⟩) (fun _ => x) (fun a => a.elim0)

/-- The floor division of a vector is that of its entries. -/
theorem fdiv_apply {S : Shape} (x : IVec S 32) (i : S.Idx) : fdiv x i = fdivWord (x i) := rfl

/-- On the positions of the sequence the floor division is the chunk number. -/
theorem fdivWord_ofNat : ∀ n : Fin 4096, fdivWord (BitVec.ofNat 32 n) = BitVec.ofNat 32 (n / 64) := by
  decide +kernel

/-- Chunk numbers compare as numbers. -/
theorem sle_chunk : ∀ a b : Fin 64,
    (Scalar.cmpi .sle (BitVec.ofNat 32 a) (BitVec.ofNat 32 b) = 1#1) ↔ a ≤ b := by
  decide +kernel

/-- The masked scores of a diagonal block: queries from `q0`, keys from `k0`. -/
def masked {S : Shape} (qi ki : IVec S 32) (q0 k0 : BitVec 32) (s : FVec Ideal S .f32) : FVec Ideal S .f32 :=
  select (cmpi .sle (fdiv (addi (broadcast S k0) ki)) (fdiv (addi (broadcast S q0) qi))) s
    (broadcast S (Named.named (F := Ideal) κ "mask" (φ := .f32) 0xF149F2CA#32))

/-- A masked score is the score where the key's chunk is at most the query's, `-∞` elsewhere. -/
theorem masked_apply {S : Shape} (qi ki : IVec S 32) (q0 k0 : ℕ) (s : FVec Ideal S .f32) (x : S.Idx) (i j : ℕ)
    (hi : qi x = BitVec.ofNat 32 i) (hj : ki x = BitVec.ofNat 32 j) (hqi : q0 + i < 4096) (hkj : k0 + j < 4096) :
    masked qi ki (BitVec.ofNat 32 q0) (BitVec.ofNat 32 k0) s x = if (k0 + j) / 64 ≤ (q0 + i) / 64 then s x else ⊥ := by
  have e : masked qi ki (BitVec.ofNat 32 q0) (BitVec.ofNat 32 k0) s x
      = Scalar.select (Scalar.cmpi .sle (fdivWord (BitVec.ofNat 32 k0 + ki x)) (fdivWord (BitVec.ofNat 32 q0 + qi x)))
          (s x) ⊥ := rfl
  rw [e, hi, hj, ← BitVec.ofNat_add, ← BitVec.ofNat_add, fdivWord_ofNat ⟨k0 + j, hkj⟩, fdivWord_ofNat ⟨q0 + i, hqi⟩]
  have h := sle_chunk ⟨(k0 + j) / 64, by omega⟩ ⟨(q0 + i) / 64, by omega⟩
  rw [Fin.mk_le_mk] at h
  show (if Scalar.cmpi .sle (BitVec.ofNat 32 ((k0 + j) / 64)) (BitVec.ofNat 32 ((q0 + i) / 64)) = 1#1 then s x else ⊥) = _
  by_cases hc : (k0 + j) / 64 ≤ (q0 + i) / 64
  · rw [if_pos hc, if_pos (h.mpr hc)]
  · rw [if_neg hc, if_neg (fun h' => hc (h.mp h'))]

/-! ## The state of a row of blocks -/

/-- A block of scores: queries from `q0`, keys from `k0`. -/
def IsS (T : ℕ → ℕ → EReal) {nq nk : ℕ} (q0 k0 : ℕ) (s : FVec Ideal ⟨2, ![nq, nk]⟩ .f32) : Prop :=
  ∀ (i : Fin nq) (j : Fin nk), s (ix2 i j) = T (q0 + i) (k0 + j)

/-- A block of value columns: keys from `k0`; the columns after the first 128 are not read here. -/
def IsV (V : ℕ → ℕ → EReal) {nk : ℕ} (k0 : ℕ) (v : FVec Ideal ⟨2, ![nk, 128]⟩ .bf16) : Prop :=
  ∀ (j : Fin nk) (c : Fin 128), v (ix2 j c) = V c (k0 + j)

/-- The running state after the first `n` keys: every lane of a row holds the row's maximum, the columns hold the weighted
    sums. -/
structure St (T V : ℕ → ℕ → EReal) {nq : ℕ} (q0 n : ℕ) (m : FVec Ideal ⟨2, ![nq, 128]⟩ .f32)
    (a : FVec Ideal ⟨2, ![nq, 256]⟩ .f32) : Prop where
  max : ∀ (i : Fin nq) (l : Fin 128), m (ix2 i l) = rowMax (T (q0 + i)) n
  acc : ∀ (i : Fin nq) (c : Fin 256), a (ix2 i c) = rowAcc (T (q0 + i)) (V c) n

/-! ### One unit of the walk, at any extents -/

/-- The columns of a block of values and ones. -/
theorem ones_col {V : ℕ → ℕ → EReal} (hV : ∀ c, 128 ≤ c → V c = fun _ => 1) {nk k0 : ℕ}
    {v : FVec Ideal ⟨2, ![nk, 128]⟩ .bf16} (hv : IsV V k0 v) {w : FVec Ideal ⟨2, ![nk, 256]⟩ .bf16}
    (hw : ∀ (j : Fin nk) (c : Fin 256), w (ix2 j c) = if h : (c : ℕ) < 128 then v (ix2 j ⟨c, h⟩) else 1)
    (j : Fin nk) (c : Fin 256) : w (ix2 j c) = V c (k0 + j) := by
  rw [hw]
  split_ifs with h
  · exact hv j ⟨c, h⟩
  · rw [hV c (by omega)]

/-- The first block: the maximum and the weighted sum of its own keys. -/
theorem St.first {T V : ℕ → ℕ → EReal} {nq nk q0 : ℕ} {s : FVec Ideal ⟨2, ![nq, nk]⟩ .f32}
    {m : FVec Ideal ⟨2, ![nq, 128]⟩ .f32} {a : FVec Ideal ⟨2, ![nq, 256]⟩ .f32} (w : FVec Ideal ⟨2, ![nk, 256]⟩ .bf16)
    (hs : IsS T q0 0 s) (hw : ∀ (j : Fin nk) (c : Fin 256), w (ix2 j c) = V c (0 + j))
    (hm : ∀ (i : Fin nq) (l : Fin 128), m (ix2 i l) = Finset.univ.fold Max.max ⊥ fun k : Fin nk => s (ix2 i k))
    (ha : ∀ (i : Fin nq) (c : Fin 256) (x : EReal), (∀ l, m (ix2 i l) = x) →
      a (ix2 i c) = ∑ k : Fin nk, wgt (s (ix2 i k)) x * w (ix2 k c)) : St T V q0 nk m a := by
  have hM : ∀ (i : Fin nq) (l : Fin 128), m (ix2 i l) = rowMax (T (q0 + i)) nk := fun i l => by
    rw [hm, ← fold_fin]
    congr 1
    funext k
    rw [hs i k, Nat.zero_add]
  refine ⟨hM, fun i c => ?_⟩
  rw [ha i c _ (hM i), rowAcc, ← Fin.sum_univ_eq_sum_range (fun j => wgt (T (q0 + i) j) _ * V c j)]
  refine Finset.sum_congr rfl fun k _ => ?_
  rw [hs i k, hw k c, Nat.zero_add]

/-- A later block: the running state advances by its keys. -/
theorem St.next {T V : ℕ → ℕ → EReal} {nq nk q0 n : ℕ} {s : FVec Ideal ⟨2, ![nq, nk]⟩ .f32}
    {m t : FVec Ideal ⟨2, ![nq, 128]⟩ .f32} {a p : FVec Ideal ⟨2, ![nq, 256]⟩ .f32} {r : FVec Ideal ⟨2, ![nq, 256]⟩ .f32}
    (h : St T V q0 n m a) (w : FVec Ideal ⟨2, ![nk, 256]⟩ .bf16)
    (hs : IsS T q0 n s) (hw : ∀ (j : Fin nk) (c : Fin 256), w (ix2 j c) = V c (n + j))
    (ht : ∀ (i : Fin nq) (l : Fin 128), t (ix2 i l) = Finset.univ.fold Max.max ⊥ fun k : Fin nk => s (ix2 i k))
    (hp : ∀ (i : Fin nq) (c : Fin 256) (x : EReal), (∀ l, (maximumf m t) (ix2 i l) = x) →
      p (ix2 i c) = ∑ k : Fin nk, wgt (s (ix2 i k)) x * w (ix2 k c))
    (hr : ∀ (i : Fin nq) (x : EReal), (∀ l, (exp2 (subf m (maximumf m t))) (ix2 i l) = x) → ∀ c, r (ix2 i c) = x) :
    St T V q0 (n + nk) (maximumf m t) (addf (mulf r a) p) := by
  have hM : ∀ (i : Fin nq) (l : Fin 128), (maximumf m t) (ix2 i l) = rowMax (T (q0 + i)) (n + nk) := fun i l => by
    show Max.max (m (ix2 i l) : EReal) (t (ix2 i l)) = _
    rw [h.max, ht, rowMax_add]
    refine congrArg (Max.max _) ?_
    rw [← fold_fin]
    congr 1
    funext k
    rw [hs i k]
  refine ⟨hM, fun i c => ?_⟩
  have hR : r (ix2 i c) = wgt (rowMax (T (q0 + i)) n) (rowMax (T (q0 + i)) (n + nk)) := hr i _ (fun l => by
    show Ideal.exp2 (m (ix2 i l) - (maximumf m t) (ix2 i l)) = _
    rw [h.max, hM]; rfl) c
  show (r (ix2 i c) : EReal) * a (ix2 i c) + p (ix2 i c) = _
  rw [hR, h.acc, hp i c _ (hM i), rowAcc_add]
  congr 1
  rw [← Fin.sum_univ_eq_sum_range (fun j => wgt (T (q0 + i) (n + j)) _ * V c (n + j))]
  refine Finset.sum_congr rfl fun k _ => ?_
  rw [hs i k, hw k c]

/-- The values of a block of 512 keys beside a block of ones. -/
def ones512 (v : FVec Ideal S512x128 .bf16) : FVec Ideal S512x256 .bf16 :=
  concatenate S512x256 1 [⟨S512x128, v⟩, ⟨S512x128, broadcast S512x128 (Scalar.ofBits .bf16 0x3F80#16)⟩]
    concatenates_S512x128_S512x128_S512x256_d1

/-- Its columns: the values, then ones. -/
theorem ones512_apply (v : FVec Ideal S512x128 .bf16) (j : Fin 512) (c : Fin 256) :
    ones512 v (ix2 j c) = if h : (c : ℕ) < 128 then v (ix2 j ⟨c, h⟩) else 1 := by
  pointwise [ones512]

/-- The values of a block of 256 keys beside a block of ones. -/
def ones256 (v : FVec Ideal S256x128 .bf16) : FVec Ideal S256x256 .bf16 :=
  concatenate S256x256 1 [⟨S256x128, v⟩, ⟨S256x128, broadcast S256x128 (Scalar.ofBits .bf16 0x3F80#16)⟩]
    concatenates_S256x128_S256x128_S256x256_d1

/-- Its columns: the values, then ones. -/
theorem ones256_apply (v : FVec Ideal S256x128 .bf16) (j : Fin 256) (c : Fin 256) :
    ones256 v (ix2 j c) = if h : (c : ℕ) < 128 then v (ix2 j ⟨c, h⟩) else 1 := by
  pointwise [ones256]

/-- A state's lanes twice, as wide as the weighted sums. -/
def two512 (m : FVec Ideal S512x128 .f32) : FVec Ideal S512x256 .f32 :=
  concatenate S512x256 1 [⟨S512x128, m⟩, ⟨S512x128, m⟩] concatenates_S512x128_S512x128_S512x256_d1

/-- Where the lanes of a row agree, it holds their common value. -/
theorem two512_apply (m : FVec Ideal S512x128 .f32) (i : Fin 512) (x : EReal) (h : ∀ l, m (ix2 i l) = x) (k : Fin 256) :
    two512 m (ix2 i k) = x := by
  pointwise [two512]
  split_ifs <;> exact h _

/-- A state's lanes twice, as wide as the weighted sums. -/
def two256 (m : FVec Ideal S256x128 .f32) : FVec Ideal S256x256 .f32 :=
  concatenate S256x256 1 [⟨S256x128, m⟩, ⟨S256x128, m⟩] concatenates_S256x128_S256x128_S256x256_d1

/-- Where the lanes of a row agree, it holds their common value. -/
theorem two256_apply (m : FVec Ideal S256x128 .f32) (i : Fin 256) (x : EReal) (h : ∀ l, m (ix2 i l) = x) (k : Fin 256) :
    two256 m (ix2 i k) = x := by
  pointwise [two256]
  split_ifs <;> exact h _

/-! ### 512 queries against 512 keys -/

/-- The maximum of each row of a block, on every lane. -/
def top512 (s : FVec Ideal S512x512 .f32) : FVec Ideal S512x128 .f32 :=
  broadcastTo S512x128 (shapeCast S512x1 (shapeCast S512x1
    (multiReduction .maximumf [1] S512 s 0xFF800000#32 reduces_S512x512_S512 (.inl rfl) rfl) shapeCasts_S512_S512x1)
    shapeCasts_S512x1_S512x1) broadcasts_S512x1_S512x128

/-- A lane of it is the row's maximum. -/
theorem top512_apply (s : FVec Ideal S512x512 .f32) (i : Fin 512) (l : Fin 128) :
    top512 s (ix2 i l) = Finset.univ.fold Max.max ⊥ fun k : Fin 512 => s (ix2 i k) := by
  pointwise [top512]
  rw [ofBits_neg_inf]

/-- The lanes of a state side by side, as wide as the block. -/
def tile512 (m : FVec Ideal S512x128 .f32) : FVec Ideal S512x512 .f32 :=
  concatenate S512x512 1 [⟨S512x128, m⟩, ⟨S512x128, m⟩, ⟨S512x128, m⟩, ⟨S512x128, m⟩]
    concatenates_S512x128_S512x128_S512x128_S512x128_S512x512_d1

/-- Where the lanes of a row agree, it holds their common value. -/
theorem tile512_apply (m : FVec Ideal S512x128 .f32) (i : Fin 512) (x : EReal) (h : ∀ l, m (ix2 i l) = x) (k : Fin 512) :
    tile512 m (ix2 i k) = x := by
  pointwise [tile512]
  split_ifs <;> exact h _

/-- The weighted sum over a block: `exp2 (s - m)` against the values and the ones. -/
def pv512 (s : FVec Ideal S512x512 .f32) (m : FVec Ideal S512x128 .f32) (v : FVec Ideal S512x128 .bf16) :
    FVec Ideal S512x256 .f32 :=
  matmul dot_S512x512_S512x256_S512x256_1_0_0_1_n_n none (truncf .bf16 (exp2 (subf s (tile512 m))) bitsLt_bf16_f32)
    (ones512 v) (constant S512x256 .f32 0x00000000#32)

/-- The weighted sum of a row whose lanes agree. -/
theorem pv512_apply (s : FVec Ideal S512x512 .f32) (m : FVec Ideal S512x128 .f32) (v : FVec Ideal S512x128 .bf16)
    (i : Fin 512) (c : Fin 256) (x : EReal) (h : ∀ l, m (ix2 i l) = x) :
    pv512 s m v (ix2 i c) = ∑ k : Fin 512, wgt (s (ix2 i k)) x * ones512 v (ix2 k c) := by
  pointwise [pv512]
  refine Finset.sum_congr rfl fun k _ => ?_
  rw [tile512_apply m i x h k]
  rfl

/-- The first block of a row of blocks. -/
theorem first512 {T V : ℕ → ℕ → EReal} (hV : ∀ c, 128 ≤ c → V c = fun _ => 1) {q0 : ℕ} {s : FVec Ideal S512x512 .f32}
    {v : FVec Ideal S512x128 .bf16} (hs : IsS T q0 0 s) (hv : IsV V 0 v) :
    St T V q0 512 (top512 s) (pv512 s (top512 s) v) :=
  .first (ones512 v) hs (ones_col hV hv (ones512_apply v)) (top512_apply s) (pv512_apply s _ v)

/-- A later block of a row of blocks. -/
theorem next512 {T V : ℕ → ℕ → EReal} (hV : ∀ c, 128 ≤ c → V c = fun _ => 1) {q0 n : ℕ} {s : FVec Ideal S512x512 .f32}
    {v : FVec Ideal S512x128 .bf16} {m : FVec Ideal S512x128 .f32} {a : FVec Ideal S512x256 .f32}
    (h : St T V q0 n m a) (hs : IsS T q0 n s) (hv : IsV V n v) :
    St T V q0 (n + 512) (maximumf m (top512 s))
      (addf (mulf (two512 (exp2 (subf m (maximumf m (top512 s))))) a) (pv512 s (maximumf m (top512 s)) v)) :=
  h.next (ones512 v) hs (ones_col hV hv (ones512_apply v)) (top512_apply s) (pv512_apply s _ v) (two512_apply _)

/-! ### 256 queries against 256 keys -/

/-- The maximum of each row of a block, on every lane. -/
def top256 (s : FVec Ideal S256x256 .f32) : FVec Ideal S256x128 .f32 :=
  broadcastTo S256x128 (shapeCast S256x1 (shapeCast S256x1
    (multiReduction .maximumf [1] S256 s 0xFF800000#32 reduces_S256x256_S256 (.inl rfl) rfl) shapeCasts_S256_S256x1)
    shapeCasts_S256x1_S256x1) broadcasts_S256x1_S256x128

/-- A lane of it is the row's maximum. -/
theorem top256_apply (s : FVec Ideal S256x256 .f32) (i : Fin 256) (l : Fin 128) :
    top256 s (ix2 i l) = Finset.univ.fold Max.max ⊥ fun k : Fin 256 => s (ix2 i k) := by
  pointwise [top256]
  rw [ofBits_neg_inf]

/-- The lanes of a state side by side, as wide as the block. -/
def tile256 (m : FVec Ideal S256x128 .f32) : FVec Ideal S256x256 .f32 :=
  concatenate S256x256 1 [⟨S256x128, m⟩, ⟨S256x128, m⟩]
    concatenates_S256x128_S256x128_S256x256_d1

/-- Where the lanes of a row agree, it holds their common value. -/
theorem tile256_apply (m : FVec Ideal S256x128 .f32) (i : Fin 256) (x : EReal) (h : ∀ l, m (ix2 i l) = x) (k : Fin 256) :
    tile256 m (ix2 i k) = x := by
  pointwise [tile256]
  split_ifs <;> exact h _

/-- The weighted sum over a block: `exp2 (s - m)` against the values and the ones. -/
def pv256 (s : FVec Ideal S256x256 .f32) (m : FVec Ideal S256x128 .f32) (v : FVec Ideal S256x128 .bf16) :
    FVec Ideal S256x256 .f32 :=
  matmul dot_S256x256_S256x256_S256x256_1_0_0_1_n_n none (truncf .bf16 (exp2 (subf s (tile256 m))) bitsLt_bf16_f32)
    (ones256 v) (constant S256x256 .f32 0x00000000#32)

/-- The weighted sum of a row whose lanes agree. -/
theorem pv256_apply (s : FVec Ideal S256x256 .f32) (m : FVec Ideal S256x128 .f32) (v : FVec Ideal S256x128 .bf16)
    (i : Fin 256) (c : Fin 256) (x : EReal) (h : ∀ l, m (ix2 i l) = x) :
    pv256 s m v (ix2 i c) = ∑ k : Fin 256, wgt (s (ix2 i k)) x * ones256 v (ix2 k c) := by
  pointwise [pv256]
  refine Finset.sum_congr rfl fun k _ => ?_
  rw [tile256_apply m i x h k]
  rfl

/-- The first block of a row of blocks. -/
theorem first256 {T V : ℕ → ℕ → EReal} (hV : ∀ c, 128 ≤ c → V c = fun _ => 1) {q0 : ℕ} {s : FVec Ideal S256x256 .f32}
    {v : FVec Ideal S256x128 .bf16} (hs : IsS T q0 0 s) (hv : IsV V 0 v) :
    St T V q0 256 (top256 s) (pv256 s (top256 s) v) :=
  .first (ones256 v) hs (ones_col hV hv (ones256_apply v)) (top256_apply s) (pv256_apply s _ v)

/-- A later block of a row of blocks. -/
theorem next256 {T V : ℕ → ℕ → EReal} (hV : ∀ c, 128 ≤ c → V c = fun _ => 1) {q0 n : ℕ} {s : FVec Ideal S256x256 .f32}
    {v : FVec Ideal S256x128 .bf16} {m : FVec Ideal S256x128 .f32} {a : FVec Ideal S256x256 .f32}
    (h : St T V q0 n m a) (hs : IsS T q0 n s) (hv : IsV V n v) :
    St T V q0 (n + 256) (maximumf m (top256 s))
      (addf (mulf (two256 (exp2 (subf m (maximumf m (top256 s))))) a) (pv256 s (maximumf m (top256 s)) v)) :=
  h.next (ones256 v) hs (ones_col hV hv (ones256_apply v)) (top256_apply s) (pv256_apply s _ v) (two256_apply _)

/-! ### 256 queries against 512 keys -/

/-- The maximum of each row of a block, on every lane. -/
def topWide (s : FVec Ideal S256x512 .f32) : FVec Ideal S256x128 .f32 :=
  broadcastTo S256x128 (shapeCast S256x1 (shapeCast S256x1
    (multiReduction .maximumf [1] S256 s 0xFF800000#32 reduces_S256x512_S256 (.inl rfl) rfl) shapeCasts_S256_S256x1)
    shapeCasts_S256x1_S256x1) broadcasts_S256x1_S256x128

/-- A lane of it is the row's maximum. -/
theorem topWide_apply (s : FVec Ideal S256x512 .f32) (i : Fin 256) (l : Fin 128) :
    topWide s (ix2 i l) = Finset.univ.fold Max.max ⊥ fun k : Fin 512 => s (ix2 i k) := by
  pointwise [topWide]
  rw [ofBits_neg_inf]

/-- The lanes of a state side by side, as wide as the block. -/
def tileWide (m : FVec Ideal S256x128 .f32) : FVec Ideal S256x512 .f32 :=
  concatenate S256x512 1 [⟨S256x128, m⟩, ⟨S256x128, m⟩, ⟨S256x128, m⟩, ⟨S256x128, m⟩]
    concatenates_S256x128_S256x128_S256x128_S256x128_S256x512_d1

/-- Where the lanes of a row agree, it holds their common value. -/
theorem tileWide_apply (m : FVec Ideal S256x128 .f32) (i : Fin 256) (x : EReal) (h : ∀ l, m (ix2 i l) = x) (k : Fin 512) :
    tileWide m (ix2 i k) = x := by
  pointwise [tileWide]
  split_ifs <;> exact h _

/-- The weighted sum over a block: `exp2 (s - m)` against the values and the ones. -/
def pvWide (s : FVec Ideal S256x512 .f32) (m : FVec Ideal S256x128 .f32) (v : FVec Ideal S512x128 .bf16) :
    FVec Ideal S256x256 .f32 :=
  matmul dot_S256x512_S512x256_S256x256_1_0_0_1_n_n none (truncf .bf16 (exp2 (subf s (tileWide m))) bitsLt_bf16_f32)
    (ones512 v) (constant S256x256 .f32 0x00000000#32)

/-- The weighted sum of a row whose lanes agree. -/
theorem pvWide_apply (s : FVec Ideal S256x512 .f32) (m : FVec Ideal S256x128 .f32) (v : FVec Ideal S512x128 .bf16)
    (i : Fin 256) (c : Fin 256) (x : EReal) (h : ∀ l, m (ix2 i l) = x) :
    pvWide s m v (ix2 i c) = ∑ k : Fin 512, wgt (s (ix2 i k)) x * ones512 v (ix2 k c) := by
  pointwise [pvWide]
  refine Finset.sum_congr rfl fun k _ => ?_
  rw [tileWide_apply m i x h k]
  rfl

/-- The first block of a row of blocks. -/
theorem firstWide {T V : ℕ → ℕ → EReal} (hV : ∀ c, 128 ≤ c → V c = fun _ => 1) {q0 : ℕ} {s : FVec Ideal S256x512 .f32}
    {v : FVec Ideal S512x128 .bf16} (hs : IsS T q0 0 s) (hv : IsV V 0 v) :
    St T V q0 512 (topWide s) (pvWide s (topWide s) v) :=
  .first (ones512 v) hs (ones_col hV hv (ones512_apply v)) (topWide_apply s) (pvWide_apply s _ v)

/-- A later block of a row of blocks. -/
theorem nextWide {T V : ℕ → ℕ → EReal} (hV : ∀ c, 128 ≤ c → V c = fun _ => 1) {q0 n : ℕ} {s : FVec Ideal S256x512 .f32}
    {v : FVec Ideal S512x128 .bf16} {m : FVec Ideal S256x128 .f32} {a : FVec Ideal S256x256 .f32}
    (h : St T V q0 n m a) (hs : IsS T q0 n s) (hv : IsV V n v) :
    St T V q0 (n + 512) (maximumf m (topWide s))
      (addf (mulf (two256 (exp2 (subf m (maximumf m (topWide s))))) a) (pvWide s (maximumf m (topWide s)) v)) :=
  h.next (ones512 v) hs (ones_col hV hv (ones512_apply v)) (topWide_apply s) (pvWide_apply s _ v) (two256_apply _)

/-! ### The output of a row of blocks -/

/-- What the last unit of 256 queries stores: the value columns over the columns of ones. -/
def out256 (a : FVec Ideal S256x256 .f32) : FVec Ideal S1x256x128 .bf16 :=
  shapeCast S1x256x128 (truncf .bf16 (divf (extractStridedSlice S256x128 ![0, 0] a slices_S256x256_o0_0_S256x128)
    (extractStridedSlice S256x128 ![0, 128] a slices_S256x256_o0_128_S256x128)) bitsLt_bf16_f32) shapeCasts_S256x128_S1x256x128

/-- It holds the quotients of the weighted sums of values and of ones. -/
theorem out256_apply {T V : ℕ → ℕ → EReal} (hV : ∀ c, 128 ≤ c → V c = fun _ => 1) {q0 n : ℕ}
    {m : FVec Ideal S256x128 .f32} {a : FVec Ideal S256x256 .f32} (h : St T V q0 n m a) (z : Fin 1) (i : Fin 256) (c : Fin 128) :
    out256 a (ix3 z i c) = Ideal.div (rowAcc (T (q0 + i)) (V c) n) (rowAcc (T (q0 + i)) (fun _ => 1) n) := by
  have e : out256 a (ix3 z i c) = Ideal.div (a (ix2 i ⟨c, by omega⟩)) (a (ix2 i ⟨128 + c, by omega⟩)) := by
    pointwise [out256]
  rw [e, h.acc, h.acc, hV (128 + c) (by omega)]

end Cert.Attn

end
-- ==== Proof.Attn.Units.lean ====
/- The blocks the attention kernel loads, and the units of its walk over them: each unit's scores are the row's scores,
   masked where it lies on the diagonal; the running state is kept in scratch between the units of a row of blocks. -/
module

public import proofs.«01_k».proof.Proof.Attn.Steps
public import Idealize.ShloMosaic.Lib.Pipeline.ValueKit
public import Idealize.ShloMosaic.Lib.WholeRead

@[expose] public section

set_option maxRecDepth 16384

noncomputable section

namespace Cert.Attn

open Idealize.ShloMosaic Idealize.ShloMosaic.TcCoe Idealize.SL.Sem Finset
open Cert.KernelIdeal Cert.KernelIdeal.Gen

/-- The score of query `q` against key `j`: the sum of the products of their features. -/
def score (x0 x1 : FVec Ideal S1x4096x256 .bf16) (q j : ℕ) : EReal :=
  if h : q < 4096 ∧ j < 4096 then ∑ d : Fin 256, x0 (ix3 0 ⟨q, h.1⟩ d) * x1 (ix3 0 ⟨j, h.2⟩ d) else ⊥

/-- The score, `-∞` where the key's chunk comes after the query's. -/
def mscore (x0 x1 : FVec Ideal S1x4096x256 .bf16) (q j : ℕ) : EReal :=
  if j / 64 ≤ q / 64 then score x0 x1 q j else ⊥

/-- The columns the weights are summed against: the values, then ones. -/
def vcol (x2 : FVec Ideal S1x4096x128 .bf16) (c j : ℕ) : EReal :=
  if h : c < 128 ∧ j < 4096 then x2 (ix3 0 ⟨j, h.2⟩ ⟨c, h.1⟩) else 1

/-- After the values come ones. -/
theorem vcol_ones (x2 : FVec Ideal S1x4096x128 .bf16) (c : ℕ) (hc : 128 ≤ c) : vcol x2 c = fun _ => 1 := by
  funext j
  rw [vcol, dif_neg (by omega)]

/-- A block of rows of a window, read out of it. -/
theorem load_apply {n w k0 : ℕ} (hk : k0 + n ≤ 4096) {κ : Kind} {sp : Space}
    {r : Memref sig κ sp ⟨3, ![1, 4096, w]⟩ .bf16} (hr : r.IsWhole) (X : FVec Ideal ⟨3, ![1, 4096, w]⟩ .bf16)
    (inb : ∀ a, (![0, k0, 0] : Fin 3 → ℕ) a + (⟨3, ![1, n, w]⟩ : Shape).size a ≤ (⟨3, ![1, 4096, w]⟩ : Shape).size a)
    (z : Fin 1) (i : Fin n) (d : Fin w) :
    View.readAt (Elt Ideal) r.view (Rect.unit (s := ⟨3, ![1, 4096, w]⟩) ![0, k0, 0] (⟨3, ![1, n, w]⟩ : Shape).size inb).toLoadRect (hr.unread X) (ix3 z i d)
      = X (ix3 0 ⟨k0 + i, by omega⟩ d) := by
  rw [hr.readAt_unread]
  congr 1
  funext a
  fin_cases a
  · exact Fin.ext (by
      show (0 : ℕ) + 1 * (z : ℕ) = 0
      omega)
  · exact Fin.ext (by
      show k0 + 1 * (i : ℕ) = k0 + i
      omega)
  · exact Fin.ext (by
      show 0 + 1 * (d : ℕ) = d
      omega)

/-- A block of a row of scores is the sum of products of the two loaded blocks. -/
theorem dot512_apply (q : FVec Ideal S512x256 .bf16) (k : FVec Ideal S512x256 .bf16) (i j : Fin 512) :
    matmul dot_S512x256_S512x256_S512x512_1_1_0_0_n_n none q k (constant (F := Ideal) S512x512 .f32 0x00000000#32) (ix2 i j)
      = ∑ d : Fin 256, q (ix2 i d) * k (ix2 j d) := by
  pointwise

/-- The scores of 256 queries against 256 keys, at an index. -/
theorem dot256_apply (q : FVec Ideal S256x256 .bf16) (k : FVec Ideal S256x256 .bf16) (i j : Fin 256) :
    matmul dot_S256x256_S256x256_S256x256_1_1_0_0_n_n none q k (constant (F := Ideal) S256x256 .f32 0x00000000#32) (ix2 i j)
      = ∑ d : Fin 256, q (ix2 i d) * k (ix2 j d) := by
  pointwise

/-- The scores of 256 queries against 512 keys, at an index. -/
theorem dotWide_apply (q : FVec Ideal S256x256 .bf16) (k : FVec Ideal S512x256 .bf16) (i : Fin 256) (j : Fin 512) :
    matmul dot_S256x256_S512x256_S256x512_1_1_0_0_n_n none q k (constant (F := Ideal) S256x512 .f32 0x00000000#32) (ix2 i j)
      = ∑ d : Fin 256, q (ix2 i d) * k (ix2 j d) := by
  pointwise

/-- Dropping the leading unit axis of a loaded block. -/
theorem drop512x256 {φ : FTy} (X : FVec Ideal S1x512x256 φ) (i : Fin 512) (d : Fin 256) :
    shapeCast S512x256 X shapeCasts_S1x512x256_S512x256 (ix2 i d) = X (ix3 0 i d) := by
  pointwise

/-- A block without its leading axis, at an index. -/
theorem drop512x128 {φ : FTy} (X : FVec Ideal S1x512x128 φ) (i : Fin 512) (d : Fin 128) :
    shapeCast S512x128 X shapeCasts_S1x512x128_S512x128 (ix2 i d) = X (ix3 0 i d) := by
  pointwise

/-- A square block without its leading axis, at an index. -/
theorem drop256x256 {φ : FTy} (X : FVec Ideal S1x256x256 φ) (i : Fin 256) (d : Fin 256) :
    shapeCast S256x256 X shapeCasts_S1x256x256_S256x256 (ix2 i d) = X (ix3 0 i d) := by
  pointwise

/-- A half block without its leading axis, at an index. -/
theorem drop256x128 {φ : FTy} (X : FVec Ideal S1x256x128 φ) (i : Fin 256) (d : Fin 128) :
    shapeCast S256x128 X shapeCasts_S1x256x128_S256x128 (ix2 i d) = X (ix3 0 i d) := by
  pointwise

/-- Adding it back. -/
theorem add512x256 {φ : FTy} (X : FVec Ideal S512x256 φ) (z : Fin 1) (i : Fin 512) (d : Fin 256) :
    shapeCast S1x512x256 X shapeCasts_S512x256_S1x512x256 (ix3 z i d) = X (ix2 i d) := by
  pointwise

/-- A block with a leading axis added, at an index. -/
theorem add512x128 {φ : FTy} (X : FVec Ideal S512x128 φ) (z : Fin 1) (i : Fin 512) (d : Fin 128) :
    shapeCast S1x512x128 X shapeCasts_S512x128_S1x512x128 (ix3 z i d) = X (ix2 i d) := by
  pointwise

/-- A block of 512 queries against 512 keys holds the scores of its rows. -/
theorem raw512 {sp sp' : Space} {r2 : Memref sig .tc sp S1x4096x256 .bf16} (h2 : r2.IsWhole)
    {r3 : Memref sig .tc sp' S1x4096x256 .bf16} (h3 : r3.IsWhole) (x0 x1 : FVec Ideal S1x4096x256 .bf16) {q0 k0 : ℕ}
    (inb : ∀ a, (![0, q0, 0] : Fin 3 → ℕ) a + S1x512x256.size a ≤ S1x4096x256.size a)
    (inb' : ∀ a, (![0, k0, 0] : Fin 3 → ℕ) a + S1x512x256.size a ≤ S1x4096x256.size a)
    (hq : q0 + 512 ≤ 4096) (hk : k0 + 512 ≤ 4096) :
    IsS (score x0 x1) q0 k0 (matmul dot_S512x256_S512x256_S512x512_1_1_0_0_n_n none
      (shapeCast (α := Ideal .bf16) S512x256 (View.readAt (Elt Ideal) r2.view (Rect.unit (s := S1x4096x256) ![0, q0, 0] S1x512x256.size inb).toLoadRect (h2.unread x0))
        shapeCasts_S1x512x256_S512x256)
      (shapeCast (α := Ideal .bf16) S512x256 (View.readAt (Elt Ideal) r3.view (Rect.unit (s := S1x4096x256) ![0, k0, 0] S1x512x256.size inb').toLoadRect (h3.unread x1))
        shapeCasts_S1x512x256_S512x256)
      (constant (F := Ideal) S512x512 .f32 0x00000000#32)) := by
  intro i j
  rw [dot512_apply, score, dif_pos ⟨by omega, by omega⟩]
  refine Finset.sum_congr rfl fun d _ => ?_
  rw [drop512x256, drop512x256]
  exact congrArg₂ (· * ·) (load_apply hq h2 x0 inb 0 i d) (load_apply hk h3 x1 inb' 0 j d)

/-- A block of 256 queries against 256 keys holds the scores of its rows. -/
theorem raw256 {sp sp' : Space} {r2 : Memref sig .tc sp S1x4096x256 .bf16} (h2 : r2.IsWhole)
    {r3 : Memref sig .tc sp' S1x4096x256 .bf16} (h3 : r3.IsWhole) (x0 x1 : FVec Ideal S1x4096x256 .bf16) {q0 k0 : ℕ}
    (inb : ∀ a, (![0, q0, 0] : Fin 3 → ℕ) a + S1x256x256.size a ≤ S1x4096x256.size a)
    (inb' : ∀ a, (![0, k0, 0] : Fin 3 → ℕ) a + S1x256x256.size a ≤ S1x4096x256.size a)
    (hq : q0 + 256 ≤ 4096) (hk : k0 + 256 ≤ 4096) :
    IsS (score x0 x1) q0 k0 (matmul dot_S256x256_S256x256_S256x256_1_1_0_0_n_n none
      (shapeCast (α := Ideal .bf16) S256x256 (View.readAt (Elt Ideal) r2.view (Rect.unit (s := S1x4096x256) ![0, q0, 0] S1x256x256.size inb).toLoadRect (h2.unread x0))
        shapeCasts_S1x256x256_S256x256)
      (shapeCast (α := Ideal .bf16) S256x256 (View.readAt (Elt Ideal) r3.view (Rect.unit (s := S1x4096x256) ![0, k0, 0] S1x256x256.size inb').toLoadRect (h3.unread x1))
        shapeCasts_S1x256x256_S256x256)
      (constant (F := Ideal) S256x256 .f32 0x00000000#32)) := by
  intro i j
  rw [dot256_apply, score, dif_pos ⟨by omega, by omega⟩]
  refine Finset.sum_congr rfl fun d _ => ?_
  rw [drop256x256, drop256x256]
  exact congrArg₂ (· * ·) (load_apply hq h2 x0 inb 0 i d) (load_apply hk h3 x1 inb' 0 j d)

/-- A block of 256 queries against 512 keys holds the scores of its rows. -/
theorem rawWide {sp sp' : Space} {r2 : Memref sig .tc sp S1x4096x256 .bf16} (h2 : r2.IsWhole)
    {r3 : Memref sig .tc sp' S1x4096x256 .bf16} (h3 : r3.IsWhole) (x0 x1 : FVec Ideal S1x4096x256 .bf16) {q0 k0 : ℕ}
    (inb : ∀ a, (![0, q0, 0] : Fin 3 → ℕ) a + S1x256x256.size a ≤ S1x4096x256.size a)
    (inb' : ∀ a, (![0, k0, 0] : Fin 3 → ℕ) a + S1x512x256.size a ≤ S1x4096x256.size a)
    (hq : q0 + 256 ≤ 4096) (hk : k0 + 512 ≤ 4096) :
    IsS (score x0 x1) q0 k0 (matmul dot_S256x256_S512x256_S256x512_1_1_0_0_n_n none
      (shapeCast (α := Ideal .bf16) S256x256 (View.readAt (Elt Ideal) r2.view (Rect.unit (s := S1x4096x256) ![0, q0, 0] S1x256x256.size inb).toLoadRect (h2.unread x0))
        shapeCasts_S1x256x256_S256x256)
      (shapeCast (α := Ideal .bf16) S512x256 (View.readAt (Elt Ideal) r3.view (Rect.unit (s := S1x4096x256) ![0, k0, 0] S1x512x256.size inb').toLoadRect (h3.unread x1))
        shapeCasts_S1x512x256_S512x256)
      (constant (F := Ideal) S256x512 .f32 0x00000000#32)) := by
  intro i j
  rw [dotWide_apply, score, dif_pos ⟨by omega, by omega⟩]
  refine Finset.sum_congr rfl fun d _ => ?_
  rw [drop256x256, drop512x256]
  exact congrArg₂ (· * ·) (load_apply hq h2 x0 inb 0 i d) (load_apply hk h3 x1 inb' 0 j d)

/-- Below the diagonal the mask keeps every score. -/
theorem off512 {sp sp' : Space} {r2 : Memref sig .tc sp S1x4096x256 .bf16} {h2 : r2.IsWhole}
    {r3 : Memref sig .tc sp' S1x4096x256 .bf16} {h3 : r3.IsWhole} {x0 x1 : FVec Ideal S1x4096x256 .bf16} {q0 k0 : ℕ}
    {inb : ∀ a, (![0, q0, 0] : Fin 3 → ℕ) a + S1x512x256.size a ≤ S1x4096x256.size a}
    {inb' : ∀ a, (![0, k0, 0] : Fin 3 → ℕ) a + S1x512x256.size a ≤ S1x4096x256.size a}
    (hq : q0 + 512 ≤ 4096) (hk : k0 + 512 ≤ q0) :
    IsS (mscore x0 x1) q0 k0 (matmul dot_S512x256_S512x256_S512x512_1_1_0_0_n_n none
      (shapeCast (α := Ideal .bf16) S512x256 (View.readAt (Elt Ideal) r2.view (Rect.unit (s := S1x4096x256) ![0, q0, 0] S1x512x256.size inb).toLoadRect (h2.unread x0))
        shapeCasts_S1x512x256_S512x256)
      (shapeCast (α := Ideal .bf16) S512x256 (View.readAt (Elt Ideal) r3.view (Rect.unit (s := S1x4096x256) ![0, k0, 0] S1x512x256.size inb').toLoadRect (h3.unread x1))
        shapeCasts_S1x512x256_S512x256)
      (constant (F := Ideal) S512x512 .f32 0x00000000#32)) := by
  intro i j
  rw [raw512 h2 h3 x0 x1 inb inb' hq (by omega) i j, mscore, if_pos (Nat.div_le_div_right (by omega))]

/-- A diagonal block holds the masked scores. -/
theorem diag256 {sp sp' : Space} {r2 : Memref sig .tc sp S1x4096x256 .bf16} {h2 : r2.IsWhole}
    {r3 : Memref sig .tc sp' S1x4096x256 .bf16} {h3 : r3.IsWhole} {x0 x1 : FVec Ideal S1x4096x256 .bf16} {q0 k0 : ℕ}
    {inb : ∀ a, (![0, q0, 0] : Fin 3 → ℕ) a + S1x256x256.size a ≤ S1x4096x256.size a}
    {inb' : ∀ a, (![0, k0, 0] : Fin 3 → ℕ) a + S1x256x256.size a ≤ S1x4096x256.size a}
    (hq : q0 + 256 ≤ 4096) (hk : k0 + 256 ≤ 4096) :
    IsS (mscore x0 x1) q0 k0 (masked (iota .tc S256x256 32 [0] iota_S256x256_d0_w32) (iota .tc S256x256 32 [1] iota_S256x256_d1_w32)
      (BitVec.ofNat 32 q0) (BitVec.ofNat 32 k0) (matmul dot_S256x256_S256x256_S256x256_1_1_0_0_n_n none
      (shapeCast (α := Ideal .bf16) S256x256 (View.readAt (Elt Ideal) r2.view (Rect.unit (s := S1x4096x256) ![0, q0, 0] S1x256x256.size inb).toLoadRect (h2.unread x0))
        shapeCasts_S1x256x256_S256x256)
      (shapeCast (α := Ideal .bf16) S256x256 (View.readAt (Elt Ideal) r3.view (Rect.unit (s := S1x4096x256) ![0, k0, 0] S1x256x256.size inb').toLoadRect (h3.unread x1))
        shapeCasts_S1x256x256_S256x256)
      (constant (F := Ideal) S256x256 .f32 0x00000000#32))) := by
  intro i j
  rw [masked_apply _ _ q0 k0 _ (ix2 i j) i j (by pointwise) (by pointwise) (by omega) (by omega), mscore,
    raw256 h2 h3 x0 x1 inb inb' hq hk i j]

/-- A diagonal block holds the masked scores. -/
theorem diagWide {sp sp' : Space} {r2 : Memref sig .tc sp S1x4096x256 .bf16} {h2 : r2.IsWhole}
    {r3 : Memref sig .tc sp' S1x4096x256 .bf16} {h3 : r3.IsWhole} {x0 x1 : FVec Ideal S1x4096x256 .bf16} {q0 k0 : ℕ}
    {inb : ∀ a, (![0, q0, 0] : Fin 3 → ℕ) a + S1x256x256.size a ≤ S1x4096x256.size a}
    {inb' : ∀ a, (![0, k0, 0] : Fin 3 → ℕ) a + S1x512x256.size a ≤ S1x4096x256.size a}
    (hq : q0 + 256 ≤ 4096) (hk : k0 + 512 ≤ 4096) :
    IsS (mscore x0 x1) q0 k0 (masked (iota .tc S256x512 32 [0] iota_S256x512_d0_w32) (iota .tc S256x512 32 [1] iota_S256x512_d1_w32)
      (BitVec.ofNat 32 q0) (BitVec.ofNat 32 k0) (matmul dot_S256x256_S512x256_S256x512_1_1_0_0_n_n none
      (shapeCast (α := Ideal .bf16) S256x256 (View.readAt (Elt Ideal) r2.view (Rect.unit (s := S1x4096x256) ![0, q0, 0] S1x256x256.size inb).toLoadRect (h2.unread x0))
        shapeCasts_S1x256x256_S256x256)
      (shapeCast (α := Ideal .bf16) S512x256 (View.readAt (Elt Ideal) r3.view (Rect.unit (s := S1x4096x256) ![0, k0, 0] S1x512x256.size inb').toLoadRect (h3.unread x1))
        shapeCasts_S1x512x256_S512x256)
      (constant (F := Ideal) S256x512 .f32 0x00000000#32))) := by
  intro i j
  rw [masked_apply _ _ q0 k0 _ (ix2 i j) i j (by pointwise) (by pointwise) (by omega) (by omega), mscore,
    rawWide h2 h3 x0 x1 inb inb' hq hk i j]

/-- The values of a block of 512 keys. -/
theorem vals512 {sp : Space} {r4 : Memref sig .tc sp S1x4096x128 .bf16} {h4 : r4.IsWhole} {x2 : FVec Ideal S1x4096x128 .bf16}
    {k0 : ℕ} {inb : ∀ a, (![0, k0, 0] : Fin 3 → ℕ) a + S1x512x128.size a ≤ S1x4096x128.size a} (hk : k0 + 512 ≤ 4096) :
    IsV (vcol x2) k0 (shapeCast S512x128 (View.readAt (Elt Ideal) r4.view (Rect.unit (s := S1x4096x128) ![0, k0, 0] S1x512x128.size inb).toLoadRect
      (h4.unread x2)) shapeCasts_S1x512x128_S512x128) := by
  intro j c
  rw [drop512x128, vcol, dif_pos ⟨c.isLt, by omega⟩]
  exact load_apply hk h4 x2 inb 0 j c

/-- The values of a block of 256 keys. -/
theorem vals256 {sp : Space} {r4 : Memref sig .tc sp S1x4096x128 .bf16} {h4 : r4.IsWhole} {x2 : FVec Ideal S1x4096x128 .bf16}
    {k0 : ℕ} {inb : ∀ a, (![0, k0, 0] : Fin 3 → ℕ) a + S1x256x128.size a ≤ S1x4096x128.size a} (hk : k0 + 256 ≤ 4096) :
    IsV (vcol x2) k0 (shapeCast S256x128 (View.readAt (Elt Ideal) r4.view (Rect.unit (s := S1x4096x128) ![0, k0, 0] S1x256x128.size inb).toLoadRect
      (h4.unread x2)) shapeCasts_S1x256x128_S256x128) := by
  intro j c
  rw [drop256x128, vcol, dif_pos ⟨c.isLt, by omega⟩]
  exact load_apply hk h4 x2 inb 0 j c

/-! ## The state kept in scratch -/

/-- The running state of a row of blocks as it is stored in scratch. -/
structure Kept (T V : ℕ → ℕ → EReal) (q0 n : ℕ) (m : FVec Ideal S1x512x128 .f32) (a : FVec Ideal S1x512x256 .f32) : Prop where
  max : ∀ (i : Fin 512) (l : Fin 128), m (ix3 0 i l) = rowMax (T (q0 + i)) n
  acc : ∀ (i : Fin 512) (c : Fin 256), a (ix3 0 i c) = rowAcc (T (q0 + i)) (V c) n

/-- Storing a state keeps it. -/
theorem St.keep {T V : ℕ → ℕ → EReal} {q0 n : ℕ} {m : FVec Ideal S512x128 .f32} {a : FVec Ideal S512x256 .f32}
    (h : St T V q0 n m a) : Kept T V q0 n (shapeCast S1x512x128 m shapeCasts_S512x128_S1x512x128)
      (shapeCast S1x512x256 a shapeCasts_S512x256_S1x512x256) :=
  ⟨fun i l => by rw [add512x128, h.max], fun i c => by rw [add512x256, h.acc]⟩

/-- The kept state, loaded. -/
theorem Kept.load {T V : ℕ → ℕ → EReal} {q0 n b b' : ℕ} {m : FVec Ideal S1x512x128 .f32} {a : FVec Ideal S1x512x256 .f32}
    (h : Kept T V q0 n m a) {sp sp' : Space} {r6 : Memref sig .tc sp S2x512x128 .f32} {r7 : Memref sig .tc sp' S2x512x256 .f32}
    {i6 i6' : ∀ x, (![b, 0, 0] : Fin 3 → ℕ) x + S1x512x128.size x ≤ S2x512x128.size x}
    {i7 i7' : ∀ x, (![b', 0, 0] : Fin 3 → ℕ) x + S1x512x256.size x ≤ S2x512x256.size x}
    {L6 : List (View.Piece (Elt Ideal) S2x512x128 .f32)}
    {L7 : List (View.Piece (Elt Ideal) S2x512x256 .f32)} :
    St T V q0 n
      (shapeCast S512x128 (r6.view.readCov (Val := Elt Ideal) (⟨Rect.unit (s := S2x512x128) ![b, 0, 0] S1x512x128.size i6, m⟩ :: L6)
        (Rect.unit (s := S2x512x128) ![b, 0, 0] S1x512x128.size i6').toLoadRect) shapeCasts_S1x512x128_S512x128)
      (shapeCast S512x256 (r7.view.readCov (Val := Elt Ideal) (⟨Rect.unit (s := S2x512x256) ![b', 0, 0] S1x512x256.size i7, a⟩ :: L7)
        (Rect.unit (s := S2x512x256) ![b', 0, 0] S1x512x256.size i7').toLoadRect) shapeCasts_S1x512x256_S512x256) := by
  refine ⟨fun i l => ?_, fun i c => ?_⟩
  · rw [drop512x128, View.readCov_cons_toLoadRect]
    exact h.max i l
  · rw [drop512x256, View.readCov_cons_toLoadRect]
    exact h.acc i c

/-- A load of half of the rows last stored reads those rows. -/
theorem load_half {b n o : ℕ} (inb : ∀ x, (![b, 0, 0] : Fin 3 → ℕ) x + (⟨3, ![1, 512, n]⟩ : Shape).size x ≤ (⟨3, ![2, 512, n]⟩ : Shape).size x)
    (inb' : ∀ x, (![b, o, 0] : Fin 3 → ℕ) x + (⟨3, ![1, 256, n]⟩ : Shape).size x ≤ (⟨3, ![2, 512, n]⟩ : Shape).size x)
    {sp : Space} (v : View sig .tc sp ⟨3, ![2, 512, n]⟩ .f32) (m : FVec Ideal ⟨3, ![1, 512, n]⟩ .f32)
    (L : List (View.Piece (Elt Ideal) ⟨3, ![2, 512, n]⟩ .f32)) (i : Fin 256) (l : Fin n) (j : Fin 512) (hj : (j : ℕ) = o + i) :
    v.readCov (Val := Elt Ideal) (⟨Rect.unit (s := ⟨3, ![2, 512, n]⟩) ![b, 0, 0] (⟨3, ![1, 512, n]⟩ : Shape).size inb, m⟩ :: L)
      (Rect.unit (s := ⟨3, ![2, 512, n]⟩) ![b, o, 0] (⟨3, ![1, 256, n]⟩ : Shape).size inb').toLoadRect (ix3 0 i l) = m (ix3 0 j l) := by
  rw [View.readCov_eq_canon']
  beta_reduce
  rw [show (Rect.unit (s := ⟨3, ![2, 512, n]⟩) ![b, o, 0] (⟨3, ![1, 256, n]⟩ : Shape).size inb').toLoadRect.idx (ix3 0 i l)
    = (Rect.unit (s := ⟨3, ![2, 512, n]⟩) ![b, 0, 0] (⟨3, ![1, 512, n]⟩ : Shape).size inb).emb (ix3 0 j l) from ?_]
  · exact View.canon_cons_emb (Val := Elt Ideal) (Rect.unit (s := ⟨3, ![2, 512, n]⟩) ![b, 0, 0] (⟨3, ![1, 512, n]⟩ : Shape).size inb) m L (ix3 0 j l)
  · funext a
    fin_cases a
    · exact Fin.ext (by
        show b + 1 * ((0 : Fin 1) : ℕ) = b + 1 * ((0 : Fin 1) : ℕ)
        omega)
    · exact Fin.ext (by
        show o + 1 * (i : ℕ) = 0 + 1 * (j : ℕ)
        omega)
    · exact Fin.ext (by
        show 0 + 1 * (l : ℕ) = 0 + 1 * (l : ℕ)
        omega)

/-- The upper half of the kept state, loaded. -/
theorem Kept.upper {T V : ℕ → ℕ → EReal} {q0 n b b' : ℕ} {m : FVec Ideal S1x512x128 .f32} {a : FVec Ideal S1x512x256 .f32}
    (h : Kept T V q0 n m a) {sp sp' : Space} {r6 : Memref sig .tc sp S2x512x128 .f32} {r7 : Memref sig .tc sp' S2x512x256 .f32}
    {i6 : ∀ x, (![b, 0, 0] : Fin 3 → ℕ) x + S1x512x128.size x ≤ S2x512x128.size x}
    {i6' : ∀ x, (![b, 0, 0] : Fin 3 → ℕ) x + S1x256x128.size x ≤ S2x512x128.size x}
    {i7 : ∀ x, (![b', 0, 0] : Fin 3 → ℕ) x + S1x512x256.size x ≤ S2x512x256.size x}
    {i7' : ∀ x, (![b', 0, 0] : Fin 3 → ℕ) x + S1x256x256.size x ≤ S2x512x256.size x}
    {L6 : List (View.Piece (Elt Ideal) S2x512x128 .f32)} {L7 : List (View.Piece (Elt Ideal) S2x512x256 .f32)} :
    St T V (q0) n
      (shapeCast S256x128 (r6.view.readCov (Val := Elt Ideal) (⟨Rect.unit (s := S2x512x128) ![b, 0, 0] S1x512x128.size i6, m⟩ :: L6)
        (Rect.unit (s := S2x512x128) ![b, 0, 0] S1x256x128.size i6').toLoadRect) shapeCasts_S1x256x128_S256x128)
      (shapeCast S256x256 (r7.view.readCov (Val := Elt Ideal) (⟨Rect.unit (s := S2x512x256) ![b', 0, 0] S1x512x256.size i7, a⟩ :: L7)
        (Rect.unit (s := S2x512x256) ![b', 0, 0] S1x256x256.size i7').toLoadRect) shapeCasts_S1x256x256_S256x256) := by
  refine ⟨fun i l => ?_, fun i c => ?_⟩
  · rw [drop256x128]
    exact (load_half (n := 128) i6 i6' r6.view m L6 i l ⟨0 + i, by omega⟩ rfl).trans ((h.max _ l).trans (by simp [Nat.add_assoc]))
  · rw [drop256x256]
    exact (load_half (n := 256) i7 i7' r7.view a L7 i c ⟨0 + i, by omega⟩ rfl).trans ((h.acc _ c).trans (by simp [Nat.add_assoc]))

/-- The lower half of the kept state, loaded. -/
theorem Kept.lower {T V : ℕ → ℕ → EReal} {q0 n b b' : ℕ} {m : FVec Ideal S1x512x128 .f32} {a : FVec Ideal S1x512x256 .f32}
    (h : Kept T V q0 n m a) {sp sp' : Space} {r6 : Memref sig .tc sp S2x512x128 .f32} {r7 : Memref sig .tc sp' S2x512x256 .f32}
    {i6 : ∀ x, (![b, 0, 0] : Fin 3 → ℕ) x + S1x512x128.size x ≤ S2x512x128.size x}
    {i6' : ∀ x, (![b, 256, 0] : Fin 3 → ℕ) x + S1x256x128.size x ≤ S2x512x128.size x}
    {i7 : ∀ x, (![b', 0, 0] : Fin 3 → ℕ) x + S1x512x256.size x ≤ S2x512x256.size x}
    {i7' : ∀ x, (![b', 256, 0] : Fin 3 → ℕ) x + S1x256x256.size x ≤ S2x512x256.size x}
    {L6 : List (View.Piece (Elt Ideal) S2x512x128 .f32)} {L7 : List (View.Piece (Elt Ideal) S2x512x256 .f32)} :
    St T V (q0 + 256) n
      (shapeCast S256x128 (r6.view.readCov (Val := Elt Ideal) (⟨Rect.unit (s := S2x512x128) ![b, 0, 0] S1x512x128.size i6, m⟩ :: L6)
        (Rect.unit (s := S2x512x128) ![b, 256, 0] S1x256x128.size i6').toLoadRect) shapeCasts_S1x256x128_S256x128)
      (shapeCast S256x256 (r7.view.readCov (Val := Elt Ideal) (⟨Rect.unit (s := S2x512x256) ![b', 0, 0] S1x512x256.size i7, a⟩ :: L7)
        (Rect.unit (s := S2x512x256) ![b', 256, 0] S1x256x256.size i7').toLoadRect) shapeCasts_S1x256x256_S256x256) := by
  refine ⟨fun i l => ?_, fun i c => ?_⟩
  · rw [drop256x128]
    exact (load_half (n := 128) i6 i6' r6.view m L6 i l ⟨256 + i, by omega⟩ rfl).trans ((h.max _ l).trans (by simp [Nat.add_assoc]))
  · rw [drop256x256]
    exact (load_half (n := 256) i7 i7' r7.view a L7 i c ⟨256 + i, by omega⟩ rfl).trans ((h.acc _ c).trans (by simp [Nat.add_assoc]))
end Cert.Attn

end
-- ==== Proof.Attn.Body.lean ====
/- What the attention kernel's body stores: each of its sixteen pieces holds the attention of its rows. -/
module

public import proofs.«01_k».proof.Proof.Attn.Units
public import proofs.«01_k».proof.Proof.Gen.KernelIdeal.Frame

@[expose] public section

set_option maxRecDepth 16384

noncomputable section

namespace Cert.Attn

open Idealize.ShloMosaic Idealize.ShloMosaic.TcCoe Idealize.SL.Sem Finset
open Cert.KernelIdeal Cert.KernelIdeal.Gen

/-- The attention of query `q` at value column `c`: the weighted sum of the values over the sum of the weights. -/
def attn (x0 x1 : FVec Ideal S1x4096x256 .bf16) (x2 : FVec Ideal S1x4096x128 .bf16) (q c : ℕ) : EReal :=
  Ideal.div (rowAcc (mscore x0 x1 q) (vcol x2 c) 4096) (rowAcc (mscore x0 x1 q) (fun _ => 1) 4096)

/-- A stored piece holds the attention of its rows, from `q0`. -/
def IsOut (x0 x1 : FVec Ideal S1x4096x256 .bf16) (x2 : FVec Ideal S1x4096x128 .bf16) (q0 : ℕ) (o : FVec Ideal S1x256x128 .bf16) : Prop :=
  ∀ (z : Fin 1) (i : Fin 256) (c : Fin 128), o (ix3 z i c) = attn x0 x1 x2 (q0 + i) c

/-- A later block of a row of blocks, which is not its first. -/
theorem more512 {T V : ℕ → ℕ → EReal} (hV : ∀ c, 128 ≤ c → V c = fun _ => 1) {q0 n : ℕ} {s : FVec Ideal S512x512 .f32}
    {v : FVec Ideal S512x128 .bf16} {m : FVec Ideal S512x128 .f32} {a : FVec Ideal S512x256 .f32}
    (h : St T V q0 (n + 512) m a) (hs : IsS T q0 (n + 512) s) (hv : IsV V (n + 512) v) :
    St T V q0 (n + 1024) (maximumf m (top512 s))
      (addf (mulf (two512 (exp2 (subf m (maximumf m (top512 s))))) a) (pv512 s (maximumf m (top512 s)) v)) :=
  next512 hV h hs hv

/-- The keys after the piece's own are masked for each of its rows, so the state after them is the row's whole sum. -/
theorem IsOut.of {x0 x1 : FVec Ideal S1x4096x256 .bf16} {x2 : FVec Ideal S1x4096x128 .bf16} {q0 : ℕ}
    {m : FVec Ideal S256x128 .f32} {a : FVec Ideal S256x256 .f32} (hn : q0 + 256 ≤ 4096) (hc : (q0 + 255) / 64 < (q0 + 256) / 64)
    (h : St (mscore x0 x1) (vcol x2) q0 (q0 + 256) m a) : IsOut x0 x1 x2 q0 (out256 a) := by
  intro z i c
  have hb : ∀ j, q0 + 256 ≤ j → mscore x0 x1 (q0 + i) j = ⊥ := fun j hj => by
    rw [mscore, if_neg]
    have := Nat.div_le_div_right (c := 64) hj
    have : (q0 + i) / 64 ≤ (q0 + 255) / 64 := Nat.div_le_div_right (by omega)
    omega
  rw [out256_apply (vcol_ones x2) h, attn, rowAcc_of_bot _ _ hn hb, rowAcc_of_bot _ _ hn hb]

/-- A piece of the output block agrees with the attention of the rows it is stored at. -/
theorem IsOut.cons {x0 x1 : FVec Ideal S1x4096x256 .bf16} {x2 : FVec Ideal S1x4096x128 .bf16} {q0 : ℕ} {o : FVec Ideal S1x256x128 .bf16}
    {inb : ∀ a, (![0, q0, 0] : Fin 3 → ℕ) a + S1x256x128.size a ≤ S1x4096x128.size a} {L : List (View.Piece (Elt Ideal) S1x4096x128 .bf16)}
    (hL : ∀ p ∈ L, ∀ x : p.1.shape.Idx, p.2 x = attn x0 x1 x2 (p.1.emb x 1) (p.1.emb x 2)) (h : IsOut x0 x1 x2 q0 o) :
    ∀ p ∈ (⟨Rect.unit (s := S1x4096x128) ![0, q0, 0] S1x256x128.size inb, o⟩ : View.Piece (Elt Ideal) S1x4096x128 .bf16) :: L,
      ∀ x : p.1.shape.Idx, p.2 x = attn x0 x1 x2 (p.1.emb x 1) (p.1.emb x 2) := by
  refine List.forall_mem_cons.2 ⟨fun x => ?_, hL⟩
  have hx : x = ix3 (x 0) (x 1) (x 2) := by funext a; fin_cases a <;> rfl
  refine (congrArg o hx).trans ((h (x 0) (x 1) (x 2)).trans ?_)
  congr 1
  · show q0 + (x 1 : ℕ) = q0 + 1 * (x 1 : ℕ)
    omega
  · show (x 2 : ℕ) = 0 + 1 * (x 2 : ℕ)
    omega

variable (c : Dev nD) (i : grid0.Coords) (arg2 : Memref sig .tc .vmem S1x4096x256 .bf16) (harg2 : arg2.IsWhole)
  (arg3 : Memref sig .tc .vmem S1x4096x256 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S2x512x128 .f32) (harg6 : arg6.IsWhole)
  (arg7 : Memref sig .tc .vmem S2x512x256 .f32) (harg7 : arg7.IsWhole)
  (x0 x1 : FVec Ideal S1x4096x256 .bf16) (x2 : FVec Ideal S1x4096x128 .bf16)

/-- Every piece the body stores holds the attention of its rows: each is the end of a walk over the blocks of keys up to
    the rows' own. -/
theorem pieces : ∀ p ∈ (kernelRun0_A (F := Ideal) c i arg2 harg2 arg3 harg3 arg4 harg4 arg5 harg5 arg6 harg6 arg7 harg7 x0 x1 x2).1,
    ∀ x : p.1.shape.Idx, p.2 x = attn x0 x1 x2 (p.1.emb x 1) (p.1.emb x 2) := by
  iterate 16 refine IsOut.cons ?_ ?_
  · exact fun _ h => absurd h List.not_mem_nil
  · exact .of (by decide) (by decide) (first256 (vcol_ones x2) (diag256 (by decide) (by decide)) (vals256 (by decide)))
  · exact .of (by decide) (by decide) (firstWide (vcol_ones x2) (diagWide (by decide) (by decide)) (vals512 (by decide)))
  iterate 7
    · refine .of (by decide) (by decide) (next256 (vcol_ones x2) (Kept.upper ?_) (diag256 (by decide) (by decide)) (vals256 (by decide)))
      repeat refine St.keep (more512 (vcol_ones x2) (Kept.load ?_) (off512 (by decide) (by decide)) (vals512 (by decide)))
      exact St.keep (first512 (vcol_ones x2) (off512 (by decide) (by decide)) (vals512 (by decide)))
    · refine .of (by decide) (by decide) (nextWide (vcol_ones x2) (Kept.lower ?_) (diagWide (by decide) (by decide)) (vals512 (by decide)))
      repeat refine St.keep (more512 (vcol_ones x2) (Kept.load ?_) (off512 (by decide) (by decide)) (vals512 (by decide)))
      exact St.keep (first512 (vcol_ones x2) (off512 (by decide) (by decide)) (vals512 (by decide)))

end Cert.Attn

end
-- ==== Proof.Attn.Array.lean ====
/- The attention kernel's result array: each point of its grid writes the attention of its batch and head. -/
module

public import proofs.«01_k».proof.Proof.Attn.Body
public import proofs.«01_k».proof.Proof.Gen.KernelIdeal.Value

@[expose] public section

set_option maxRecDepth 16384

noncomputable section

namespace Cert.Attn

open Idealize.ShloMosaic Idealize.ShloMosaic.TcCoe Idealize.SL.Sem Finset
open Cert.KernelIdeal Cert.KernelIdeal.Gen

/-- The queries or keys of one batch and head, as the block a grid point sees. -/
def headQK (X : FVec Ideal S8x4096x2048 .bf16) (b h : Fin 8) : FVec Ideal S1x4096x256 .bf16 :=
  fun x => X (ix3 b (x 1) ⟨256 * h + (x 2).val, by have : (x 2).val < 256 := (x 2).isLt; omega⟩)

/-- The values of one batch and head, as the block a grid point sees. -/
def headV (X : FVec Ideal S8x4096x1024 .bf16) (b h : Fin 8) : FVec Ideal S1x4096x128 .bf16 :=
  fun x => X (ix3 b (x 1) ⟨128 * h + (x 2).val, by have : (x 2).val < 128 := (x 2).isLt; omega⟩)

/-- The attention of every batch and head. -/
def attnAll (Q K : FVec Ideal S8x4096x2048 .bf16) (V : FVec Ideal S8x4096x1024 .bf16) : FVec Ideal S8x4096x1024 .bf16 :=
  fun y =>
    let h : Fin 8 := ⟨(y 2).val / 128, by have : (y 2).val < 1024 := (y 2).isLt; omega⟩
    attn (headQK Q (y 0) h) (headQK K (y 0) h) (headV V (y 0) h) (y 1).val ((y 2).val % 128)

/-- Pieces which agree with the attention, read back where one of them covers. -/
theorem read_pieces (L : List (View.Piece (Elt Ideal) S1x4096x128 .bf16)) (x0 x1 : FVec Ideal S1x4096x256 .bf16)
    (x2 : FVec Ideal S1x4096x128 .bf16) (h : ∀ p ∈ L, ∀ x : p.1.shape.Idx, p.2 x = attn x0 x1 x2 (p.1.emb x 1) (p.1.emb x 2))
    (y : S1x4096x128.Idx) (hy : ∃ p ∈ L, y ∈ p.1.set) : View.canon (Val := Elt Ideal) L y = attn x0 x1 x2 (y 1) (y 2) :=
  View.canon_apply_of_pieces (Val := Elt Ideal) (fun y => attn x0 x1 x2 (y 1) (y 2)) L h y hy

/-- What the body leaves in the output block is the attention of its rows. -/
theorem out_apply (c : Dev nD) (i : grid0.Coords) (arg2 : Memref sig .tc .vmem S1x4096x256 .bf16) (harg2 : arg2.IsWhole)
    (arg3 : Memref sig .tc .vmem S1x4096x256 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S2x512x128 .f32) (harg6 : arg6.IsWhole)
    (arg7 : Memref sig .tc .vmem S2x512x256 .f32) (harg7 : arg7.IsWhole)
    (x0 x1 : FVec Ideal S1x4096x256 .bf16) (x2 : FVec Ideal S1x4096x128 .bf16) (y : S1x4096x128.Idx) :
    out0_A_3 (F := Ideal) c i arg2 harg2 arg3 harg3 arg4 harg4 arg5 harg5 arg6 harg6 arg7 harg7 x0 x1 x2 y
      = attn x0 x1 x2 (y 1) (y 2) := by
  have hp := pieces c i arg2 harg2 arg3 harg3 arg4 harg4 arg5 harg5 arg6 harg6 arg7 harg7 x0 x1 x2
  have hc := cover0_A_3 (F := Ideal) c i arg2 harg2 arg3 harg3 arg4 harg4 arg5 harg5 arg6 harg6 arg7 harg7 x0 x1 x2 y
  have h1 := read_pieces (kernelRun0_A (F := Ideal) c i arg2 harg2 arg3 harg3 arg4 harg4 arg5 harg5 arg6 harg6 arg7 harg7 x0 x1 x2).1 x0 x1 x2 hp y hc
  have h2 := View.read_writes_junk_eq_canon (Val := Elt Ideal) VO0_3 (kernelRun0_A (F := Ideal) c i arg2 harg2 arg3 harg3 arg4 harg4 arg5 harg5 arg6 harg6 arg7 harg7 x0 x1 x2).1
  exact (congrFun h2 y).trans h1

variable (m : (ℓ : Loc nD τ sig) → Buf (Elt Ideal) ℓ)

/-- The blocks of a grid point: its batch and its head. -/
theorem idx : ∀ t : Fin cfg0.N,
    win0_0.index t = ![t.val / 8, 0, t.val % 8] ∧ win0_1.index t = ![t.val / 8, 0, t.val % 8]
      ∧ win0_2.index t = ![t.val / 8, 0, t.val % 8] ∧ win0_3.index t = ![t.val / 8, 0, t.val % 8] ∧ t.val / 8 < 8 :=
  (by decide +kernel : ∀ t : Fin grid0.N, _)

/-- The queries a point sees. -/
theorem block0 (c : Dev nD) (t : Fin cfg0.N) :
    iblk m c 0 t = headQK (m ((c : Thread nD τ).loc main_arg0)) ⟨t.val / 8, (idx t).2.2.2.2⟩ ⟨t.val % 8, Nat.mod_lt _ (by decide)⟩ := by
  funext x
  unfold headQK
  blk_ext [iblk, V, idx t]

/-- The keys a point sees. -/
theorem block1 (c : Dev nD) (t : Fin cfg0.N) :
    iblk m c 1 t = headQK (m ((c : Thread nD τ).loc main_arg1)) ⟨t.val / 8, (idx t).2.2.2.2⟩ ⟨t.val % 8, Nat.mod_lt _ (by decide)⟩ := by
  funext x
  unfold headQK
  blk_ext [iblk, V, idx t]

/-- The values a point sees. -/
theorem block2 (c : Dev nD) (t : Fin cfg0.N) :
    iblk m c 2 t = headV (m ((c : Thread nD τ).loc main_arg2)) ⟨t.val / 8, (idx t).2.2.2.2⟩ ⟨t.val % 8, Nat.mod_lt _ (by decide)⟩ := by
  funext x
  unfold headV
  blk_ext [iblk, V, idx t]

/-- The result array after the run is the attention of the arguments. -/
theorem final (c : Dev nD) : (dats m 0 c).arrAt 3 cfg0.N
    = attnAll (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, outsAt0, out_apply, block0, block1, block2, attnAll]
  have h0 : ((win0_3.blk t).view.emb y) 0 = (⟨t.val / 8, (idx t).2.2.2.2⟩ : Fin 8) := Fin.ext (by blk_simp [idx t])
  have h1 : (((win0_3.blk t).view.emb y) 1 : ℕ) = y 1 := by blk_simp [idx t]
  have h2 : (((win0_3.blk t).view.emb y) 2 : ℕ) = t.val % 8 * 128 + y 2 := by blk_simp [idx t]
  have hy : (y 2 : ℕ) < 128 := (y 2).isLt
  have h3 : (⟨(((win0_3.blk t).view.emb y) 2 : ℕ) / 128, by omega⟩ : Fin 8) = ⟨t.val % 8, Nat.mod_lt _ (by decide)⟩ :=
    Fin.ext (show (((win0_3.blk t).view.emb y) 2 : ℕ) / 128 = t.val % 8 by omega)
  have h4 : (((win0_3.blk t).view.emb y) 2 : ℕ) % 128 = y 2 := by omega
  dsimp only
  rw [h4, h1, h0, h3]

end Cert.Attn

end
-- ==== Proof.Attn.Reference.lean ====
/- What the reference computes, read at an index: the masked scores of a row, their maximum, the softmax's weights, and the
   weighted sum of the values. -/
module

public import proofs.«01_k».proof.Proof.Attn.Online
public import proofs.«01_k».proof.Proof.Gen.ReferenceIdeal.Run
public import Idealize.ShloMosaic.Lib.Pointwise

@[expose] public section

set_option maxRecDepth 16384

noncomputable section

namespace Cert.Attn.Ref

open Idealize.ShloMosaic Idealize.ShloMosaic.TcCoe Idealize.SL.Sem Finset
open Cert.ReferenceIdeal Cert.ReferenceIdeal.Gen

/-- The chunk of every position. -/
def chunks : IVec S4096 32 :=
  Host.divsi (iotaInDim S4096 32 0) (broadcastInDim S4096 ![] bcast_S_S4096 (constantI S_ 32 64#32))

/-- Where the key's chunk is at most the query's. -/
def seen : IVec S4096x4096 1 :=
  cmpi .sle
    (broadcastInDim S4096x4096 ![0, 1] bcast_S1x4096_S4096x4096_0_1 (broadcastInDim S1x4096 ![1] bcast_S4096_S1x4096_1 chunks))
    (broadcastInDim S4096x4096 ![0, 1] bcast_S4096x1_S4096x4096_0_1 (broadcastInDim S4096x1 ![0] bcast_S4096_S4096x1_0 chunks))

/-- The queries or keys by batch and head. -/
def heads (X : FVec Ideal S8x4096x2048 .bf16) : FVec Ideal S8x8x4096x256 .f32 :=
  transpose S8x8x4096x256 [0, 2, 1, 3] (shapeCast S8x4096x8x256 (extf .f32 X bitsLt_bf16_f32) shapeCasts_S8x4096x2048_S8x4096x8x256)
    transposes_S8x4096x8x256_S8x8x4096x256_0_2_1_3

/-- The values by batch and head. -/
def vheads (X : FVec Ideal S8x4096x1024 .bf16) : FVec Ideal S8x8x4096x128 .f32 :=
  transpose S8x8x4096x128 [0, 2, 1, 3] (shapeCast S8x4096x8x128 (extf .f32 X bitsLt_bf16_f32) shapeCasts_S8x4096x1024_S8x4096x8x128)
    transposes_S8x4096x8x128_S8x8x4096x128_0_2_1_3

/-- The masked scores. -/
def scores (Q K : FVec Ideal S8x4096x2048 .bf16) : FVec Ideal S8x8x4096x4096 .f32 :=
  select (broadcastInDim S8x8x4096x4096 ![2, 3] bcast_S4096x4096_S8x8x4096x4096_2_3 seen)
    (mulf (Host.dotGeneral dot_S8x8x4096x256_S8x8x4096x256_S8x8x4096x4096_3_3_2_2_01_01 none (heads Q) (heads K))
      (broadcastInDim S8x8x4096x4096 ![] bcast_S_S8x8x4096x4096 (Host.log (constant S_ .f32 0x40000000#32))))
    (broadcastInDim S8x8x4096x4096 ![] bcast_S_S8x8x4096x4096 (id (constant S_ .f32 0xFF800000#32)))

/-- The maximum of every row. -/
def tops (S : FVec Ideal S8x8x4096x4096 .f32) : FVec Ideal S8x8x4096 .f32 :=
  maximumf (broadcastInDim S8x8x4096 ![] bcast_S_S8x8x4096 (constant S_ .f32 0xFF800000#32))
    (Host.reduce FloatOps.maximumf S (constant S_ .f32 0xFF800000#32) reducesTo_S8x8x4096x4096_S8x8x4096_d3 h_S_)

/-- A number of every row, at every key. -/
def spread (T : FVec Ideal S8x8x4096 .f32) : FVec Ideal S8x8x4096x4096 .f32 :=
  broadcastInDim S8x8x4096x4096 ![0, 1, 2, 3] bcast_S8x8x4096x1_S8x8x4096x4096_0_1_2_3
    (broadcastInDim S8x8x4096x1 ![0, 1, 2] bcast_S8x8x4096_S8x8x4096x1_0_1_2 T)

/-- The exponentials of the scores against their row's maximum. -/
def exps (S : FVec Ideal S8x8x4096x4096 .f32) : FVec Ideal S8x8x4096x4096 .f32 := Host.exp (subf S (spread (tops S)))

/-- The sum of every row. -/
def sums (E : FVec Ideal S8x8x4096x4096 .f32) : FVec Ideal S8x8x4096 .f32 :=
  Host.reduceAdd E (constant S_ .f32 0x00000000#32) reducesTo_S8x8x4096x4096_S8x8x4096_d3 h_S_

/-- The softmax's weights. -/
def weights (E : FVec Ideal S8x8x4096x4096 .f32) : FVec Ideal S8x8x4096x4096 .f32 := Host.divf E (spread (sums E))

/-- The weighted sums of the values, the heads side by side again. -/
def result (W : FVec Ideal S8x8x4096x4096 .f32) (V : FVec Ideal S8x4096x1024 .bf16) : FVec Ideal S8x4096x1024 .bf16 :=
  truncf .bf16 (shapeCast S8x4096x1024 (transpose S8x4096x8x128 [0, 2, 1, 3]
    (Host.dotGeneral dot_S8x8x4096x4096_S8x8x4096x128_S8x8x4096x128_3_2_2_3_01_01 none W (vheads V))
    transposes_S8x8x4096x128_S8x4096x8x128_0_2_1_3) shapeCasts_S8x4096x8x128_S8x4096x1024) bitsLt_bf16_f32

/-- The reference's result is the composition of these steps. -/
theorem result_eq (m : (ℓ : Loc nD τ sig) → Buf (Elt Ideal) ℓ) (c : Dev nD) :
    Cert.ReferenceIdeal.Value.res_out0 m c
      = result (weights (exps (scores (m ((c.tc : Thread nD τ).loc main_arg0)) (m ((c.tc : Thread nD τ).loc main_arg1)))))
          (m ((c.tc : Thread nD τ).loc main_arg2)) := rfl

/-- The chunk of a position. -/
theorem chunks_apply (i : Fin 4096) : chunks (ix1 i) = BitVec.ofNat 32 (i / 64) := by
  have h : ∀ i : Fin 4096, IntOp.divsi .host (BitVec.ofNat 32 i.val) 64#32 = BitVec.ofNat 32 (i.val / 64) := by decide +kernel
  exact h i

/-- Comparing two chunks as words. -/
theorem sle_chunk : ∀ a b : Fin 64, (IntOp.cmpi .sle (BitVec.ofNat 32 a) (BitVec.ofNat 32 b) = 1#1) ↔ a ≤ b := by
  decide +kernel

/-- Whether a query sees a key. -/
theorem seen_apply (q j : Fin 4096) : seen (ix2 q j) = 1#1 ↔ (j : ℕ) / 64 ≤ q / 64 := by
  have e : seen (ix2 q j) = IntOp.cmpi .sle (chunks (ix1 j)) (chunks (ix1 q)) := by
    pointwise [seen]
  rw [e, chunks_apply, chunks_apply]
  exact (sle_chunk ⟨j / 64, by omega⟩ ⟨q / 64, by omega⟩).trans Iff.rfl

/-- The queries or keys by batch and head, at an index. -/
theorem heads_apply (X : FVec Ideal S8x4096x2048 .bf16) (b h : Fin 8) (q : Fin 4096) (d : Fin 256) :
    heads X (ix4 b h q d) = X (ix3 b q ⟨256 * h + d, by omega⟩) := by
  pointwise [heads]
  exact congrArg (fun z => X (ix3 b q z)) (Fin.ext (by show (h : ℕ) * 256 + d = 256 * h + d; omega))

/-- The values by batch and head, at an index. -/
theorem vheads_apply (X : FVec Ideal S8x4096x1024 .bf16) (b h : Fin 8) (q : Fin 4096) (d : Fin 128) :
    vheads X (ix4 b h q d) = X (ix3 b q ⟨128 * h + d, by omega⟩) := by
  pointwise [vheads]
  exact congrArg (fun z => X (ix3 b q z)) (Fin.ext (by show (h : ℕ) * 128 + d = 128 * h + d; omega))

/-- The masked scores, at an index. -/
theorem scores_apply (Q K : FVec Ideal S8x4096x2048 .bf16) (b h : Fin 8) (q j : Fin 4096) :
    scores Q K (ix4 b h q j)
      = if (j : ℕ) / 64 ≤ q / 64 then (∑ d : Fin 256, heads Q (ix4 b h q d) * heads K (ix4 b h j d)) * (Real.log 2 : ℝ) else ⊥ := by
  have e : scores Q K (ix4 b h q j) = Scalar.select (seen (ix2 q j))
      ((∑ d : Fin 256, heads Q (ix4 b h q d) * heads K (ix4 b h j d)) * Ideal.log (Ideal.ofBits FTy.f32 0x40000000#32))
      (Ideal.ofBits FTy.f32 0xFF800000#32) := by
    pointwise [scores]
    rfl
  rw [e, log_two, ofBits_neg_inf]
  by_cases hs : (j : ℕ) / 64 ≤ q / 64
  · rw [if_pos hs, (seen_apply q j).2 hs]; rfl
  · rw [if_neg hs, ValueIdx.eq_zero_of_ne_one (fun h => hs ((seen_apply q j).1 h))]; rfl

/-- Dropping the last axis of the scores gives their rows. -/
theorem lifts : S8x8x4096x4096.Reduces [3] S8x8x4096 := by decide

/-- Inserting a key's coordinate. -/
theorem lift_eq (b h : Fin 8) (q j : Fin 4096) : lifts.lift (ix3 b h q : S8x8x4096.Idx) j = (ix4 b h q j : S8x8x4096x4096.Idx) := by
  funext c
  fin_cases c <;> rfl

/-- Two folds of one operation from one start over equal terms. -/
theorem fold_eq (op : EReal → EReal → EReal) [Std.Commutative op] [Std.Associative op] (ho : op = max) {n k : ℕ} (h : n = k)
    (b : EReal) (hb : b = ⊥) (f : Fin n → EReal) (g : Fin k → EReal) (hfg : ∀ i, f i = g (i.cast h)) :
    Finset.univ.fold op b f = Finset.univ.fold max ⊥ g := by
  subst h ho hb
  exact congrArg (fun f => Finset.univ.fold max ⊥ f) (funext hfg)

/-- The maximum of a row, before its comparison with minus infinity. -/
theorem reduce_apply (S : FVec Ideal S8x8x4096x4096 .f32) (b h : Fin 8) (q : Fin 4096) :
    Host.reduce FloatOps.maximumf S (constant S_ .f32 0xFF800000#32) reducesTo_S8x8x4096x4096_S8x8x4096_d3 h_S_ (ix3 b h q)
      = Finset.univ.fold max ⊥ fun j : Fin 4096 => S (ix4 b h q j) := by
  refine (Host.reduce_eq_fold_single (s := S8x8x4096x4096) (t := S8x8x4096) _ _ _ _ lifts _ _).trans ?_
  exact fold_eq _ rfl (show S8x8x4096x4096.size 3 = 4096 from rfl) _ ofBits_neg_inf _ _ fun j => congrArg S (lift_eq b h q j)

/-- The comparison with minus infinity changes nothing. -/
theorem max_apply (T : FVec Ideal S8x8x4096 .f32) (i : S8x8x4096.Idx) :
    maximumf (broadcastInDim S8x8x4096 ![] bcast_S_S8x8x4096 (constant S_ .f32 0xFF800000#32)) T i = T i := by
  show max (Ideal.ofBits FTy.f32 0xFF800000#32) _ = _
  rw [ofBits_neg_inf]
  exact bot_sup_eq _

/-- The maximum of a row. -/
theorem tops_apply (S : FVec Ideal S8x8x4096x4096 .f32) (b h : Fin 8) (q : Fin 4096) :
    tops S (ix3 b h q) = Finset.univ.fold max ⊥ fun j : Fin 4096 => S (ix4 b h q j) :=
  (max_apply _ _).trans (reduce_apply S b h q)

/-- A row's number is the same at every key. -/
theorem spread_apply (T : FVec Ideal S8x8x4096 .f32) (b h : Fin 8) (q j : Fin 4096) : spread T (ix4 b h q j) = T (ix3 b h q) := by
  pointwise [spread]

/-- The exponentials, at an index. -/
theorem exps_apply (S : FVec Ideal S8x8x4096x4096 .f32) (b h : Fin 8) (q j : Fin 4096) :
    exps S (ix4 b h q j) = Ideal.exp (S (ix4 b h q j) - tops S (ix3 b h q)) := by
  show Ideal.exp (S (ix4 b h q j) - spread (tops S) (ix4 b h q j)) = _
  rw [spread_apply]

/-- The sum of a row. -/
theorem sums_apply (E : FVec Ideal S8x8x4096x4096 .f32) (b h : Fin 8) (q : Fin 4096) :
    sums E (ix3 b h q) = ∑ j : Fin 4096, E (ix4 b h q j) := by
  pointwise [sums]

/-- The softmax's weights, at an index. -/
theorem weights_apply (E : FVec Ideal S8x8x4096x4096 .f32) (b h : Fin 8) (q j : Fin 4096) :
    weights E (ix4 b h q j) = Ideal.div (E (ix4 b h q j)) (∑ j : Fin 4096, E (ix4 b h q j)) := by
  show Ideal.div (E (ix4 b h q j)) (spread (sums E) (ix4 b h q j)) = _
  rw [spread_apply, sums_apply]

/-- The weighted sums of the values, at an index. -/
theorem result_apply (W : FVec Ideal S8x8x4096x4096 .f32) (V : FVec Ideal S8x4096x1024 .bf16) (b : Fin 8) (q : Fin 4096) (e : Fin 1024) :
    result W V (ix3 b q e) = ∑ j : Fin 4096, W (ix4 b ⟨e / 128, by omega⟩ q j) * vheads V (ix4 b ⟨e / 128, by omega⟩ j ⟨e % 128, by omega⟩) := by
  pointwise [result]

end Cert.Attn.Ref

end
-- ==== Proof.Attn.Equal.lean ====
/- The reference's attention is the kernel's, for finite queries and keys. -/
module

public import proofs.«01_k».proof.Proof.Attn.Array
public import proofs.«01_k».proof.Proof.Attn.Reference
public import proofs.«01_k».proof.Proof.Gen.Pre_finite
public import Idealize.ShloMosaic.Lib.ReduceAll

@[expose] public section

set_option maxRecDepth 16384

noncomputable section

namespace Cert.Attn

open Idealize.ShloMosaic Idealize.ShloMosaic.TcCoe Idealize.SL.Sem Finset

/-- A sum of products of reals is a real. -/
theorem sum_real {n : ℕ} (f g : Fin n → EReal) (hf : ∀ d, ∃ r : ℝ, f d = r) (hg : ∀ d, ∃ r : ℝ, g d = r) :
    ∃ r : ℝ, ∑ d, f d * g d = r := by
  choose a ha using hf
  choose b hb using hg
  refine ⟨∑ d, a d * b d, ?_⟩
  rw [coe_sum]
  exact Finset.sum_congr rfl fun d _ => by rw [ha, hb, EReal.coe_mul]

section
variable (Q K : FVec Ideal Cert.KernelIdeal.S8x4096x2048 .bf16) (V : FVec Ideal Cert.KernelIdeal.S8x4096x1024 .bf16)
variable (b h : Fin 8) (q : Fin 4096)

/-- The masked score of one key, as the reference forms it. -/
theorem score_eq (j : Fin 4096) :
    Ref.scores Q K (ix4 b h q j) = mscore (headQK Q b h) (headQK K b h) q j * (Real.log 2 : ℝ) := by
  rw [Ref.scores_apply, mscore]
  by_cases hs : (j : ℕ) / 64 ≤ q / 64
  · rw [if_pos hs, if_pos hs, score, dif_pos ⟨q.isLt, j.isLt⟩]
    refine congrArg (fun z : EReal => z * (Real.log 2 : ℝ)) (Finset.sum_congr rfl fun d _ => ?_)
    rw [Ref.heads_apply, Ref.heads_apply]
    rfl
  · rw [if_neg hs, if_neg hs, EReal.bot_mul_coe_of_pos (Real.log_pos (by norm_num))]

/-- The value of one key at one column, as the reference takes it. -/
theorem value_eq (j : Fin 4096) (c : Fin 128) : Ref.vheads V (ix4 b h j c) = vcol (headV V b h) c j := by
  rw [Ref.vheads_apply, vcol, dif_pos ⟨c.isLt, j.isLt⟩]
  rfl

/-- The exponential of one key, as the reference forms it. -/
theorem exp_eq (j : Fin 4096) :
    Ref.exps (Ref.scores Q K) (ix4 b h q j)
      = Ideal.exp (mscore (headQK Q b h) (headQK K b h) q j * (Real.log 2 : ℝ)
          - rowMax (fun j => mscore (headQK Q b h) (headQK K b h) q j * (Real.log 2 : ℝ)) 4096) := by
  rw [Ref.exps_apply, Ref.tops_apply, score_eq, ← fold_fin]
  congr 3
  funext j
  exact score_eq Q K b h q j

/-- One entry of the reference's result is the kernel's, where the scores are as the row's mathematics asks. -/
theorem entry (c : Fin 128) (ht : ∀ j < 4096, mscore (headQK Q b h) (headQK K b h) q j ≠ ⊤)
    (hb : ∃ j < 4096, mscore (headQK Q b h) (headQK K b h) q j ≠ ⊥) :
    ∑ j : Fin 4096, Ref.weights (Ref.exps (Ref.scores Q K)) (ix4 b h q j) * Ref.vheads V (ix4 b h j c)
      = attn (headQK Q b h) (headQK K b h) (headV V b h) q c := by
  rw [attn, ← softmax_row _ _ 4096 ht hb, ← Fin.sum_univ_eq_sum_range]
  refine Finset.sum_congr rfl fun j _ => ?_
  rw [Ref.weights_apply, value_eq, exp_eq, ← Fin.sum_univ_eq_sum_range]
  congr 2
  exact Finset.sum_congr rfl fun j _ => exp_eq Q K b h q j

/-- With finite queries and keys a score is a real. -/
theorem score_real (hQ : ∀ i, ∃ r : ℝ, Q i = r) (hK : ∀ i, ∃ r : ℝ, K i = r) (j : ℕ) (hj : j < 4096) :
    ∃ r : ℝ, score (headQK Q b h) (headQK K b h) q j = r := by
  rw [score, dif_pos ⟨q.isLt, hj⟩]
  exact sum_real _ _ (fun d => hQ _) (fun d => hK _)

end

/-- For finite queries and keys the reference's attention is the kernel's. -/
theorem agree (Q K : FVec Ideal Cert.KernelIdeal.S8x4096x2048 .bf16) (V : FVec Ideal Cert.KernelIdeal.S8x4096x1024 .bf16)
    (hQ : ∀ i, ∃ r : ℝ, Q i = r) (hK : ∀ i, ∃ r : ℝ, K i = r) :
    Ref.result (Ref.weights (Ref.exps (Ref.scores Q K))) V = attnAll Q K V := by
  have key : ∀ (b : Fin 8) (q : Fin 4096) (e : Fin 1024),
      Ref.result (Ref.weights (Ref.exps (Ref.scores Q K))) V (ix3 b q e) = attnAll Q K V (ix3 b q e) := by
    intro b q e
    rw [Ref.result_apply]
    refine entry Q K V b _ q _ (fun j hj => ?_) ⟨q, q.isLt, ?_⟩
    · obtain ⟨r, hr⟩ := score_real Q K b ⟨e / 128, by omega⟩ q hQ hK j hj
      rw [mscore, hr]
      split
      · exact EReal.coe_ne_top r
      · exact bot_ne_top
    · obtain ⟨r, hr⟩ := score_real Q K b ⟨e / 128, by omega⟩ q hQ hK q q.isLt
      rw [mscore, if_pos le_rfl, hr]
      exact EReal.coe_ne_bot r
  funext y
  rw [ValueIdx.eq_ix3 y]
  exact key _ _ _

/-- A number whose absolute value is below infinity is a real. -/
theorem real_of_abs_lt (x : EReal) (hx : FloatOps.cmpf (F := Ideal) (φ := .f32) .olt (FloatOps.absf (F := Ideal) (φ := .f32) x) (Ideal.ofBits .f32 0x7F800000#32) = 1#1) :
    ∃ r : ℝ, x = r := by
  have hi : Ideal.ofBits .f32 0x7F800000#32 = (⊤ : EReal) := by simp [Ideal.ofBits, Ideal.ieee]
  rw [hi] at hx
  have hx' : Ideal.cmp .olt (max x (-x)) ⊤ = 1#1 := hx
  unfold Ideal.cmp at hx'
  induction x with
  | bot => exact absurd hx' (by simp)
  | top => exact absurd hx' (by simp)
  | coe r => exact ⟨r, rfl⟩

open Cert.Pre_finite in
/-- The precondition says that every query and key is a real. -/
theorem real_of_pre (Q K : FVec Ideal Cert.KernelIdeal.S8x4096x2048 .bf16) (V : FVec Ideal Cert.KernelIdeal.S8x4096x1024 .bf16)
    (hp : Cert.Pre_finite.fn (F := Ideal) Q K V = fun _ => 1#1) : (∀ i, ∃ r : ℝ, Q i = r) ∧ (∀ i, ∃ r : ℝ, K i = r) := by
  have h0 := congrFun hp ix0
  unfold Cert.Pre_finite.fn at h0
  dsimp only at h0
  have hand : ∀ a b : BitVec 1, a &&& b = 1#1 → a = 1#1 ∧ b = 1#1 := by decide
  obtain ⟨hq, hk⟩ := hand _ _ h0
  refine ⟨fun i => ?_, fun i => ?_⟩
  · exact real_of_abs_lt _ (Host.reduce_andi_all _ _ _ _ _ hq i)
  · exact real_of_abs_lt _ (Host.reduce_andi_all _ _ _ _ _ hk i)

end Cert.Attn

end
-- ==== Proof.Tail.Row.lean ====
/- The row-level mathematics of a layer's tail: the root-mean-square factor of a row is a nonnegative number, so it may be
   taken out of the sums of products; the logistic function by the hyperbolic tangent; sums cut into blocks. -/
module

public import Idealize.ShloMosaic.PureOps
public import Idealize.ShloMosaic.Lib.Pointwise

@[expose] public section

noncomputable section

namespace Cert.Row

open Idealize.ShloMosaic Finset

/-- The factor of a sum of squares: one over the root of its mean, the number `n` of the terms and the small number `e` added
    before the root as the programs' constants. -/
def scale (n e s : EReal) : EReal := Ideal.rsqrt (Ideal.div s n + e)

/-- The number 1024 of the constants. -/
theorem ofBits_1024 : Ideal.ofBits .f32 0x44800000#32 = ((1024 : ℝ) : EReal) := by
  simp [Ideal.ofBits, Ideal.ieee, -EReal.coe_mul]; norm_num

/-- The number 512 of the constants. -/
theorem ofBits_512 : Ideal.ofBits .f32 0x44000000#32 = ((512 : ℝ) : EReal) := by
  simp [Ideal.ofBits, Ideal.ieee, -EReal.coe_mul]; norm_num

/-- The half of the constants. -/
theorem ofBits_half : Ideal.ofBits .f32 0x3F000000#32 = ((1 / 2 : ℝ) : EReal) := by
  simp [Ideal.ofBits, Ideal.ieee, -EReal.coe_mul]; norm_num

/-- The one of the constants. -/
theorem ofBits_one : Ideal.ofBits .f32 0x3F800000#32 = ((1 : ℝ) : EReal) := by
  simp [Ideal.ofBits, Ideal.ieee, -EReal.coe_mul]; norm_num

/-- The small number added before the root is positive. -/
theorem ofBits_eps : ∃ e : ℝ, 0 < e ∧ Ideal.ofBits .f32 0x358637BD#32 = (e : EReal) := by
  refine ⟨_, ?_, by simp [Ideal.ofBits, Ideal.ieee, -EReal.coe_mul]; rfl⟩
  positivity

/-- A square is not negative, at the infinities too. -/
theorem sq_nonneg (x : EReal) : 0 ≤ x * x := by
  induction x with
  | bot => simp
  | top => simp
  | coe r => exact_mod_cast mul_self_nonneg r

/-- The factor of a nonnegative sum is a nonnegative number. -/
theorem scale_real {n e s : EReal} (hn : ∃ r : ℝ, 0 < r ∧ n = r) (he : ∃ r : ℝ, 0 < r ∧ e = r) (hs : 0 ≤ s) :
    ∃ r : ℝ, 0 ≤ r ∧ scale n e s = r := by
  obtain ⟨n, hn, rfl⟩ := hn
  obtain ⟨e, he, rfl⟩ := he
  have hn0 : ((n : ℝ) : EReal) ≠ 0 := by exact_mod_cast hn.ne'
  induction s with
  | bot => exact absurd hs (by simp)
  | top =>
    refine ⟨0, le_refl _, ?_⟩
    have h : (⊤ : EReal) * ((n : ℝ) : EReal)⁻¹ = ⊤ := by
      rw [← EReal.coe_inv]
      exact EReal.top_mul_coe_of_pos (inv_pos.2 hn)
    rw [scale, Ideal.div, if_neg hn0, h, EReal.top_add_coe]
    rfl
  | coe s =>
    have hs' : 0 ≤ s := by exact_mod_cast hs
    have hp : 0 < s * n⁻¹ + e := by positivity
    refine ⟨(Real.sqrt (s * n⁻¹ + e))⁻¹, by positivity, ?_⟩
    rw [scale, Ideal.div, if_neg hn0, ← EReal.coe_inv, ← EReal.coe_mul, ← EReal.coe_add]
    show (if s * n⁻¹ + e < 0 then ⊥ else if s * n⁻¹ + e = 0 then ⊤ else (((Real.sqrt (s * n⁻¹ + e))⁻¹ : ℝ) : EReal)) = _
    rw [if_neg (not_lt.2 hp.le), if_neg hp.ne']

/-- A sum of squares is not negative. -/
theorem sumsq_nonneg {n : ℕ} (f : Fin n → EReal) : 0 ≤ ∑ k, f k * f k := Finset.sum_nonneg fun k _ => sq_nonneg (f k)

/-- A nonnegative number may be taken out of a finite sum on the right, whatever its terms. -/
theorem sum_mul_real {ι : Type*} (t : Finset ι) (f : ι → EReal) {x : EReal} (hx : ∃ r : ℝ, 0 ≤ r ∧ x = r) :
    (∑ k ∈ t, f k) * x = ∑ k ∈ t, f k * x := by
  classical
  obtain ⟨r, hr, rfl⟩ := hx
  induction t using Finset.induction_on with
  | empty => simp
  | insert a t ha ih =>
    rw [sum_insert ha, sum_insert ha, EReal.right_distrib_of_nonneg_of_ne_top (by exact_mod_cast hr) (EReal.coe_ne_top r), ih]

/-- The factor may be applied after the products are summed. -/
theorem sum_scaled {n : ℕ} (h g w : Fin n → EReal) {x : EReal} (hx : ∃ r : ℝ, 0 ≤ r ∧ x = r) :
    (∑ k, h k * g k * w k) * x = ∑ k, h k * x * g k * w k := by
  rw [sum_mul_real _ _ hx]
  refine Finset.sum_congr rfl fun k _ => ?_
  rw [mul_right_comm (h k * g k), mul_right_comm (h k)]

/-- The logistic function on a real, by the hyperbolic tangent. -/
theorem half_tanh (r : ℝ) : 1 / 2 * Real.tanh (1 / 2 * r) + 1 / 2 = (1 + Real.exp (-r))⁻¹ := by
  have h1 : Real.exp (-r) = Real.exp (-(1 / 2 * r)) * Real.exp (-(1 / 2 * r)) := by
    rw [← Real.exp_add]
    congr 1
    ring
  have h2 : Real.exp (-(1 / 2 * r)) * Real.exp (1 / 2 * r) = 1 := by
    rw [← Real.exp_add]
    simp
  have ha : 0 < Real.exp (1 / 2 * r) := Real.exp_pos _
  have hb : 0 < Real.exp (-(1 / 2 * r)) := Real.exp_pos _
  rw [Real.tanh_eq_sinh_div_cosh, Real.sinh_eq, Real.cosh_eq, h1]
  generalize Real.exp (1 / 2 * r) = a at *
  generalize Real.exp (-(1 / 2 * r)) = b at *
  have hab : 0 < a + b := by positivity
  have hbb : 0 < 1 + b * b := by positivity
  field_simp
  nlinarith [h2]

/-- Half the hyperbolic tangent of the half, and a half, is the logistic function, at the infinities too. -/
theorem tanh_logistic (x : EReal) :
    Ideal.ofBits .f32 0x3F000000#32 * Ideal.tanh (Ideal.ofBits .f32 0x3F000000#32 * x) + Ideal.ofBits .f32 0x3F000000#32
      = Ideal.div (Ideal.ofBits .f32 0x3F800000#32) (Ideal.ofBits .f32 0x3F800000#32 + Ideal.exp (-x)) := by
  rw [ofBits_half, ofBits_one]
  induction x with
  | bot =>
    rw [EReal.coe_mul_bot_of_pos (by norm_num), EReal.neg_bot]
    show ((1 / 2 : ℝ) : EReal) * ((-1 : ℝ) : EReal) + ((1 / 2 : ℝ) : EReal) = Ideal.div ((1 : ℝ) : EReal) (((1 : ℝ) : EReal) + ⊤)
    rw [EReal.coe_add_top, Ideal.div, if_neg (by simp), EReal.inv_top, mul_zero, ← EReal.coe_mul, ← EReal.coe_add]
    norm_num
  | top =>
    rw [EReal.coe_mul_top_of_pos (by norm_num), EReal.neg_top]
    show ((1 / 2 : ℝ) : EReal) * ((1 : ℝ) : EReal) + ((1 / 2 : ℝ) : EReal) = Ideal.div ((1 : ℝ) : EReal) (((1 : ℝ) : EReal) + ((0 : ℝ) : EReal))
    rw [← EReal.coe_mul, ← EReal.coe_add, ← EReal.coe_add, Ideal.div, if_neg (by norm_num), ← EReal.coe_inv, ← EReal.coe_mul]
    norm_num
  | coe r =>
    rw [← EReal.coe_mul, ← EReal.coe_neg]
    show ((1 / 2 : ℝ) : EReal) * ((Real.tanh (1 / 2 * r) : ℝ) : EReal) + ((1 / 2 : ℝ) : EReal)
      = Ideal.div ((1 : ℝ) : EReal) (((1 : ℝ) : EReal) + ((Real.exp (-r) : ℝ) : EReal))
    have h0 : (1 + Real.exp (-r) : ℝ) ≠ 0 := by positivity
    rw [← EReal.coe_mul, ← EReal.coe_add, ← EReal.coe_add, Ideal.div, if_neg (by exact_mod_cast h0), ← EReal.coe_inv, ← EReal.coe_mul,
      one_mul, half_tanh]

/-- A sum cut into blocks of one length. -/
theorem sum_blocks (m n : ℕ) (f : Fin (m * n) → EReal) :
    ∑ i, f i = ∑ c : Fin m, ∑ d : Fin n, f ⟨n * c + d, by
      have h := (finProdFinEquiv (c, d)).isLt
      have e : ((finProdFinEquiv (c, d) : Fin (m * n)) : ℕ) = d + n * c := rfl
      omega⟩ := by
  rw [← finProdFinEquiv.sum_comp, Fintype.sum_prod_type]
  refine Finset.sum_congr rfl fun c _ => Finset.sum_congr rfl fun d _ => congrArg f (Fin.ext ?_)
  show (d : ℕ) + n * c = n * c + d
  omega

/-- The factor of a row of 1024 numbers. -/
def inv (h : Fin 1024 → EReal) : EReal :=
  scale (Ideal.ofBits .f32 0x44800000#32) (Ideal.ofBits .f32 0x358637BD#32) (∑ k, h k * h k)

/-- The norm's factor is a real number that is not negative. -/
theorem inv_real (h : Fin 1024 → EReal) : ∃ r : ℝ, 0 ≤ r ∧ inv h = r :=
  scale_real ⟨1024, by norm_num, ofBits_1024⟩ ofBits_eps (sumsq_nonneg h)

/-- The normed row against a column of weights. -/
def normed (h g w : Fin 1024 → EReal) : EReal := ∑ k, h k * inv h * g k * w k

/-- The factor applied after the sum. -/
theorem normed_eq (h g w : Fin 1024 → EReal) : (∑ k, h k * g k * w k) * inv h = normed h g w := sum_scaled h g w (inv_real h)

/-- The square of the positive part. -/
def sqpos (x : EReal) : EReal := max x 0 * max x 0

/-- The row after the squared-ReLU network. -/
def mlp (h g : Fin 1024 → EReal) (w1 : Fin 1024 → Fin 4096 → EReal) (w2 : Fin 4096 → Fin 1024 → EReal) (j : Fin 1024) : EReal :=
  h j + ∑ d : Fin 4096, sqpos (normed h g fun k => w1 k d) * w2 d j

/-- The row after the gated embedding. -/
def embed (h g : Fin 1024 → EReal) (p : Fin 256 → EReal) (wg : Fin 1024 → Fin 1024 → EReal) (wp : Fin 256 → Fin 1024 → EReal) (j : Fin 1024) :
    EReal :=
  h j + Ideal.div (Ideal.ofBits .f32 0x3F800000#32) (Ideal.ofBits .f32 0x3F800000#32 + Ideal.exp (-normed h g fun k => wg k j))
    * ∑ d, p d * wp d j

/-- Equal arguments give equal results of the network. -/
theorem mlp_congr {h h' g g' : Fin 1024 → EReal} {w1 w1' : Fin 1024 → Fin 4096 → EReal} {w2 w2' : Fin 4096 → Fin 1024 → EReal}
    (eh : h = h') (eg : g = g') (e1 : w1 = w1') (e2 : w2 = w2') : mlp h g w1 w2 = mlp h' g' w1' w2' := by
  rw [eh, eg, e1, e2]

/-- Equal arguments give equal results of the embedding. -/
theorem embed_congr {h h' g g' : Fin 1024 → EReal} {p p' : Fin 256 → EReal} {wg wg' : Fin 1024 → Fin 1024 → EReal}
    {wp wp' : Fin 256 → Fin 1024 → EReal} (eh : h = h') (eg : g = g') (ep : p = p') (e1 : wg = wg') (e2 : wp = wp') (j : Fin 1024) :
    embed h g p wg wp j = embed h' g' p' wg' wp' j := by
  rw [eh, eg, ep, e1, e2]

/-- A function of three arguments at equal arguments. -/
theorem three {α β γ δ : Type*} (f : α → β → γ → δ) {a a' : α} {b b' : β} {c c' : γ} (ha : a = a') (hb : b = b') (hc : c = c') :
    f a b c = f a' b' c' := by
  rw [ha, hb, hc]

/-- The factor of a head's part of a row of four heads. -/
def head (y : Fin 2048 → EReal) (c : Fin 4) : EReal :=
  scale (Ideal.ofBits .f32 0x44000000#32) (Ideal.ofBits .f32 0x358637BD#32)
    (∑ d : Fin 512, y ⟨512 * c + d, by omega⟩ * y ⟨512 * c + d, by omega⟩)

/-- The gated heads against a column of weights. -/
def gatedSum (g y w : Fin 2048 → EReal) : EReal := ∑ k, g k * (y k * head y ⟨k / 512, by omega⟩) * w k

/-- The gated heads' sum, a head after another. -/
theorem gatedSum_heads (g y w : Fin 2048 → EReal) : gatedSum g y w
    = ∑ c : Fin 4, ∑ d : Fin 512, g ⟨512 * c + d, by omega⟩ * (y ⟨512 * c + d, by omega⟩ * head y c) * w ⟨512 * c + d, by omega⟩ := by
  refine (sum_blocks 4 512 fun k : Fin 2048 => g k * (y k * head y ⟨k / 512, by omega⟩) * w k).trans ?_
  refine Finset.sum_congr rfl fun c _ => Finset.sum_congr rfl fun d _ => ?_
  have e : (⟨(512 * c + d) / 512, by omega⟩ : Fin 4) = c := Fin.ext (by show (512 * (c : ℕ) + d) / 512 = c; omega)
  exact congrArg (fun q => g ⟨512 * c + d, by omega⟩ * (y ⟨512 * c + d, by omega⟩ * head y q) * w ⟨512 * c + d, by omega⟩) e

end Cert.Row

end
-- ==== Proof.Tail.RefSteps.lean ====
/- The steps of the reference that both layers' tails take, read at an index. -/
module

public import proofs.«01_k».proof.Proof.Tail.Row
public import proofs.«01_k».proof.Proof.Gen.Reference2Ideal.Run
public import Idealize.ShloMosaic.Lib.Pointwise

@[expose] public section

set_option maxRecDepth 16384

noncomputable section

namespace Cert.Tail.Ref

open Idealize.ShloMosaic Idealize.ShloMosaic.TcCoe Idealize.SL.Sem Finset
open Cert.Reference2Ideal Cert.Reference2Ideal.Gen

/-- The factor of every row. -/
def factor (h : FVec Ideal S8x4096x1024 .f32) : FVec Ideal S8x4096x1 .f32 :=
  Host.rsqrt (addf (Host.divf (broadcastInDim S8x4096x1 ![0, 1] bcast_S8x4096_S8x4096x1_0_1
      (Host.reduceAdd (mulf h h) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32)))

/-- The normed rows. -/
def norm (h : FVec Ideal S8x4096x1024 .f32) (g : FVec Ideal S1024 .f32) : FVec Ideal S8x4096x1024 .f32 :=
  mulf (mulf h (broadcastInDim S8x4096x1024 ![0, 1, 2] bcast_S8x4096x1_S8x4096x1024_0_1_2 (factor h)))
    (broadcastInDim S8x4096x1024 ![0, 1, 2] bcast_S1x1x1024_S8x4096x1024_0_1_2 (broadcastInDim S1x1x1024 ![2] bcast_S1024_S1x1x1024_2 g))

/-- The inner units before their activation. -/
def inner (h : FVec Ideal S8x4096x1024 .f32) (g : FVec Ideal S1024 .f32) (w1 : FVec Ideal S1024x4096 .f32) : FVec Ideal S8x4096x4096 .f32 :=
  Host.dotGeneral dot_S8x4096x1024_S1024x4096_S8x4096x4096_2_0_01_1_n_n none (norm h g) w1

/-- The positive part. -/
def pos (u : FVec Ideal S8x4096x4096 .f32) : FVec Ideal S8x4096x4096 .f32 :=
  maximumf u (broadcastInDim S8x4096x4096 ![] bcast_S_S8x4096x4096 (constant S_ .f32 0x00000000#32))

/-- The residual stream after the network. -/
def mlp (h : FVec Ideal S8x4096x1024 .f32) (g : FVec Ideal S1024 .f32) (w1 : FVec Ideal S1024x4096 .f32) (w2 : FVec Ideal S4096x1024 .f32) :
    FVec Ideal S8x4096x1024 .f32 :=
  addf h (Host.dotGeneral dot_S8x4096x4096_S4096x1024_S8x4096x1024_2_0_01_1_n_n none
    (mulf (pos (inner h g w1)) (pos (inner h g w1))) w2)

/-- The gate's argument. -/
def pre (h : FVec Ideal S8x4096x1024 .f32) (g : FVec Ideal S1024 .f32) (wg : FVec Ideal S1024x1024 .f32) : FVec Ideal S8x4096x1024 .f32 :=
  Host.dotGeneral dot_S8x4096x1024_S1024x1024_S8x4096x1024_2_0_01_1_n_n none (norm h g) wg

/-- The logistic function. -/
def logistic (z : FVec Ideal S8x4096x1024 .f32) : FVec Ideal S8x4096x1024 .f32 :=
  Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf z)))

/-- The residual stream after the embedding. -/
def embed (h : FVec Ideal S8x4096x1024 .f32) (g : FVec Ideal S1024 .f32) (p : FVec Ideal S8x4096x256 .f32) (wg : FVec Ideal S1024x1024 .f32)
    (wp : FVec Ideal S256x1024 .f32) : FVec Ideal S8x4096x1024 .f32 :=
  addf h (mulf (logistic (pre h g wg)) (Host.dotGeneral dot_S8x4096x256_S256x1024_S8x4096x1024_2_0_01_1_n_n none p wp))

/-- A row of the residual stream. -/
def line (h : FVec Ideal S8x4096x1024 .f32) (b : Fin 8) (s : Fin 4096) (j : Fin 1024) : EReal := h (ix3 b s j)

/-- The factor of every row, read at an index. -/
theorem factor_apply (h : FVec Ideal S8x4096x1024 .f32) (b : Fin 8) (s : Fin 4096) (z : Fin 1) :
    factor h (ix3 b s z) = Row.inv (line h b s) := by
  pointwise [factor]
  rfl

/-- The normed rows, read at an index. -/
theorem norm_apply (h : FVec Ideal S8x4096x1024 .f32) (g : FVec Ideal S1024 .f32) (b : Fin 8) (s : Fin 4096) (k : Fin 1024) :
    norm h g (ix3 b s k) = line h b s k * Row.inv (line h b s) * g (ix1 k) := by
  have e : norm h g (ix3 b s k) = line h b s k * factor h (ix3 b s 0) * g (ix1 k) := by
    pointwise [norm]
    rfl
  rw [e, factor_apply]

/-- The inner units before their activation, read at an index. -/
theorem inner_apply (h : FVec Ideal S8x4096x1024 .f32) (g : FVec Ideal S1024 .f32) (w1 : FVec Ideal S1024x4096 .f32) (b : Fin 8)
    (s : Fin 4096) (d : Fin 4096) :
    inner h g w1 (ix3 b s d) = Row.normed (line h b s) (fun k => g (ix1 k)) fun k => w1 (ix2 k d) := by
  have e : inner h g w1 (ix3 b s d) = ∑ k : Fin 1024, norm h g (ix3 b s k) * w1 (ix2 k d) := by pointwise [inner]
  rw [e]
  exact Finset.sum_congr rfl fun k _ => congrArg (fun x : EReal => x * w1 (ix2 k d)) (norm_apply h g b s k)

/-- The positive part, read at an index. -/
theorem pos_apply (u : FVec Ideal S8x4096x4096 .f32) (b : Fin 8) (s d : Fin 4096) : pos u (ix3 b s d) = max (u (ix3 b s d)) 0 := by
  have e : pos u (ix3 b s d) = max (u (ix3 b s d)) (Ideal.ofBits .f32 0x00000000#32) := by
    pointwise [pos]
  rw [e]
  congr 1
  exact Ideal.ofBits_zero_f32

/-- The residual stream after the network, read at an index. -/
theorem mlp_apply (h : FVec Ideal S8x4096x1024 .f32) (g : FVec Ideal S1024 .f32) (w1 : FVec Ideal S1024x4096 .f32)
    (w2 : FVec Ideal S4096x1024 .f32) (b : Fin 8) (s : Fin 4096) (j : Fin 1024) :
    mlp h g w1 w2 (ix3 b s j)
      = Row.mlp (line h b s) (fun k => g (ix1 k)) (fun k d => w1 (ix2 k d)) (fun d j => w2 (ix2 d j)) j := by
  have e : mlp h g w1 w2 (ix3 b s j) = h (ix3 b s j)
      + ∑ d : Fin 4096, pos (inner h g w1) (ix3 b s d) * pos (inner h g w1) (ix3 b s d) * w2 (ix2 d j) := by
    pointwise [mlp]
  rw [e]
  refine congrArg (fun x : EReal => h (ix3 b s j) + x) (Finset.sum_congr rfl fun d _ => ?_)
  refine congrArg (fun x : EReal => x * x * w2 (ix2 d j)) ((pos_apply _ b s d).trans ?_)
  exact congrArg (fun x : EReal => max x 0) (inner_apply h g w1 b s d)

/-- The gate's argument, read at an index. -/
theorem pre_apply (h : FVec Ideal S8x4096x1024 .f32) (g : FVec Ideal S1024 .f32) (wg : FVec Ideal S1024x1024 .f32) (b : Fin 8)
    (s : Fin 4096) (j : Fin 1024) :
    pre h g wg (ix3 b s j) = Row.normed (line h b s) (fun k => g (ix1 k)) fun k => wg (ix2 k j) := by
  have e : pre h g wg (ix3 b s j) = ∑ k : Fin 1024, norm h g (ix3 b s k) * wg (ix2 k j) := by pointwise [pre]
  rw [e]
  exact Finset.sum_congr rfl fun k _ => congrArg (fun x : EReal => x * wg (ix2 k j)) (norm_apply h g b s k)

/-- The residual stream after the embedding, read at an index. -/
theorem embed_apply (h : FVec Ideal S8x4096x1024 .f32) (g : FVec Ideal S1024 .f32) (p : FVec Ideal S8x4096x256 .f32)
    (wg : FVec Ideal S1024x1024 .f32) (wp : FVec Ideal S256x1024 .f32) (b : Fin 8) (s : Fin 4096) (j : Fin 1024) :
    embed h g p wg wp (ix3 b s j)
      = Row.embed (line h b s) (fun k => g (ix1 k)) (fun d => p (ix3 b s d)) (fun k j => wg (ix2 k j)) (fun d j => wp (ix2 d j)) j := by
  have e : embed h g p wg wp (ix3 b s j) = h (ix3 b s j)
      + logistic (pre h g wg) (ix3 b s j) * ∑ d : Fin 256, p (ix3 b s d) * wp (ix2 d j) := by
    pointwise [embed]
  have l : logistic (pre h g wg) (ix3 b s j) = Ideal.div (Ideal.ofBits .f32 0x3F800000#32)
      (Ideal.ofBits .f32 0x3F800000#32 + Ideal.exp (-pre h g wg (ix3 b s j))) := by
    pointwise [logistic]
  rw [e, l, pre_apply]
  rfl

end Cert.Tail.Ref

end
-- ==== Proof.Tail.Steps.lean ====
/- What a layer's tail computes on a block of rows from the residual stream on, read at an index: the squared-ReLU network in
   eight pieces of its width, the gated embedding in four pieces of the row. -/
module

public import proofs.«01_k».proof.Proof.Gen.Kernel2Ideal.Frame
public import proofs.«01_k».proof.Proof.Tail.Row
public import Idealize.ShloMosaic.Lib.Pointwise
public import Idealize.ShloMosaic.Lib.Pipeline.ValueKit

@[expose] public section

set_option maxRecDepth 16384

noncomputable section

namespace Cert.Tail

open Idealize.ShloMosaic Idealize.ShloMosaic.TcCoe Idealize.SL.Sem Finset
open Cert.Kernel2Ideal Cert.Kernel2Ideal.Gen

/-- A rectangle of a matrix under a leading unit axis, read out of it. -/
theorem ld3_apply {e : EltTy} {b c n w o1 o2 : ℕ} (h1 : o1 + n ≤ b) (h2 : o2 + w ≤ c) (X : (⟨3, ![1, b, c]⟩ : Shape).Idx → Elt Ideal e)
    (inb : ∀ a, (![0, o1, o2] : Fin 3 → ℕ) a + (⟨3, ![1, n, w]⟩ : Shape).size a ≤ (⟨3, ![1, b, c]⟩ : Shape).size a)
    (z : Fin 1) (i : Fin n) (j : Fin w) :
    View.ld (Val := Elt Ideal) (e' := e) X (Rect.unit (s := ⟨3, ![1, b, c]⟩) ![0, o1, o2] (⟨3, ![1, n, w]⟩ : Shape).size inb) (ix3 z i j)
      = X (ix3 0 ⟨o1 + i, by omega⟩ ⟨o2 + j, by omega⟩) := by
  refine congrArg X ?_
  funext a
  fin_cases a
  · exact Fin.ext (by
      show (0 : ℕ) + 1 * (z : ℕ) = 0
      omega)
  · exact Fin.ext (by
      show o1 + 1 * (i : ℕ) = o1 + i
      omega)
  · exact Fin.ext (by
      show o2 + 1 * (j : ℕ) = o2 + j
      omega)

/-- A rectangle of a matrix, read out of it. -/
theorem ld2_apply {e : EltTy} {b c n w o1 o2 : ℕ} (h1 : o1 + n ≤ b) (h2 : o2 + w ≤ c) (X : (⟨2, ![b, c]⟩ : Shape).Idx → Elt Ideal e)
    (inb : ∀ a, (![o1, o2] : Fin 2 → ℕ) a + (⟨2, ![n, w]⟩ : Shape).size a ≤ (⟨2, ![b, c]⟩ : Shape).size a)
    (i : Fin n) (j : Fin w) :
    View.ld (Val := Elt Ideal) (e' := e) X (Rect.unit (s := ⟨2, ![b, c]⟩) ![o1, o2] (⟨2, ![n, w]⟩ : Shape).size inb) (ix2 i j)
      = X (ix2 ⟨o1 + i, by omega⟩ ⟨o2 + j, by omega⟩) := by
  refine congrArg X ?_
  funext a
  fin_cases a
  · exact Fin.ext (by
      show o1 + 1 * (i : ℕ) = o1 + i
      omega)
  · exact Fin.ext (by
      show o2 + 1 * (j : ℕ) = o2 + j
      omega)

/-- A row of a block. -/
abbrev row (h : FVec Ideal S512x1024 .f32) (i : Fin 512) : Fin 1024 → EReal := fun k => h (ix2 i k)

/-- A norm's gain. -/
abbrev gain (g : FVec Ideal S1x1x1024 .f32) : Fin 1024 → EReal := fun k => g (ix3 0 0 k)

/-- The rows' factors, one column. -/
def invCol (h : FVec Ideal S512x1024 .f32) : FVec Ideal S512x1 .f32 :=
  rsqrt (addf (divf (shapeCast S512x1 (multiReduction .add [1] S512 (mulf h h) 0x00000000#32 reduces_S512x1024_S512 (.inl rfl) rfl)
    shapeCasts_S512_S512x1) (broadcast S512x1 (Scalar.ofBits .f32 0x44800000#32))) (broadcast S512x1 (Scalar.ofBits .f32 0x358637BD#32)))

/-- The rows' factors, one column, read at an index. -/
theorem invCol_apply (h : FVec Ideal S512x1024 .f32) (i : Fin 512) (z : Fin 1) : invCol h (ix2 i z) = Row.inv (row h i) := by
  pointwise [invCol]
  rfl

/-- The rows' factors, on every lane. -/
def invLanes (h : FVec Ideal S512x1024 .f32) : FVec Ideal S512x128 .f32 :=
  broadcastTo S512x128 (shapeCast S512x1 (invCol h) shapeCasts_S512x1_S512x1) broadcasts_S512x1_S512x128

/-- The rows' factors, on every lane, read at an index. -/
theorem invLanes_apply (h : FVec Ideal S512x1024 .f32) (i : Fin 512) (l : Fin 128) : invLanes h (ix2 i l) = Row.inv (row h i) := by
  have e : invLanes h (ix2 i l) = invCol h (ix2 i 0) := by pointwise [invLanes]
  rw [e, invCol_apply]

/-- The rows' factors, as wide as a piece of the network. -/
def inv512 (h : FVec Ideal S512x1024 .f32) : FVec Ideal S512x512 .f32 :=
  concatenate S512x512 1 [⟨S512x128, invLanes h⟩, ⟨S512x128, invLanes h⟩, ⟨S512x128, invLanes h⟩, ⟨S512x128, invLanes h⟩]
    concatenates_S512x128_S512x128_S512x128_S512x128_S512x512_d1

/-- The rows' factors, as wide as a piece of the network, read at an index. -/
theorem inv512_apply (h : FVec Ideal S512x1024 .f32) (i : Fin 512) (k : Fin 512) : inv512 h (ix2 i k) = Row.inv (row h i) := by
  have hl := invLanes_apply h i
  generalize hL : invLanes h = L at hl
  unfold inv512
  rw [hL]
  pointwise
  split_ifs <;> exact hl _

/-- The rows' factors, as wide as a piece of the row. -/
def inv256 (h : FVec Ideal S512x1024 .f32) : FVec Ideal S512x256 .f32 :=
  concatenate S512x256 1 [⟨S512x128, invLanes h⟩, ⟨S512x128, invLanes h⟩] concatenates_S512x128_S512x128_S512x256_d1

/-- The rows' factors, as wide as a piece of the row, read at an index. -/
theorem inv256_apply (h : FVec Ideal S512x1024 .f32) (i : Fin 512) (k : Fin 256) : inv256 h (ix2 i k) = Row.inv (row h i) := by
  have hl := invLanes_apply h i
  generalize hL : invLanes h = L at hl
  unfold inv256
  rw [hL]
  pointwise
  split_ifs <;> exact hl _

/-- The rows times a norm's gain. -/
def gained (h : FVec Ideal S512x1024 .f32) (g : FVec Ideal S1x1x1024 .f32) : FVec Ideal S512x1024 .bf16 :=
  truncf .bf16 (mulf h (broadcastTo S512x1024 (shapeCast S1x1024 g shapeCasts_S1x1x1024_S1x1024) broadcasts_S1x1024_S512x1024)) bitsLt_bf16_f32

/-- The rows times a norm's gain, read at an index. -/
theorem gained_apply (h : FVec Ideal S512x1024 .f32) (g : FVec Ideal S1x1x1024 .f32) (i : Fin 512) (k : Fin 1024) :
    gained h g (ix2 i k) = row h i k * gain g k := by
  pointwise [gained]

/-- A piece of the network's hidden layer. -/
def up (a : FVec Ideal S512x1024 .bf16) (v : FVec Ideal S512x512 .f32) (w : FVec Ideal S1x1024x512 .bf16) : FVec Ideal S512x512 .bf16 :=
  truncf .bf16 (mulf
      (maximumf (mulf (matmul dot_S512x1024_S1024x512_S512x512_1_0_0_1_n_n none a (shapeCast S1024x512 w shapeCasts_S1x1024x512_S1024x512)
        (constant S512x512 .f32 0x00000000#32)) v) (broadcast S512x512 (Scalar.ofBits .f32 0x00000000#32)))
      (maximumf (mulf (matmul dot_S512x1024_S1024x512_S512x512_1_0_0_1_n_n none a (shapeCast S1024x512 w shapeCasts_S1x1024x512_S1024x512)
        (constant S512x512 .f32 0x00000000#32)) v) (broadcast S512x512 (Scalar.ofBits .f32 0x00000000#32)))) bitsLt_bf16_f32

/-- A piece of the network's hidden layer, read at an index. -/
theorem up_apply (h : FVec Ideal S512x1024 .f32) (g : FVec Ideal S1x1x1024 .f32) (w : FVec Ideal S1x1024x512 .bf16) (i d : Fin 512) :
    up (gained h g) (inv512 h) w (ix2 i d) = Row.sqpos (Row.normed (row h i) (gain g) fun k => w (ix3 0 k d)) := by
  have e : ∀ (a : FVec Ideal S512x1024 .bf16) (v : FVec Ideal S512x512 .f32),
      up a v w (ix2 i d) = Row.sqpos ((∑ k : Fin 1024, a (ix2 i k) * w (ix3 0 k d)) * v (ix2 i d)) := by
    intro a v
    pointwise [up]
    rfl
  rw [e, inv512_apply, ← Row.normed_eq]
  simp only [gained_apply]

/-- A piece of the network's output. -/
def down (a : FVec Ideal S512x512 .bf16) (w : FVec Ideal S1x512x1024 .bf16) : FVec Ideal S512x1024 .f32 :=
  matmul dot_S512x512_S512x1024_S512x1024_1_0_0_1_n_n none a (shapeCast S512x1024 w shapeCasts_S1x512x1024_S512x1024)
    (constant S512x1024 .f32 0x00000000#32)

/-- A piece of the network's output, read at an index. -/
theorem down_apply (a : FVec Ideal S512x512 .bf16) (w : FVec Ideal S1x512x1024 .bf16) (i : Fin 512) (j : Fin 1024) :
    down a w (ix2 i j) = ∑ d : Fin 512, a (ix2 i d) * w (ix3 0 d j) := by
  pointwise [down]

/-- The network's output. -/
def net (h : FVec Ideal S512x1024 .f32) (g : FVec Ideal S1x1x1024 .f32) (w1 : FVec Ideal S1x1024x4096 .bf16) (w2 : FVec Ideal S1x4096x1024 .bf16) :
    FVec Ideal S512x1024 .f32 :=
  addf (addf (addf (addf (addf (addf (addf
      (down (up (gained h g) (inv512 h) (View.ld (Val := Elt Ideal) (e' := .bf16) w1 r0_3)) (View.ld (Val := Elt Ideal) (e' := .bf16) w2 r0_4))
      (down (up (gained h g) (inv512 h) (View.ld (Val := Elt Ideal) (e' := .bf16) w1 r0_5)) (View.ld (Val := Elt Ideal) (e' := .bf16) w2 r0_6)))
      (down (up (gained h g) (inv512 h) (View.ld (Val := Elt Ideal) (e' := .bf16) w1 r0_7)) (View.ld (Val := Elt Ideal) (e' := .bf16) w2 r0_8)))
      (down (up (gained h g) (inv512 h) (View.ld (Val := Elt Ideal) (e' := .bf16) w1 r0_9)) (View.ld (Val := Elt Ideal) (e' := .bf16) w2 r0_10)))
      (down (up (gained h g) (inv512 h) (View.ld (Val := Elt Ideal) (e' := .bf16) w1 r0_11)) (View.ld (Val := Elt Ideal) (e' := .bf16) w2 r0_12)))
      (down (up (gained h g) (inv512 h) (View.ld (Val := Elt Ideal) (e' := .bf16) w1 r0_13)) (View.ld (Val := Elt Ideal) (e' := .bf16) w2 r0_14)))
      (down (up (gained h g) (inv512 h) (View.ld (Val := Elt Ideal) (e' := .bf16) w1 r0_15)) (View.ld (Val := Elt Ideal) (e' := .bf16) w2 r0_16)))
      (down (up (gained h g) (inv512 h) (View.ld (Val := Elt Ideal) (e' := .bf16) w1 r0_17)) (View.ld (Val := Elt Ideal) (e' := .bf16) w2 r0_18))

/-- The network's first weights. -/
abbrev mat1 (w : FVec Ideal S1x1024x4096 .bf16) : Fin 1024 → Fin 4096 → EReal := fun k d => w (ix3 0 k d)

/-- The network's second weights. -/
abbrev mat2 (w : FVec Ideal S1x4096x1024 .bf16) : Fin 4096 → Fin 1024 → EReal := fun d j => w (ix3 0 d j)

/-- One piece of the network's output is its part of the sum. -/
theorem piece_apply (h : FVec Ideal S512x1024 .f32) (g : FVec Ideal S1x1x1024 .f32) (w1 : FVec Ideal S1x1024x4096 .bf16)
    (w2 : FVec Ideal S1x4096x1024 .bf16) {o : ℕ} (ho : o + 512 ≤ 4096)
    (inb1 : ∀ a, (![0, 0, o] : Fin 3 → ℕ) a + S1x1024x512.size a ≤ S1x1024x4096.size a)
    (inb2 : ∀ a, (![0, o, 0] : Fin 3 → ℕ) a + S1x512x1024.size a ≤ S1x4096x1024.size a) (i : Fin 512) (j : Fin 1024) :
    down (up (gained h g) (inv512 h) (View.ld (Val := Elt Ideal) (e' := .bf16) w1 (Rect.unit (s := S1x1024x4096) ![0, 0, o] S1x1024x512.size inb1)))
        (View.ld (Val := Elt Ideal) (e' := .bf16) w2 (Rect.unit (s := S1x4096x1024) ![0, o, 0] S1x512x1024.size inb2)) (ix2 i j)
      = ∑ d : Fin 512, Row.sqpos (Row.normed (row h i) (gain g) fun k => mat1 w1 k ⟨o + d, by omega⟩) * mat2 w2 ⟨o + d, by omega⟩ j := by
  rw [down_apply]
  refine Finset.sum_congr rfl fun d _ => ?_
  rw [up_apply]
  refine congrArg₂ (fun x y : EReal => x * y) (congrArg Row.sqpos (congrArg (Row.normed _ _) (funext fun k => ?_))) ?_
  · refine (ld3_apply (e := .bf16) (by omega) (by omega) w1 inb1 0 k d).trans (congrArg (fun k => w1 (ix3 0 k _)) (Fin.ext ?_))
    show 0 + (k : ℕ) = k
    omega
  · refine (ld3_apply (e := .bf16) (by omega) (by omega) w2 inb2 0 d j).trans (congrArg (fun j => w2 (ix3 0 _ j)) (Fin.ext ?_))
    show 0 + (j : ℕ) = j
    omega

/-- The rows after the network. -/
theorem net_apply (h : FVec Ideal S512x1024 .f32) (g : FVec Ideal S1x1x1024 .f32) (w1 : FVec Ideal S1x1024x4096 .bf16)
    (w2 : FVec Ideal S1x4096x1024 .bf16) (i : Fin 512) (j : Fin 1024) :
    addf h (net h g w1 w2) (ix2 i j) = Row.mlp (row h i) (gain g) (mat1 w1) (mat2 w2) j := by
  refine congrArg (fun x : EReal => row h i j + x) ?_
  refine Eq.trans ?_ (Row.sum_blocks 8 512 fun d : Fin 4096 => Row.sqpos (Row.normed (row h i) (gain g) fun k => mat1 w1 k d) * mat2 w2 d j).symm
  rw [Fin.sum_univ_eight]
  refine congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y)
    ?_ ?_) ?_) ?_) ?_) ?_) ?_) ?_ <;>
  exact piece_apply h g w1 w2 (by decide) _ _ i j

/-- A piece of the rows with the gated embedding added. -/
def piece {lo : ℕ} (hs : S512x1024.Slices ![0, lo] S512x256) (h : FVec Ideal S512x1024 .f32) (v : FVec Ideal S512x256 .f32)
    (a : FVec Ideal S512x1024 .bf16) (p : FVec Ideal S512x256 .bf16) (wg : FVec Ideal S1x1024x256 .bf16) (wp : FVec Ideal S1x256x256 .bf16) :
    FVec Ideal S512x256 .f32 :=
  addf (extractStridedSlice S512x256 ![0, lo] h hs)
    (mulf (addf (mulf (broadcast S512x256 (Scalar.ofBits .f32 0x3F000000#32))
        (tanh (mulf (broadcast S512x256 (Scalar.ofBits .f32 0x3F000000#32))
          (mulf (matmul dot_S512x1024_S1024x256_S512x256_1_0_0_1_n_n none a (shapeCast S1024x256 wg shapeCasts_S1x1024x256_S1024x256)
            (constant S512x256 .f32 0x00000000#32)) v))))
        (broadcast S512x256 (Scalar.ofBits .f32 0x3F000000#32)))
      (matmul dot_S512x256_S256x256_S512x256_1_0_0_1_n_n none p (shapeCast S256x256 wp shapeCasts_S1x256x256_S256x256)
        (constant S512x256 .f32 0x00000000#32)))

/-- The embeddings of the rows. -/
def pes (p : FVec Ideal S1x512x256 .f32) : FVec Ideal S512x256 .bf16 :=
  truncf .bf16 (shapeCast S512x256 p shapeCasts_S1x512x256_S512x256) bitsLt_bf16_f32

/-- The embeddings of the rows, read at an index. -/
theorem pes_apply (p : FVec Ideal S1x512x256 .f32) (i : Fin 512) (d : Fin 256) : pes p (ix2 i d) = p (ix3 0 i d) := by
  pointwise [pes]

/-- A piece, at an index. -/
theorem piece_row {lo : ℕ} (hlo : lo + 256 ≤ 1024) (hs : S512x1024.Slices ![0, lo] S512x256) (h : FVec Ideal S512x1024 .f32)
    (g : FVec Ideal S1x1x1024 .f32) (p : FVec Ideal S1x512x256 .f32) (wg : FVec Ideal S1x1024x1024 .bf16) (wp : FVec Ideal S1x256x1024 .bf16)
    (inb1 : ∀ a, (![0, 0, lo] : Fin 3 → ℕ) a + S1x1024x256.size a ≤ S1x1024x1024.size a)
    (inb2 : ∀ a, (![0, 0, lo] : Fin 3 → ℕ) a + S1x256x256.size a ≤ S1x256x1024.size a) (i : Fin 512) (j : Fin 256) :
    piece hs h (inv256 h) (gained h g) (pes p)
        (View.ld (Val := Elt Ideal) (e' := .bf16) wg (Rect.unit (s := S1x1024x1024) ![0, 0, lo] S1x1024x256.size inb1))
        (View.ld (Val := Elt Ideal) (e' := .bf16) wp (Rect.unit (s := S1x256x1024) ![0, 0, lo] S1x256x256.size inb2)) (ix2 i j)
      = Row.embed (row h i) (gain g) (fun d => p (ix3 0 i d)) (fun k j => wg (ix3 0 k j)) (fun d j => wp (ix3 0 d j)) ⟨lo + j, by omega⟩ := by
  have e : ∀ (v : FVec Ideal S512x256 .f32) (a : FVec Ideal S512x1024 .bf16) (p : FVec Ideal S512x256 .bf16) (wg : FVec Ideal S1x1024x256 .bf16)
      (wp : FVec Ideal S1x256x256 .bf16),
      piece hs h v a p wg wp (ix2 i j) = row h i ⟨lo + j, by omega⟩
        + (Ideal.ofBits .f32 0x3F000000#32 * Ideal.tanh (Ideal.ofBits .f32 0x3F000000#32
            * ((∑ k : Fin 1024, a (ix2 i k) * wg (ix3 0 k j)) * v (ix2 i j))) + Ideal.ofBits .f32 0x3F000000#32)
          * ∑ d : Fin 256, p (ix2 i d) * wp (ix3 0 d j) := by
    intro v a p wg wp
    pointwise [piece]
  have e1 : ∀ k : Fin 1024, View.ld (Val := Elt Ideal) (e' := .bf16) wg (Rect.unit (s := S1x1024x1024) ![0, 0, lo] S1x1024x256.size inb1) (ix3 0 k j)
      = wg (ix3 0 k ⟨lo + j, by omega⟩) := fun k => by
    refine (ld3_apply (e := .bf16) (by omega) hlo wg inb1 0 k j).trans (congrArg (fun k => wg (ix3 0 k _)) (Fin.ext ?_))
    show 0 + (k : ℕ) = k
    omega
  have e2 : ∀ d : Fin 256, View.ld (Val := Elt Ideal) (e' := .bf16) wp (Rect.unit (s := S1x256x1024) ![0, 0, lo] S1x256x256.size inb2) (ix3 0 d j)
      = wp (ix3 0 d ⟨lo + j, by omega⟩) := fun d => by
    refine (ld3_apply (e := .bf16) (by omega) hlo wp inb2 0 d j).trans (congrArg (fun k => wp (ix3 0 k _)) (Fin.ext ?_))
    show 0 + (d : ℕ) = d
    omega
  rw [e, inv256_apply, Row.tanh_logistic, Row.embed, ← Row.normed_eq]
  simp only [gained_apply, pes_apply, e1, e2]

end Cert.Tail

end
-- ==== Proof.Tail.Body.lean ====
/- What a layer's tail stores for a block of rows: the rows after the network and the gated embedding. -/
module

public import proofs.«01_k».proof.Proof.Tail.Steps

@[expose] public section

set_option maxRecDepth 16384

noncomputable section

namespace Cert.Tail

open Idealize.ShloMosaic Idealize.ShloMosaic.TcCoe Idealize.SL.Sem Finset
open Cert.Kernel2Ideal Cert.Kernel2Ideal.Gen

/-- A gain loaded whole. -/
theorem gain_ld (g : FVec Ideal S1x1x1024 .f32) : gain (View.ld (Val := Elt Ideal) (e' := .f32) g r0_2) = gain g := by
  funext k
  refine (ld3_apply (e := .f32) (by omega) (by omega) g _ 0 0 k).trans (congrArg (fun k => g (ix3 0 0 k)) (Fin.ext ?_))
  show 0 + (k : ℕ) = k
  omega

/-- The embeddings loaded whole. -/
theorem emb_ld (p : FVec Ideal S1x512x256 .f32) (i : Fin 512) (d : Fin 256) :
    View.ld (Val := Elt Ideal) (e' := .f32) p r0_19 (ix3 0 i d) = p (ix3 0 i d) := by
  refine (ld3_apply (e := .f32) (by omega) (by omega) p _ 0 i d).trans (congrArg₂ (fun i d => p (ix3 0 i d)) (Fin.ext ?_) (Fin.ext ?_))
  · show 0 + (i : ℕ) = i
    omega
  · show 0 + (d : ℕ) = d
    omega

/-- The rows after the network. -/
def after (h : FVec Ideal S512x1024 .f32) (x4 : FVec Ideal S1x1x1024 .f32) (x5 : FVec Ideal S1x1024x4096 .bf16)
    (x6 : FVec Ideal S1x4096x1024 .bf16) : FVec Ideal S512x1024 .f32 :=
  addf h (net h (View.ld (Val := Elt Ideal) (e' := .f32) x4 r0_2) x5 x6)

/-- The stored block, in its four pieces. -/
def stored (h : FVec Ideal S512x1024 .f32) (x2 : FVec Ideal S1x512x256 .f32) (x7 : FVec Ideal S1x1x1024 .f32)
    (x8 : FVec Ideal S1x1024x1024 .bf16) (x9 : FVec Ideal S1x256x1024 .bf16) : List (View.Piece (Elt Ideal) S512x1024 .f32) :=
  [⟨r0_31, piece slices_S512x1024_o0_768_S512x256 h (inv256 h) (gained h (View.ld (Val := Elt Ideal) (e' := .f32) x7 r0_2))
      (pes (View.ld (Val := Elt Ideal) (e' := .f32) x2 r0_19)) (View.ld (Val := Elt Ideal) (e' := .bf16) x8 r0_29)
      (View.ld (Val := Elt Ideal) (e' := .bf16) x9 r0_30)⟩,
    ⟨r0_28, piece slices_S512x1024_o0_512_S512x256 h (inv256 h) (gained h (View.ld (Val := Elt Ideal) (e' := .f32) x7 r0_2))
      (pes (View.ld (Val := Elt Ideal) (e' := .f32) x2 r0_19)) (View.ld (Val := Elt Ideal) (e' := .bf16) x8 r0_26)
      (View.ld (Val := Elt Ideal) (e' := .bf16) x9 r0_27)⟩,
    ⟨r0_25, piece slices_S512x1024_o0_256_S512x256 h (inv256 h) (gained h (View.ld (Val := Elt Ideal) (e' := .f32) x7 r0_2))
      (pes (View.ld (Val := Elt Ideal) (e' := .f32) x2 r0_19)) (View.ld (Val := Elt Ideal) (e' := .bf16) x8 r0_23)
      (View.ld (Val := Elt Ideal) (e' := .bf16) x9 r0_24)⟩,
    ⟨r0_22, piece slices_S512x1024_o0_0_S512x256 h (inv256 h) (gained h (View.ld (Val := Elt Ideal) (e' := .f32) x7 r0_2))
      (pes (View.ld (Val := Elt Ideal) (e' := .f32) x2 r0_19)) (View.ld (Val := Elt Ideal) (e' := .bf16) x8 r0_20)
      (View.ld (Val := Elt Ideal) (e' := .bf16) x9 r0_21)⟩]

/-- A row with the gated embedding added, from the blocks. -/
abbrev embRow (h : FVec Ideal S512x1024 .f32) (x2 : FVec Ideal S1x512x256 .f32) (x7 : FVec Ideal S1x1x1024 .f32)
    (x8 : FVec Ideal S1x1024x1024 .bf16) (x9 : FVec Ideal S1x256x1024 .bf16) (i : Fin 512) (j : Fin 1024) : EReal :=
  Row.embed (row h i) (gain x7) (fun d => x2 (ix3 0 i d)) (fun k j => x8 (ix3 0 k j)) (fun d j => x9 (ix3 0 d j)) j

/-- A stored piece agrees with the rows it is stored at. -/
theorem cons_piece {lo : ℕ} (hlo : lo + 256 ≤ 1024) (hs : S512x1024.Slices ![0, lo] S512x256) (h : FVec Ideal S512x1024 .f32)
    (x2 : FVec Ideal S1x512x256 .f32) (x7 : FVec Ideal S1x1x1024 .f32)
    (x8 : FVec Ideal S1x1024x1024 .bf16) (x9 : FVec Ideal S1x256x1024 .bf16)
    (inb : ∀ a, (![0, lo] : Fin 2 → ℕ) a + S512x256.size a ≤ S512x1024.size a)
    (inb1 : ∀ a, (![0, 0, lo] : Fin 3 → ℕ) a + S1x1024x256.size a ≤ S1x1024x1024.size a)
    (inb2 : ∀ a, (![0, 0, lo] : Fin 3 → ℕ) a + S1x256x256.size a ≤ S1x256x1024.size a) (L : List (View.Piece (Elt Ideal) S512x1024 .f32))
    (hL : ∀ p ∈ L, ∀ x : p.1.shape.Idx, p.2 x = embRow h x2 x7 x8 x9 (p.1.emb x 0) (p.1.emb x 1)) :
    ∀ p ∈ (⟨Rect.unit (s := S512x1024) ![0, lo] S512x256.size inb,
        piece hs h (inv256 h) (gained h (View.ld (Val := Elt Ideal) (e' := .f32) x7 r0_2))
          (pes (View.ld (Val := Elt Ideal) (e' := .f32) x2 r0_19))
          (View.ld (Val := Elt Ideal) (e' := .bf16) x8 (Rect.unit (s := S1x1024x1024) ![0, 0, lo] S1x1024x256.size inb1))
          (View.ld (Val := Elt Ideal) (e' := .bf16) x9 (Rect.unit (s := S1x256x1024) ![0, 0, lo] S1x256x256.size inb2))⟩
        : View.Piece (Elt Ideal) S512x1024 .f32) :: L,
      ∀ x : p.1.shape.Idx, p.2 x = embRow h x2 x7 x8 x9 (p.1.emb x 0) (p.1.emb x 1) := by
  refine List.forall_mem_cons.2 ⟨fun x => ?_, hL⟩
  have hx : x = (ix2 (x 0 : Fin 512) (x 1 : Fin 256) : S512x256.Idx) := by funext a; fin_cases a <;> rfl
  have e := piece_row hlo hs h (View.ld (Val := Elt Ideal) (e' := .f32) x7 r0_2) (View.ld (Val := Elt Ideal) (e' := .f32) x2 r0_19) x8 x9 inb1 inb2
    (x 0 : Fin 512) (x 1 : Fin 256)
  rw [gain_ld] at e
  refine (congrArg (piece hs h (inv256 h) _ _ _ _) hx).trans (e.trans ?_)
  refine (congrArg (fun q => Row.embed (row h (x 0 : Fin 512)) (gain x7) q (fun k j => x8 (ix3 0 k j)) (fun d j => x9 (ix3 0 d j)) _)
    (funext (emb_ld x2 (x 0 : Fin 512)))).trans ?_
  refine congrArg₂ (fun i j => embRow h x2 x7 x8 x9 i j) (Fin.ext ?_) (Fin.ext ?_)
  · show (x 0 : ℕ) = 0 + 1 * (x 0 : ℕ)
    omega
  · show lo + (x 1 : ℕ) = lo + 1 * (x 1 : ℕ)
    omega

/-- The stored block, at an index. -/
theorem stored_apply (h : FVec Ideal S512x1024 .f32) (x2 : FVec Ideal S1x512x256 .f32) (x7 : FVec Ideal S1x1x1024 .f32)
    (x8 : FVec Ideal S1x1024x1024 .bf16) (x9 : FVec Ideal S1x256x1024 .bf16) (y : S512x1024.Idx) :
    View.canon (Val := Elt Ideal) (stored h x2 x7 x8 x9) y = embRow h x2 x7 x8 x9 (y 0) (y 1) := by
  refine View.canon_apply_of_pieces (Val := Elt Ideal) (fun y => embRow h x2 x7 x8 x9 (y 0) (y 1)) _ ?_ y
    (cover0_10 (F := Ideal) _ _ _ _ y)
  refine cons_piece (by decide) _ h x2 x7 x8 x9 _ _ _ _ ?_
  refine cons_piece (by decide) _ h x2 x7 x8 x9 _ _ _ _ ?_
  refine cons_piece (by decide) _ h x2 x7 x8 x9 _ _ _ _ ?_
  refine cons_piece (by decide) _ h x2 x7 x8 x9 _ _ _ _ ?_
  exact fun _ h => absurd h List.not_mem_nil

/-- The network and the embedding, from the blocks. -/
theorem stored_after (h : FVec Ideal S512x1024 .f32) (x2 : FVec Ideal S1x512x256 .f32) (x4 : FVec Ideal S1x1x1024 .f32)
    (x5 : FVec Ideal S1x1024x4096 .bf16) (x6 : FVec Ideal S1x4096x1024 .bf16) (x7 : FVec Ideal S1x1x1024 .f32)
    (x8 : FVec Ideal S1x1024x1024 .bf16) (x9 : FVec Ideal S1x256x1024 .bf16) (y : S512x1024.Idx) :
    View.canon (Val := Elt Ideal) (stored (after h x4 x5 x6) x2 x7 x8 x9) y
      = Row.embed (Row.mlp (row h (y 0)) (gain x4) (mat1 x5) (mat2 x6)) (gain x7) (fun d => x2 (ix3 0 (y 0) d)) (fun k j => x8 (ix3 0 k j))
          (fun d j => x9 (ix3 0 d j)) (y 1) := by
  have e : row (after h x4 x5 x6) (y 0) = Row.mlp (row h (y 0)) (gain x4) (mat1 x5) (mat2 x6) := by
    funext j
    rw [← gain_ld x4]
    exact net_apply h _ x5 x6 (y 0) j
  refine (stored_apply (after h x4 x5 x6) x2 x7 x8 x9 y).trans ?_
  exact congrArg (fun r => Row.embed r (gain x7) (fun d => x2 (ix3 0 (y 0) d)) (fun k j => x8 (ix3 0 k j)) (fun d j => x9 (ix3 0 d j)) (y 1)) e

end Cert.Tail

end
-- ==== Proof.Tail.Body2.lean ====
/- The tail of layer 1: what its body stores for a block of rows. -/
module

public import proofs.«01_k».proof.Proof.Tail.Body

@[expose] public section

set_option maxRecDepth 16384

noncomputable section

namespace Cert.Tail2

open Idealize.ShloMosaic Idealize.ShloMosaic.TcCoe Idealize.SL.Sem Finset
open Cert.Kernel2Ideal Cert.Kernel2Ideal.Gen Cert.Tail

variable (x0 : FVec Ideal S512x1024 .f32) (x1 : FVec Ideal S512x1024 .bf16) (x2 : FVec Ideal S1x512x256 .f32)
  (x3 : FVec Ideal S1024x1024 .bf16) (x4 : FVec Ideal S1x1x1024 .f32) (x5 : FVec Ideal S1x1024x4096 .bf16)
  (x6 : FVec Ideal S1x4096x1024 .bf16) (x7 : FVec Ideal S1x1x1024 .f32) (x8 : FVec Ideal S1x1024x1024 .bf16)
  (x9 : FVec Ideal S1x256x1024 .bf16)

/-- The residual stream with the attention's output projection added. -/
def mixed : FVec Ideal S512x1024 .f32 :=
  k0_pay1 (View.ld (Val := Elt Ideal) (e' := .f32) x0 r0_0) (View.ld (Val := Elt Ideal) (e' := .bf16) x1 r0_0)
    (View.ld (Val := Elt Ideal) (e' := .bf16) x3 r0_1)

/-- The residual stream with the attention's output projection added, read at an index. -/
theorem mixed_apply (i : Fin 512) (j : Fin 1024) :
    mixed x0 x1 x3 (ix2 i j) = x0 (ix2 i j) + ∑ k : Fin 1024, x1 (ix2 i k) * x3 (ix2 k j) := by
  have e : ∀ (a : FVec Ideal S512x1024 .f32) (b : FVec Ideal S512x1024 .bf16) (w : FVec Ideal S1024x1024 .bf16),
      k0_pay1 a b w (ix2 i j) = a (ix2 i j) + ∑ k : Fin 1024, b (ix2 i k) * w (ix2 k j) := by
    intro a b w
    pointwise [k0_pay1]
  have h : ∀ (e : EltTy) (b c : ℕ) (X : (⟨2, ![b, c]⟩ : Shape).Idx → Elt Ideal e)
      (inb : ∀ a, (![0, 0] : Fin 2 → ℕ) a + (⟨2, ![b, c]⟩ : Shape).size a ≤ (⟨2, ![b, c]⟩ : Shape).size a) (i : Fin b) (j : Fin c),
      View.ld (Val := Elt Ideal) (e' := e) X (Rect.unit (s := ⟨2, ![b, c]⟩) ![0, 0] (⟨2, ![b, c]⟩ : Shape).size inb) (ix2 i j) = X (ix2 i j) := by
    intro e b c X inb i j
    refine (ld2_apply (by omega) (by omega) X inb i j).trans (congrArg₂ (fun i j => X (ix2 i j)) (Fin.ext ?_) (Fin.ext ?_))
    · show 0 + (i : ℕ) = i
      omega
    · show 0 + (j : ℕ) = j
      omega
  refine (e _ _ _).trans ?_
  refine congrArg₂ (fun x y : EReal => x + y) (h .f32 _ _ x0 _ i j) (Finset.sum_congr rfl fun k _ => ?_)
  exact congrArg₂ (fun x y : EReal => x * y) (h .bf16 _ _ x1 _ i k) (h .bf16 _ _ x3 _ k j)

/-- The stored block is the tail's four pieces. -/
theorem out_eq : out0_10 x0 x1 x2 x3 x4 x5 x6 x7 x8 x9
    = View.canon (Val := Elt Ideal) (stored (after (mixed x0 x1 x3) x4 x5 x6) x2 x7 x8 x9) := by
  have e23 : k0_pay23 x0 x1 x2 x3 x4 x5 x6 x7 x8 x9 = after (mixed x0 x1 x3) x4 x5 x6 := rfl
  have e24 : k0_pay24 x0 x1 x2 x3 x4 x5 x6 x7 x8 x9 = inv256 (k0_pay23 x0 x1 x2 x3 x4 x5 x6 x7 x8 x9) := rfl
  have e25 : k0_pay25 x0 x1 x2 x3 x4 x5 x6 x7 x8 x9
      = gained (k0_pay23 x0 x1 x2 x3 x4 x5 x6 x7 x8 x9) (View.ld (Val := Elt Ideal) (e' := .f32) x7 r0_2) := rfl
  have e26 : k0_pay26 x0 x1 x2 x3 x4 x5 x6 x7 x8 x9 = pes (View.ld (Val := Elt Ideal) (e' := .f32) x2 r0_19) := rfl
  unfold out0_10 stored
  rw [e24, e25, e26, e23]
  generalize after (mixed x0 x1 x3) x4 x5 x6 = h
  rfl

end Cert.Tail2

end
-- ==== Proof.Tail.Array2.lean ====
/- The result array of layer 1's tail: each point of its grid writes its block of rows. -/
module

public import proofs.«01_k».proof.Proof.Tail.Body2
public import proofs.«01_k».proof.Proof.Gen.Kernel2Ideal.Value

@[expose] public section

set_option maxRecDepth 16384

noncomputable section

namespace Cert.Tail2

open Idealize.ShloMosaic Idealize.ShloMosaic.TcCoe Idealize.SL.Sem Finset
open Cert.Kernel2Ideal Cert.Kernel2Ideal.Gen Cert.Tail

variable (m : (ℓ : Loc nD τ sig) → Buf (Elt Ideal) ℓ)

/-- The blocks of a grid point: its rows, and the whole of layer 1's weights. -/
theorem idx : ∀ t : Fin cfg0.N,
    win0_0.index t = ![t.val, 0] ∧ win0_1.index t = ![t.val, 0] ∧ win0_2.index t = ![1, t.val, 0] ∧ win0_3.index t = ![0, 0]
      ∧ win0_4.index t = ![1, 0, 0] ∧ win0_5.index t = ![1, 0, 0] ∧ win0_6.index t = ![1, 0, 0] ∧ win0_7.index t = ![1, 0, 0]
      ∧ win0_8.index t = ![1, 0, 0] ∧ win0_9.index t = ![1, 0, 0] ∧ win0_10.index t = ![t.val, 0] ∧ t.val < 64 :=
  (by decide +kernel : ∀ t : Fin grid0.N, _)

/-- The grid has 64 steps. -/
theorem lt64 (t : Fin cfg0.N) : t.val < 64 := (idx t).2.2.2.2.2.2.2.2.2.2.2

/-- The batch of a row. -/
def bat (t : Fin cfg0.N) (i : Fin 512) : Fin 8 := ⟨(512 * t.val + i) / 4096, by have := lt64 t; omega⟩

/-- The position of a row. -/
def pos (t : Fin cfg0.N) (i : Fin 512) : Fin 4096 := ⟨(512 * t.val + i) % 4096, by omega⟩

/-- The block of the residual stream. -/
theorem block0 (c : Dev nD) (t : Fin cfg0.N) (i : Fin 512) (j : Fin 1024) :
    iblk m c 0 t (ix2 i j : S512x1024.Idx) = (m ((c : Thread nD τ).loc main_arg0) : FVec Ideal S8x4096x1024 .f32) (ix3 (bat t i) (pos t i) j) := by
  unfold bat pos
  blk_ext! [iblk, V, idx t]

/-- The block of the attention's output. -/
theorem block1 (c : Dev nD) (t : Fin cfg0.N) (i : Fin 512) (j : Fin 1024) :
    iblk m c 1 t (ix2 i j : S512x1024.Idx) = (m ((c : Thread nD τ).loc main_arg1) : FVec Ideal S8x4096x1024 .bf16) (ix3 (bat t i) (pos t i) j) := by
  unfold bat pos
  blk_ext! [iblk, V, idx t]

/-- The block of the embeddings. -/
theorem block2 (c : Dev nD) (t : Fin cfg0.N) (i : Fin 512) (d : Fin 256) :
    iblk m c 2 t (ix3 0 i d : S1x512x256.Idx)
      = (m ((c : Thread nD τ).loc main_arg2) : FVec Ideal S2x8x4096x256 .f32) (ix4 1 (bat t i) (pos t i) d) := by
  have ht := lt64 t
  unfold bat pos
  blk_ext! [iblk, V, idx t]

/-- The output projection. -/
theorem block3 (c : Dev nD) (t : Fin cfg0.N) (k j : Fin 1024) :
    iblk m c 3 t (ix2 k j : S1024x1024.Idx) = (m ((c : Thread nD τ).loc main_arg3) : FVec Ideal S1024x1024 .f32) (ix2 k j) := by
  blk_ext! [iblk, V, idx t]

/-- The network's gain. -/
theorem block4 (c : Dev nD) (t : Fin cfg0.N) (j : Fin 1024) :
    iblk m c 4 t (ix3 0 0 j : S1x1x1024.Idx) = (m ((c : Thread nD τ).loc main_arg4) : FVec Ideal S2x1024 .f32) (ix2 1 j) := by
  blk_ext! [iblk, V, idx t]

/-- The network's first weights. -/
theorem block5 (c : Dev nD) (t : Fin cfg0.N) (k : Fin 1024) (j : Fin 4096) :
    iblk m c 5 t (ix3 0 k j : S1x1024x4096.Idx) = (m ((c : Thread nD τ).loc main_arg5) : FVec Ideal S2x1024x4096 .f32) (ix3 1 k j) := by
  blk_ext! [iblk, V, idx t]

/-- The network's second weights. -/
theorem block6 (c : Dev nD) (t : Fin cfg0.N) (k : Fin 4096) (j : Fin 1024) :
    iblk m c 6 t (ix3 0 k j : S1x4096x1024.Idx) = (m ((c : Thread nD τ).loc main_arg6) : FVec Ideal S2x4096x1024 .f32) (ix3 1 k j) := by
  blk_ext! [iblk, V, idx t]

/-- The embedding's gain. -/
theorem block7 (c : Dev nD) (t : Fin cfg0.N) (j : Fin 1024) :
    iblk m c 7 t (ix3 0 0 j : S1x1x1024.Idx) = (m ((c : Thread nD τ).loc main_arg7) : FVec Ideal S2x1024 .f32) (ix2 1 j) := by
  blk_ext! [iblk, V, idx t]

/-- The gate's weights. -/
theorem block8 (c : Dev nD) (t : Fin cfg0.N) (k j : Fin 1024) :
    iblk m c 8 t (ix3 0 k j : S1x1024x1024.Idx) = (m ((c : Thread nD τ).loc main_arg8) : FVec Ideal S2x1024x1024 .f32) (ix3 1 k j) := by
  blk_ext! [iblk, V, idx t]

/-- The embedding's projection. -/
theorem block9 (c : Dev nD) (t : Fin cfg0.N) (k : Fin 256) (j : Fin 1024) :
    iblk m c 9 t (ix3 0 k j : S1x256x1024.Idx) = (m ((c : Thread nD τ).loc main_arg9) : FVec Ideal S2x256x1024 .f32) (ix3 1 k j) := by
  blk_ext! [iblk, V, idx t]

/-- The row of a batch and a position after the output projection. -/
def mixRow (H : FVec Ideal S8x4096x1024 .f32) (Y : FVec Ideal S8x4096x1024 .bf16) (Wo : FVec Ideal S1024x1024 .f32) (b : Fin 8)
    (s : Fin 4096) (j : Fin 1024) : EReal :=
  H (ix3 b s j) + ∑ k : Fin 1024, Y (ix3 b s k) * Wo (ix2 k j)

/-- The row of a batch and a position after the tail, from the arguments. -/
def tailRow (H : FVec Ideal S8x4096x1024 .f32) (Y : FVec Ideal S8x4096x1024 .bf16) (P : FVec Ideal S2x8x4096x256 .f32)
    (Wo : FVec Ideal S1024x1024 .f32) (G1 : FVec Ideal S2x1024 .f32) (W1 : FVec Ideal S2x1024x4096 .f32) (W2 : FVec Ideal S2x4096x1024 .f32)
    (G2 : FVec Ideal S2x1024 .f32) (Wg : FVec Ideal S2x1024x1024 .f32) (Wp : FVec Ideal S2x256x1024 .f32) (b : Fin 8) (s : Fin 4096)
    (j : Fin 1024) : EReal :=
  Row.embed (Row.mlp (mixRow H Y Wo b s) (fun k => G1 (ix2 1 k))
      (fun k d => W1 (ix3 1 k d)) (fun d j => W2 (ix3 1 d j))) (fun k => G2 (ix2 1 k)) (fun d => P (ix4 1 b s d))
    (fun k j => Wg (ix3 1 k j)) (fun d j => Wp (ix3 1 d j)) j

/-- Every row after the tail. -/
def tailAll (H : FVec Ideal S8x4096x1024 .f32) (Y : FVec Ideal S8x4096x1024 .bf16) (P : FVec Ideal S2x8x4096x256 .f32)
    (Wo : FVec Ideal S1024x1024 .f32) (G1 : FVec Ideal S2x1024 .f32) (W1 : FVec Ideal S2x1024x4096 .f32) (W2 : FVec Ideal S2x4096x1024 .f32)
    (G2 : FVec Ideal S2x1024 .f32) (Wg : FVec Ideal S2x1024x1024 .f32) (Wp : FVec Ideal S2x256x1024 .f32) : FVec Ideal S32768x1024 .f32 :=
  fun y => tailRow H Y P Wo G1 W1 W2 G2 Wg Wp ⟨(y 0).val / 4096, by have : (y 0).val < 32768 := (y 0).isLt; omega⟩
    ⟨(y 0).val % 4096, by omega⟩ (y 1)

/-- What a point stores is its rows of the result. -/
theorem point (c : Dev nD) (t : Fin cfg0.N) (i : Fin 512) (j : Fin 1024) :
    out0_10 (iblk m c 0 t) (iblk m c 1 t) (iblk m c 2 t) (iblk m c 3 t) (iblk m c 4 t) (iblk m c 5 t) (iblk m c 6 t) (iblk m c 7 t)
        (iblk m c 8 t) (iblk m c 9 t) (ix2 i j)
      = tailRow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (bat t i) (pos t i) j := by
  refine (congrFun (out_eq (iblk m c 0 t) (iblk m c 1 t) (iblk m c 2 t) (iblk m c 3 t) (iblk m c 4 t) (iblk m c 5 t) (iblk m c 6 t) (iblk m c 7 t)
    (iblk m c 8 t) (iblk m c 9 t)) (ix2 i j)).trans ?_
  refine (stored_after _ (iblk m c 2 t) (iblk m c 4 t) (iblk m c 5 t) (iblk m c 6 t) (iblk m c 7 t) (iblk m c 8 t) (iblk m c 9 t) (ix2 i j)).trans ?_
  have hr : row (mixed (iblk m c 0 t) (iblk m c 1 t) (iblk m c 3 t)) i = mixRow (m ((c : Thread nD τ).loc main_arg0))
      (m ((c : Thread nD τ).loc main_arg1)) (m ((c : Thread nD τ).loc main_arg3)) (bat t i) (pos t i) := by
    funext j
    refine (mixed_apply (iblk m c 0 t) (iblk m c 1 t) (iblk m c 3 t) i j).trans ?_
    refine congrArg₂ (fun x y : EReal => x + y) (block0 m c t i j) (Finset.sum_congr rfl fun k _ => ?_)
    exact congrArg₂ (fun x y : EReal => x * y) (block1 m c t i k) (block3 m c t k j)
  have h4 : gain (iblk m c 4 t) = fun k => (m ((c : Thread nD τ).loc main_arg4) : FVec Ideal S2x1024 .f32) (ix2 1 k) :=
    funext fun k => block4 m c t k
  have h5 : mat1 (iblk m c 5 t) = fun k d => (m ((c : Thread nD τ).loc main_arg5) : FVec Ideal S2x1024x4096 .f32) (ix3 1 k d) :=
    funext fun k => funext fun d => block5 m c t k d
  have h6 : mat2 (iblk m c 6 t) = fun k d => (m ((c : Thread nD τ).loc main_arg6) : FVec Ideal S2x4096x1024 .f32) (ix3 1 k d) :=
    funext fun k => funext fun d => block6 m c t k d
  have h7 : gain (iblk m c 7 t) = fun k => (m ((c : Thread nD τ).loc main_arg7) : FVec Ideal S2x1024 .f32) (ix2 1 k) :=
    funext fun k => block7 m c t k
  have h8 : (fun k j => iblk m c 8 t (ix3 0 k j : S1x1024x1024.Idx))
      = fun k j => (m ((c : Thread nD τ).loc main_arg8) : FVec Ideal S2x1024x1024 .f32) (ix3 1 k j) :=
    funext fun k => funext fun d => block8 m c t k d
  have h9 : (fun k j => iblk m c 9 t (ix3 0 k j : S1x256x1024.Idx))
      = fun k j => (m ((c : Thread nD τ).loc main_arg9) : FVec Ideal S2x256x1024 .f32) (ix3 1 k j) :=
    funext fun k => funext fun d => block9 m c t k d
  have h2 : (fun d => iblk m c 2 t (ix3 0 i d : S1x512x256.Idx))
      = fun d => (m ((c : Thread nD τ).loc main_arg2) : FVec Ideal S2x8x4096x256 .f32) (ix4 1 (bat t i) (pos t i) d) :=
    funext fun d => block2 m c t i d
  exact Row.embed_congr (Row.mlp_congr hr h4 h5 h6) h7 h2 h8 h9 j

/-- The result array after the run. -/
theorem final (c : Dev nD) : (dats m 0 c).arrAt 10 cfg0.N
    = tailAll (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (dats m 0 c).arrAt_eq_of_covers 10 _ (by decide +kernel) fun t _ y => ?_
  blk_simp
  have hy : y = (ix2 (y 0 : Fin 512) (y 1 : Fin 1024) : S512x1024.Idx) := by funext a; fin_cases a <;> rfl
  have h0 : (((win0_10.blk t).view.emb y) 0 : ℕ) = t.val * 512 + y 0 := by blk_simp [idx t]
  have h1 : ((win0_10.blk t).view.emb y) 1 = (y 1 : Fin 1024) := Fin.ext (by blk_simp [idx t])
  rw [after0_10]
  refine (congrArg _ hy).trans ((point m c t (y 0 : Fin 512) (y 1 : Fin 1024)).trans ?_)
  unfold tailAll
  refine Row.three (tailRow _ _ _ _ _ _ _ _ _ _) (Fin.ext ?_) (Fin.ext ?_) h1.symm
  · show (512 * t.val + (y 0 : ℕ)) / 4096 = (((win0_10.blk t).view.emb y) 0 : ℕ) / 4096
    rw [h0, Nat.mul_comm]
  · show (512 * t.val + (y 0 : ℕ)) % 4096 = (((win0_10.blk t).view.emb y) 0 : ℕ) % 4096
    rw [h0, Nat.mul_comm]

end Cert.Tail2

end
-- ==== Proof.Tail.Reference2.lean ====
/- The reference of the second layer's tail, read at an index. -/
module

public import proofs.«01_k».proof.Proof.Tail.RefSteps
public import proofs.«01_k».proof.Proof.Tail.Array2

@[expose] public section

set_option maxRecDepth 16384

noncomputable section

namespace Cert.Tail2.Ref

open Idealize.ShloMosaic Idealize.ShloMosaic.TcCoe Idealize.SL.Sem Finset
open Cert.Reference2Ideal Cert.Reference2Ideal.Gen Cert.Tail.Ref

/-- The residual stream after the output projection. -/
def mix (H : FVec Ideal S8x4096x1024 .f32) (Y : FVec Ideal S8x4096x1024 .bf16) (Wo : FVec Ideal S1024x1024 .f32) : FVec Ideal S8x4096x1024 .f32 :=
  addf H (Host.dotGeneral dot_S8x4096x1024_S1024x1024_S8x4096x1024_2_0_01_1_n_n none (extf .f32 Y bitsLt_bf16_f32) Wo)

/-- The second layer's gain. -/
def gain1 (G : FVec Ideal S2x1024 .f32) : FVec Ideal S1024 .f32 :=
  shapeCast S1024 (extractStridedSlice S1x1024 ![1, 0] G slices_S2x1024_S1x1024_1_0) shapeCasts_S1x1024_S1024

/-- The second layer's first weights. -/
def first1 (W : FVec Ideal S2x1024x4096 .f32) : FVec Ideal S1024x4096 .f32 :=
  shapeCast S1024x4096 (extractStridedSlice S1x1024x4096 ![1, 0, 0] W slices_S2x1024x4096_S1x1024x4096_1_0_0) shapeCasts_S1x1024x4096_S1024x4096

/-- The second layer's second weights. -/
def second1 (W : FVec Ideal S2x4096x1024 .f32) : FVec Ideal S4096x1024 .f32 :=
  shapeCast S4096x1024 (extractStridedSlice S1x4096x1024 ![1, 0, 0] W slices_S2x4096x1024_S1x4096x1024_1_0_0) shapeCasts_S1x4096x1024_S4096x1024

/-- The second layer's gate weights. -/
def gate1 (W : FVec Ideal S2x1024x1024 .f32) : FVec Ideal S1024x1024 .f32 :=
  shapeCast S1024x1024 (extractStridedSlice S1x1024x1024 ![1, 0, 0] W slices_S2x1024x1024_S1x1024x1024_1_0_0) shapeCasts_S1x1024x1024_S1024x1024

/-- The second layer's projection of the embeddings. -/
def proj1 (W : FVec Ideal S2x256x1024 .f32) : FVec Ideal S256x1024 .f32 :=
  shapeCast S256x1024 (extractStridedSlice S1x256x1024 ![1, 0, 0] W slices_S2x256x1024_S1x256x1024_1_0_0) shapeCasts_S1x256x1024_S256x1024

/-- The second layer's embeddings. -/
def emb1 (P : FVec Ideal S2x8x4096x256 .f32) : FVec Ideal S8x4096x256 .f32 :=
  shapeCast S8x4096x256 (extractStridedSlice S1x8x4096x256 ![1, 0, 0, 0] P slices_S2x8x4096x256_S1x8x4096x256_1_0_0_0)
    shapeCasts_S1x8x4096x256_S8x4096x256

/-- The whole tail. -/
def tail (H : FVec Ideal S8x4096x1024 .f32) (Y : FVec Ideal S8x4096x1024 .bf16) (P : FVec Ideal S2x8x4096x256 .f32)
    (Wo : FVec Ideal S1024x1024 .f32) (G1 : FVec Ideal S2x1024 .f32) (W1 : FVec Ideal S2x1024x4096 .f32) (W2 : FVec Ideal S2x4096x1024 .f32)
    (G2 : FVec Ideal S2x1024 .f32) (Wg : FVec Ideal S2x1024x1024 .f32) (Wp : FVec Ideal S2x256x1024 .f32) : FVec Ideal S8x4096x1024 .f32 :=
  embed (mlp (mix H Y Wo) (gain1 G1) (first1 W1) (second1 W2)) (gain1 G2) (emb1 P) (gate1 Wg) (proj1 Wp)

/-- The reference's result is the tail, its rows side by side. -/
theorem result_eq (m : (ℓ : Loc nD τ sig) → Buf (Elt Ideal) ℓ) (c : Dev nD) :
    Cert.Reference2Ideal.Value.res_main_v58 m c
      = shapeCast S32768x1024 (tail (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9))) shapeCasts_S8x4096x1024_S32768x1024 := rfl

/-- A row after the mixer's projection and the residual. -/
theorem mix_line (H : FVec Ideal S8x4096x1024 .f32) (Y : FVec Ideal S8x4096x1024 .bf16) (Wo : FVec Ideal S1024x1024 .f32) (b : Fin 8)
    (s : Fin 4096) : line (mix H Y Wo) b s = mixRow H Y Wo b s := by
  funext j
  show mix H Y Wo (ix3 b s j) = _
  pointwise [mix]
  rfl

/-- The second layer's gain, read at an index. -/
theorem gain1_apply (G : FVec Ideal S2x1024 .f32) (k : Fin 1024) : gain1 G (ix1 k) = G (ix2 1 k) := by
  pointwise [gain1]

/-- The second layer's first weights, read at an index. -/
theorem first1_apply (W : FVec Ideal S2x1024x4096 .f32) (k : Fin 1024) (d : Fin 4096) : first1 W (ix2 k d) = W (ix3 1 k d) := by
  pointwise [first1]

/-- The second layer's second weights, read at an index. -/
theorem second1_apply (W : FVec Ideal S2x4096x1024 .f32) (d : Fin 4096) (j : Fin 1024) : second1 W (ix2 d j) = W (ix3 1 d j) := by
  pointwise [second1]

/-- The second layer's gate weights, read at an index. -/
theorem gate1_apply (W : FVec Ideal S2x1024x1024 .f32) (k j : Fin 1024) : gate1 W (ix2 k j) = W (ix3 1 k j) := by
  pointwise [gate1]

/-- The second layer's projection of the embeddings, read at an index. -/
theorem proj1_apply (W : FVec Ideal S2x256x1024 .f32) (d : Fin 256) (j : Fin 1024) : proj1 W (ix2 d j) = W (ix3 1 d j) := by
  pointwise [proj1]

/-- The second layer's embeddings, read at an index. -/
theorem emb1_apply (P : FVec Ideal S2x8x4096x256 .f32) (b : Fin 8) (s : Fin 4096) (d : Fin 256) : emb1 P (ix3 b s d) = P (ix4 1 b s d) := by
  pointwise [emb1]

/-- The whole tail, read at an index. -/
theorem tail_apply (H : FVec Ideal S8x4096x1024 .f32) (Y : FVec Ideal S8x4096x1024 .bf16) (P : FVec Ideal S2x8x4096x256 .f32)
    (Wo : FVec Ideal S1024x1024 .f32) (G1 : FVec Ideal S2x1024 .f32) (W1 : FVec Ideal S2x1024x4096 .f32) (W2 : FVec Ideal S2x4096x1024 .f32)
    (G2 : FVec Ideal S2x1024 .f32) (Wg : FVec Ideal S2x1024x1024 .f32) (Wp : FVec Ideal S2x256x1024 .f32) (b : Fin 8) (s : Fin 4096)
    (j : Fin 1024) : tail H Y P Wo G1 W1 W2 G2 Wg Wp (ix3 b s j) = tailRow H Y P Wo G1 W1 W2 G2 Wg Wp b s j := by
  refine (embed_apply _ _ _ _ _ b s j).trans ?_
  refine Row.embed_congr ?_ (funext fun k => gain1_apply G2 k) (funext fun d => emb1_apply P b s d)
    (funext fun k => funext fun j => gate1_apply Wg k j) (funext fun d => funext fun j => proj1_apply Wp d j) j
  funext j
  refine (mlp_apply _ _ _ _ b s j).trans (congrFun ?_ j)
  exact Row.mlp_congr (mix_line H Y Wo b s) (funext fun k => gain1_apply G1 k) (funext fun k => funext fun d => first1_apply W1 k d)
    (funext fun d => funext fun j => second1_apply W2 d j)

/-- The tail's rows side by side. -/
theorem tail_all (H : FVec Ideal S8x4096x1024 .f32) (Y : FVec Ideal S8x4096x1024 .bf16) (P : FVec Ideal S2x8x4096x256 .f32)
    (Wo : FVec Ideal S1024x1024 .f32) (G1 : FVec Ideal S2x1024 .f32) (W1 : FVec Ideal S2x1024x4096 .f32) (W2 : FVec Ideal S2x4096x1024 .f32)
    (G2 : FVec Ideal S2x1024 .f32) (Wg : FVec Ideal S2x1024x1024 .f32) (Wp : FVec Ideal S2x256x1024 .f32) :
    shapeCast S32768x1024 (tail H Y P Wo G1 W1 W2 G2 Wg Wp) shapeCasts_S8x4096x1024_S32768x1024 = tailAll H Y P Wo G1 W1 W2 G2 Wg Wp := by
  funext y
  have hy : y = (ix2 (y 0 : Fin 32768) (y 1 : Fin 1024) : S32768x1024.Idx) := by funext a; fin_cases a <;> rfl
  generalize ht : tail H Y P Wo G1 W1 W2 G2 Wg Wp = T
  have e : ∀ (r : Fin 32768) (j : Fin 1024), shapeCast S32768x1024 T shapeCasts_S8x4096x1024_S32768x1024 (ix2 r j)
      = T (ix3 ⟨r / 4096, by omega⟩ ⟨r % 4096, by omega⟩ j) := by
    intro r j
    pointwise
  refine (congrArg _ hy).trans ((e _ _).trans ?_)
  rw [← ht]
  exact tail_apply H Y P Wo G1 W1 W2 G2 Wg Wp _ _ _

end Cert.Tail2.Ref

end
-- ==== Proof.Tail.Body3.lean ====
/- The tail of layer 0: what its body stores for a block of rows. -/
module

public import proofs.«01_k».proof.Proof.Tail.Body
public import proofs.«01_k».proof.Proof.Gen.Kernel3Ideal.Frame

@[expose] public section

set_option maxRecDepth 16384

noncomputable section

namespace Cert.Tail3

open Idealize.ShloMosaic Idealize.ShloMosaic.TcCoe Idealize.SL.Sem Finset
open Cert.Kernel3Ideal Cert.Kernel3Ideal.Gen

/-- The factors of a head's rows. -/
def headCol (y : FVec Ideal S512x512 .bf16) : FVec Ideal S512x1 .f32 :=
  rsqrt (addf (divf (shapeCast S512x1 (multiReduction .add [1] S512 (mulf (extf .f32 (shapeCast S512x512 y shapeCasts_S512x512_S512x512) bitsLt_bf16_f32)
      (extf .f32 (shapeCast S512x512 y shapeCasts_S512x512_S512x512) bitsLt_bf16_f32)) 0x00000000#32 reduces_S512x512_S512 (.inl rfl) rfl)
    shapeCasts_S512_S512x1) (broadcast S512x1 (Scalar.ofBits .f32 0x44000000#32))) (broadcast S512x1 (Scalar.ofBits .f32 0x358637BD#32)))

/-- A head's rows, normed and gated. -/
def gated (y g : FVec Ideal S512x512 .bf16) : FVec Ideal S512x512 .bf16 :=
  mulf (shapeCast S512x512 g shapeCasts_S512x512_S512x512)
    (truncf .bf16 (mulf (extf .f32 (shapeCast S512x512 y shapeCasts_S512x512_S512x512) bitsLt_bf16_f32)
      (broadcastTo S512x512 (headCol y) broadcasts_S512x1_S512x512)) bitsLt_bf16_f32)

/-- The residual stream with a head's output projection added. -/
def plus (h : FVec Ideal S512x1024 .f32) (y g : FVec Ideal S512x512 .bf16) (w : FVec Ideal S512x1024 .bf16) : FVec Ideal S512x1024 .f32 :=
  addf h (matmul dot_S512x512_S512x1024_S512x1024_1_0_0_1_n_n none (gated y g) (shapeCast S512x1024 w shapeCasts_S512x1024_S512x1024)
    (constant S512x1024 .f32 0x00000000#32))

/-- The factors of a head's rows, read at an index. -/
theorem headCol_apply (y : FVec Ideal S512x512 .bf16) (i : Fin 512) (z : Fin 1) :
    headCol y (ix2 i z) = Row.scale (Ideal.ofBits .f32 0x44000000#32) (Ideal.ofBits .f32 0x358637BD#32)
      (∑ d : Fin 512, y (ix2 i d) * y (ix2 i d)) := by
  pointwise [headCol]
  rfl

/-- A head's rows, normed and gated, read at an index. -/
theorem gated_apply (y g : FVec Ideal S512x512 .bf16) (i d : Fin 512) :
    gated y g (ix2 i d) = g (ix2 i d) * (y (ix2 i d) * headCol y (ix2 i 0)) := by
  generalize hL : headCol y = L
  unfold gated
  rw [hL]
  pointwise

/-- The residual stream with a head's output projection added, read at an index. -/
theorem plus_apply (h : FVec Ideal S512x1024 .f32) (y g : FVec Ideal S512x512 .bf16) (w : FVec Ideal S512x1024 .bf16) (i : Fin 512) (j : Fin 1024) :
    plus h y g w (ix2 i j) = h (ix2 i j) + ∑ d : Fin 512, gated y g (ix2 i d) * w (ix2 d j) := by
  generalize hL : gated y g = L
  unfold plus
  rw [hL]
  pointwise

variable (x0 : FVec Ideal S512x1024 .f32) (x1 x2 : FVec Ideal S512x2048 .bf16) (x3 : FVec Ideal S1x512x256 .f32)
  (x4 : FVec Ideal S2048x1024 .bf16) (x5 : FVec Ideal S1x1x1024 .f32) (x6 : FVec Ideal S1x1024x4096 .bf16)
  (x7 : FVec Ideal S1x4096x1024 .bf16) (x8 : FVec Ideal S1x1x1024 .f32) (x9 : FVec Ideal S1x1024x1024 .bf16)
  (x10 : FVec Ideal S1x256x1024 .bf16)

/-- A head's part of the gated sum, from the blocks. -/
theorem part_apply (c : Fin 4) (inb1 : ∀ a, (![0, 512 * c.val] : Fin 2 → ℕ) a + S512x512.size a ≤ S512x2048.size a)
    (inb2 : ∀ a, (![512 * c.val, 0] : Fin 2 → ℕ) a + S512x1024.size a ≤ S2048x1024.size a) (i : Fin 512) (j : Fin 1024) :
    ∑ d : Fin 512, gated (View.ld (Val := Elt Ideal) (e' := .bf16) x1 (Rect.unit (s := S512x2048) ![0, 512 * c.val] S512x512.size inb1))
        (View.ld (Val := Elt Ideal) (e' := .bf16) x2 (Rect.unit (s := S512x2048) ![0, 512 * c.val] S512x512.size inb1)) (ix2 i d)
        * View.ld (Val := Elt Ideal) (e' := .bf16) x4 (Rect.unit (s := S2048x1024) ![512 * c.val, 0] S512x1024.size inb2) (ix2 d j)
      = ∑ d : Fin 512, x2 (ix2 i ⟨512 * c + d, by omega⟩) * (x1 (ix2 i ⟨512 * c + d, by omega⟩) * Row.head (fun k => x1 (ix2 i k)) c)
          * x4 (ix2 ⟨512 * c + d, by omega⟩ j) := by
  have hld : ∀ (x : FVec Ideal S512x2048 .bf16) (d : Fin 512),
      View.ld (Val := Elt Ideal) (e' := .bf16) x (Rect.unit (s := S512x2048) ![0, 512 * c.val] S512x512.size inb1) (ix2 i d)
        = x (ix2 i ⟨512 * c + d, by omega⟩) := by
    intro x d
    refine (Cert.Tail.ld2_apply (e := .bf16) (by omega) (by omega) x inb1 i d).trans (congrArg (fun i => x (ix2 i _)) (Fin.ext ?_))
    show 0 + (i : ℕ) = i
    omega
  refine Finset.sum_congr rfl fun d _ => ?_
  refine congrArg₂ (fun x y : EReal => x * y) ((gated_apply _ _ i d).trans ?_) ?_
  · refine congrArg₂ (fun x y : EReal => x * y) (hld x2 d) (congrArg₂ (fun x y : EReal => x * y) (hld x1 d) ((headCol_apply _ i 0).trans ?_))
    refine congrArg (Row.scale _ _) (Finset.sum_congr rfl fun d _ => ?_)
    exact congrArg (fun x : EReal => x * x) (hld x1 d)
  · refine (Cert.Tail.ld2_apply (e := .bf16) (by omega) (by omega) x4 inb2 d j).trans (congrArg (fun j => x4 (ix2 _ j)) (Fin.ext ?_))
    show 0 + (j : ℕ) = j
    omega

/-- The residual stream with the retention's output projection added, a head after another. -/
def mixed : FVec Ideal S512x1024 .f32 :=
  plus (plus (plus (plus (shapeCast S512x1024 (View.ld (Val := Elt Ideal) (e' := .f32) x0 r0_0) shapeCasts_S512x1024_S512x1024)
      (View.ld (Val := Elt Ideal) (e' := .bf16) x1 r0_1) (View.ld (Val := Elt Ideal) (e' := .bf16) x2 r0_1) (View.ld (Val := Elt Ideal) (e' := .bf16) x4 r0_2))
      (View.ld (Val := Elt Ideal) (e' := .bf16) x1 r0_3) (View.ld (Val := Elt Ideal) (e' := .bf16) x2 r0_3) (View.ld (Val := Elt Ideal) (e' := .bf16) x4 r0_4))
      (View.ld (Val := Elt Ideal) (e' := .bf16) x1 r0_5) (View.ld (Val := Elt Ideal) (e' := .bf16) x2 r0_5) (View.ld (Val := Elt Ideal) (e' := .bf16) x4 r0_6))
      (View.ld (Val := Elt Ideal) (e' := .bf16) x1 r0_7) (View.ld (Val := Elt Ideal) (e' := .bf16) x2 r0_7) (View.ld (Val := Elt Ideal) (e' := .bf16) x4 r0_8)

/-- The residual stream with the retention's output projection added, a head after another, read at an index. -/
theorem mixed_apply (i : Fin 512) (j : Fin 1024) :
    mixed x0 x1 x2 x4 (ix2 i j)
      = x0 (ix2 i j) + Row.gatedSum (fun k => x2 (ix2 i k)) (fun k => x1 (ix2 i k)) (fun k => x4 (ix2 k j)) := by
  rw [Row.gatedSum_heads, Fin.sum_univ_four]
  simp only [← add_assoc]
  have e0 : shapeCast S512x1024 (View.ld (Val := Elt Ideal) (e' := .f32) x0 r0_0) shapeCasts_S512x1024_S512x1024 (ix2 i j) = x0 (ix2 i j) := by
    have e : ∀ x : FVec Ideal S512x1024 .f32, shapeCast S512x1024 x shapeCasts_S512x1024_S512x1024 (ix2 i j) = x (ix2 i j) := by
      intro x
      pointwise
    refine (e _).trans ((Cert.Tail.ld2_apply (e := .f32) (by omega) (by omega) x0 _ i j).trans
      (congrArg₂ (fun i j => x0 (ix2 i j)) (Fin.ext ?_) (Fin.ext ?_)))
    · show 0 + (i : ℕ) = i
      omega
    · show 0 + (j : ℕ) = j
      omega
  refine (plus_apply _ _ _ _ i j).trans (congrArg₂ (fun x y : EReal => x + y) ?_ (part_apply x1 x2 x4 3 _ _ i j))
  refine (plus_apply _ _ _ _ i j).trans (congrArg₂ (fun x y : EReal => x + y) ?_ (part_apply x1 x2 x4 2 _ _ i j))
  refine (plus_apply _ _ _ _ i j).trans (congrArg₂ (fun x y : EReal => x + y) ?_ (part_apply x1 x2 x4 1 _ _ i j))
  exact (plus_apply _ _ _ _ i j).trans (congrArg₂ (fun x y : EReal => x + y) e0 (part_apply x1 x2 x4 0 _ _ i j))

/-- The stored block is the tail's four pieces. -/
theorem out_eq : out0_11 x0 x1 x2 x3 x4 x5 x6 x7 x8 x9 x10
    = View.canon (Val := Elt Ideal) (Cert.Tail.stored (Cert.Tail.after (mixed x0 x1 x2 x4) x5 x6 x7) x3 x8 x9 x10) := by
  have e25 : k0_pay25 x0 x1 x2 x3 x4 x5 x6 x7 x8 x9 x10 = mixed x0 x1 x2 x4 := rfl
  have e29 : k0_pay29 x0 x1 x2 x3 x4 x5 x6 x7 x8 x9 x10 = Cert.Tail.after (k0_pay25 x0 x1 x2 x3 x4 x5 x6 x7 x8 x9 x10) x5 x6 x7 := rfl
  have e30 : k0_pay30 x0 x1 x2 x3 x4 x5 x6 x7 x8 x9 x10 = Cert.Tail.inv256 (k0_pay29 x0 x1 x2 x3 x4 x5 x6 x7 x8 x9 x10) := rfl
  have e31 : k0_pay31 x0 x1 x2 x3 x4 x5 x6 x7 x8 x9 x10
      = Cert.Tail.gained (k0_pay29 x0 x1 x2 x3 x4 x5 x6 x7 x8 x9 x10) (View.ld (Val := Elt Ideal) (e' := .f32) x8 r0_9) := rfl
  have e32 : k0_pay32 x0 x1 x2 x3 x4 x5 x6 x7 x8 x9 x10 = Cert.Tail.pes (View.ld (Val := Elt Ideal) (e' := .f32) x3 r0_26) := rfl
  have e17 : k0_pay17 (k0_pay25 x0 x1 x2 x3 x4 x5 x6 x7 x8 x9 x10) (k0_pay26 x0 x1 x2 x3 x4 x5 x6 x7 x8 x9 x10)
      (k0_pay27 x0 x1 x2 x3 x4 x5 x6 x7 x8 x9 x10) (k0_pay28 x0 x1 x2 x3 x4 x5 x6 x7 x8 x9 x10)
      (View.ld (Val := Elt Ideal) (e' := .bf16) x6 r0_24) (View.ld (Val := Elt Ideal) (e' := .bf16) x7 r0_25)
      (View.ld (Val := Elt Ideal) (e' := .f32) x8 r0_9) (View.ld (Val := Elt Ideal) (e' := .bf16) x9 r0_27)
      = tanh (mulf (broadcast S512x256 (Scalar.ofBits .f32 0x3F000000#32)) (k0_pay20 (k0_pay30 x0 x1 x2 x3 x4 x5 x6 x7 x8 x9 x10)
        (k0_pay31 x0 x1 x2 x3 x4 x5 x6 x7 x8 x9 x10) (View.ld (Val := Elt Ideal) (e' := .bf16) x9 r0_27))) := rfl
  unfold out0_11 Cert.Tail.stored
  rw [e17, e30, e31, e32, e29, e25]
  generalize Cert.Tail.after (mixed x0 x1 x2 x4) x5 x6 x7 = h
  rfl

end Cert.Tail3

end
-- ==== Proof.Tail.Array3.lean ====
/- The result array of layer 0's tail: each point of its grid writes its block of rows. -/
module

public import proofs.«01_k».proof.Proof.Tail.Body3
public import proofs.«01_k».proof.Proof.Gen.Kernel3Ideal.Value

@[expose] public section

set_option maxRecDepth 16384

noncomputable section

namespace Cert.Tail3

open Idealize.ShloMosaic Idealize.ShloMosaic.TcCoe Idealize.SL.Sem Finset
open Cert.Kernel3Ideal Cert.Kernel3Ideal.Gen

variable (m : (ℓ : Loc nD τ sig) → Buf (Elt Ideal) ℓ)

/-- The blocks of a grid point: its rows, and the whole of layer 0's weights. -/
theorem idx : ∀ t : Fin cfg0.N,
    win0_0.index t = ![t.val, 0] ∧ win0_1.index t = ![t.val, 0] ∧ win0_2.index t = ![t.val, 0] ∧ win0_3.index t = ![0, t.val, 0]
      ∧ win0_4.index t = ![0, 0] ∧ win0_5.index t = ![0, 0, 0] ∧ win0_6.index t = ![0, 0, 0] ∧ win0_7.index t = ![0, 0, 0]
      ∧ win0_8.index t = ![0, 0, 0] ∧ win0_9.index t = ![0, 0, 0] ∧ win0_10.index t = ![0, 0, 0] ∧ win0_11.index t = ![t.val, 0]
      ∧ t.val < 64 :=
  (by decide +kernel : ∀ t : Fin grid0.N, _)

/-- The grid has 64 steps. -/
theorem lt64 (t : Fin cfg0.N) : t.val < 64 := (idx t).2.2.2.2.2.2.2.2.2.2.2.2

/-- The batch of a row. -/
def bat (t : Fin cfg0.N) (i : Fin 512) : Fin 8 := ⟨(512 * t.val + i) / 4096, by have := lt64 t; omega⟩

/-- The position of a row. -/
def pos (t : Fin cfg0.N) (i : Fin 512) : Fin 4096 := ⟨(512 * t.val + i) % 4096, by omega⟩

/-- The block of the residual stream. -/
theorem block0 (c : Dev nD) (t : Fin cfg0.N) (i : Fin 512) (j : Fin 1024) :
    iblk m c 0 t (ix2 i j : S512x1024.Idx) = (m ((c : Thread nD τ).loc main_arg0) : FVec Ideal S8x4096x1024 .f32) (ix3 (bat t i) (pos t i) j) := by
  unfold bat pos
  blk_ext! [iblk, V, idx t]

/-- The block of the retention's output. -/
theorem block1 (c : Dev nD) (t : Fin cfg0.N) (i : Fin 512) (j : Fin 2048) :
    iblk m c 1 t (ix2 i j : S512x2048.Idx) = (m ((c : Thread nD τ).loc main_arg1) : FVec Ideal S8x4096x2048 .bf16) (ix3 (bat t i) (pos t i) j) := by
  unfold bat pos
  blk_ext! [iblk, V, idx t]

/-- The block of the gate. -/
theorem block2 (c : Dev nD) (t : Fin cfg0.N) (i : Fin 512) (j : Fin 2048) :
    iblk m c 2 t (ix2 i j : S512x2048.Idx) = (m ((c : Thread nD τ).loc main_arg2) : FVec Ideal S8x4096x2048 .bf16) (ix3 (bat t i) (pos t i) j) := by
  unfold bat pos
  blk_ext! [iblk, V, idx t]

/-- The block of the embeddings. -/
theorem block3 (c : Dev nD) (t : Fin cfg0.N) (i : Fin 512) (d : Fin 256) :
    iblk m c 3 t (ix3 0 i d : S1x512x256.Idx)
      = (m ((c : Thread nD τ).loc main_arg3) : FVec Ideal S2x8x4096x256 .f32) (ix4 0 (bat t i) (pos t i) d) := by
  have ht := lt64 t
  unfold bat pos
  blk_ext! [iblk, V, idx t]

/-- The output projection. -/
theorem block4 (c : Dev nD) (t : Fin cfg0.N) (k : Fin 2048) (j : Fin 1024) :
    iblk m c 4 t (ix2 k j : S2048x1024.Idx) = (m ((c : Thread nD τ).loc main_arg4) : FVec Ideal S2048x1024 .f32) (ix2 k j) := by
  blk_ext! [iblk, V, idx t]

/-- The network's gain. -/
theorem block5 (c : Dev nD) (t : Fin cfg0.N) (j : Fin 1024) :
    iblk m c 5 t (ix3 0 0 j : S1x1x1024.Idx) = (m ((c : Thread nD τ).loc main_arg5) : FVec Ideal S2x1024 .f32) (ix2 0 j) := by
  blk_ext! [iblk, V, idx t]

/-- The network's first weights. -/
theorem block6 (c : Dev nD) (t : Fin cfg0.N) (k : Fin 1024) (j : Fin 4096) :
    iblk m c 6 t (ix3 0 k j : S1x1024x4096.Idx) = (m ((c : Thread nD τ).loc main_arg6) : FVec Ideal S2x1024x4096 .f32) (ix3 0 k j) := by
  blk_ext! [iblk, V, idx t]

/-- The network's second weights. -/
theorem block7 (c : Dev nD) (t : Fin cfg0.N) (k : Fin 4096) (j : Fin 1024) :
    iblk m c 7 t (ix3 0 k j : S1x4096x1024.Idx) = (m ((c : Thread nD τ).loc main_arg7) : FVec Ideal S2x4096x1024 .f32) (ix3 0 k j) := by
  blk_ext! [iblk, V, idx t]

/-- The embedding's gain. -/
theorem block8 (c : Dev nD) (t : Fin cfg0.N) (j : Fin 1024) :
    iblk m c 8 t (ix3 0 0 j : S1x1x1024.Idx) = (m ((c : Thread nD τ).loc main_arg8) : FVec Ideal S2x1024 .f32) (ix2 0 j) := by
  blk_ext! [iblk, V, idx t]

/-- The gate's weights. -/
theorem block9 (c : Dev nD) (t : Fin cfg0.N) (k j : Fin 1024) :
    iblk m c 9 t (ix3 0 k j : S1x1024x1024.Idx) = (m ((c : Thread nD τ).loc main_arg9) : FVec Ideal S2x1024x1024 .f32) (ix3 0 k j) := by
  blk_ext! [iblk, V, idx t]

/-- The embedding's projection. -/
theorem block10 (c : Dev nD) (t : Fin cfg0.N) (k : Fin 256) (j : Fin 1024) :
    iblk m c 10 t (ix3 0 k j : S1x256x1024.Idx) = (m ((c : Thread nD τ).loc main_arg10) : FVec Ideal S2x256x1024 .f32) (ix3 0 k j) := by
  blk_ext! [iblk, V, idx t]

/-- The row of a batch and a position after the output projection. -/
def mixRow (H : FVec Ideal S8x4096x1024 .f32) (Y Gt : FVec Ideal S8x4096x2048 .bf16) (Wo : FVec Ideal S2048x1024 .f32) (b : Fin 8)
    (s : Fin 4096) (j : Fin 1024) : EReal :=
  H (ix3 b s j) + Row.gatedSum (fun k => Gt (ix3 b s k)) (fun k => Y (ix3 b s k)) (fun k => Wo (ix2 k j))

/-- The row of a batch and a position after the tail, from the arguments. -/
def tailRow (H : FVec Ideal S8x4096x1024 .f32) (Y Gt : FVec Ideal S8x4096x2048 .bf16) (P : FVec Ideal S2x8x4096x256 .f32)
    (Wo : FVec Ideal S2048x1024 .f32) (G1 : FVec Ideal S2x1024 .f32) (W1 : FVec Ideal S2x1024x4096 .f32) (W2 : FVec Ideal S2x4096x1024 .f32)
    (G2 : FVec Ideal S2x1024 .f32) (Wg : FVec Ideal S2x1024x1024 .f32) (Wp : FVec Ideal S2x256x1024 .f32) (b : Fin 8) (s : Fin 4096)
    (j : Fin 1024) : EReal :=
  Row.embed (Row.mlp (mixRow H Y Gt Wo b s) (fun k => G1 (ix2 0 k))
      (fun k d => W1 (ix3 0 k d)) (fun d j => W2 (ix3 0 d j))) (fun k => G2 (ix2 0 k)) (fun d => P (ix4 0 b s d))
    (fun k j => Wg (ix3 0 k j)) (fun d j => Wp (ix3 0 d j)) j

/-- Every row after the tail. -/
def tailAll (H : FVec Ideal S8x4096x1024 .f32) (Y Gt : FVec Ideal S8x4096x2048 .bf16) (P : FVec Ideal S2x8x4096x256 .f32)
    (Wo : FVec Ideal S2048x1024 .f32) (G1 : FVec Ideal S2x1024 .f32) (W1 : FVec Ideal S2x1024x4096 .f32) (W2 : FVec Ideal S2x4096x1024 .f32)
    (G2 : FVec Ideal S2x1024 .f32) (Wg : FVec Ideal S2x1024x1024 .f32) (Wp : FVec Ideal S2x256x1024 .f32) : FVec Ideal S32768x1024 .f32 :=
  fun y => tailRow H Y Gt P Wo G1 W1 W2 G2 Wg Wp ⟨(y 0).val / 4096, by have : (y 0).val < 32768 := (y 0).isLt; omega⟩
    ⟨(y 0).val % 4096, by omega⟩ (y 1)

/-- What a point stores is its rows of the result. -/
theorem point (c : Dev nD) (t : Fin cfg0.N) (i : Fin 512) (j : Fin 1024) :
    out0_11 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix2 i j)
      = tailRow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (bat t i) (pos t i) j := by
  refine (congrFun (out_eq (iblk m c 0 t) (iblk m c 1 t) (iblk m c 2 t) (iblk m c 3 t) (iblk m c 4 t) (iblk m c 5 t) (iblk m c 6 t) (iblk m c 7 t)
    (iblk m c 8 t) (iblk m c 9 t) (iblk m c 10 t)) (ix2 i j)).trans ?_
  refine (Cert.Tail.stored_after _ (iblk m c 3 t) (iblk m c 5 t) (iblk m c 6 t) (iblk m c 7 t) (iblk m c 8 t) (iblk m c 9 t) (iblk m c 10 t)
    (ix2 i j)).trans ?_
  have hr : Cert.Tail.row (mixed (iblk m c 0 t) (iblk m c 1 t) (iblk m c 2 t) (iblk m c 4 t)) i = mixRow (m ((c : Thread nD τ).loc main_arg0))
      (m ((c : Thread nD τ).loc main_arg1)) (m ((c : Thread nD τ).loc main_arg2)) (m ((c : Thread nD τ).loc main_arg4)) (bat t i) (pos t i) := by
    funext j
    refine (mixed_apply (iblk m c 0 t) (iblk m c 1 t) (iblk m c 2 t) (iblk m c 4 t) i j).trans ?_
    refine congrArg₂ (fun x y : EReal => x + y) (block0 m c t i j) ?_
    exact Row.three Row.gatedSum (funext fun k => block2 m c t i k) (funext fun k => block1 m c t i k) (funext fun k => block4 m c t k j)
  have h5 : Cert.Tail.gain (iblk m c 5 t) = fun k => (m ((c : Thread nD τ).loc main_arg5) : FVec Ideal S2x1024 .f32) (ix2 0 k) :=
    funext fun k => block5 m c t k
  have h6 : Cert.Tail.mat1 (iblk m c 6 t) = fun k d => (m ((c : Thread nD τ).loc main_arg6) : FVec Ideal S2x1024x4096 .f32) (ix3 0 k d) :=
    funext fun k => funext fun d => block6 m c t k d
  have h7 : Cert.Tail.mat2 (iblk m c 7 t) = fun k d => (m ((c : Thread nD τ).loc main_arg7) : FVec Ideal S2x4096x1024 .f32) (ix3 0 k d) :=
    funext fun k => funext fun d => block7 m c t k d
  have h8 : Cert.Tail.gain (iblk m c 8 t) = fun k => (m ((c : Thread nD τ).loc main_arg8) : FVec Ideal S2x1024 .f32) (ix2 0 k) :=
    funext fun k => block8 m c t k
  have h9 : (fun k j => iblk m c 9 t (ix3 0 k j : S1x1024x1024.Idx))
      = fun k j => (m ((c : Thread nD τ).loc main_arg9) : FVec Ideal S2x1024x1024 .f32) (ix3 0 k j) :=
    funext fun k => funext fun d => block9 m c t k d
  have h10 : (fun k j => iblk m c 10 t (ix3 0 k j : S1x256x1024.Idx))
      = fun k j => (m ((c : Thread nD τ).loc main_arg10) : FVec Ideal S2x256x1024 .f32) (ix3 0 k j) :=
    funext fun k => funext fun d => block10 m c t k d
  have h3 : (fun d => iblk m c 3 t (ix3 0 i d : S1x512x256.Idx))
      = fun d => (m ((c : Thread nD τ).loc main_arg3) : FVec Ideal S2x8x4096x256 .f32) (ix4 0 (bat t i) (pos t i) d) :=
    funext fun d => block3 m c t i d
  exact Row.embed_congr (Row.mlp_congr hr h5 h6 h7) h8 h3 h9 h10 j

/-- The result array after the run. -/
theorem final (c : Dev nD) : (dats m 0 c).arrAt 11 cfg0.N
    = tailAll (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  refine (dats m 0 c).arrAt_eq_of_covers 11 _ (by decide +kernel) fun t _ y => ?_
  blk_simp
  have hy : y = (ix2 (y 0 : Fin 512) (y 1 : Fin 1024) : S512x1024.Idx) := by funext a; fin_cases a <;> rfl
  have h0 : (((win0_11.blk t).view.emb y) 0 : ℕ) = t.val * 512 + y 0 := by blk_simp [idx t]
  have h1 : ((win0_11.blk t).view.emb y) 1 = (y 1 : Fin 1024) := Fin.ext (by blk_simp [idx t])
  rw [after0_11]
  refine (congrArg _ hy).trans ((point m c t (y 0 : Fin 512) (y 1 : Fin 1024)).trans ?_)
  unfold tailAll
  refine Row.three (tailRow _ _ _ _ _ _ _ _ _ _ _) (Fin.ext ?_) (Fin.ext ?_) h1.symm
  · show (512 * t.val + (y 0 : ℕ)) / 4096 = (((win0_11.blk t).view.emb y) 0 : ℕ) / 4096
    rw [h0, Nat.mul_comm]
  · show (512 * t.val + (y 0 : ℕ)) % 4096 = (((win0_11.blk t).view.emb y) 0 : ℕ) % 4096
    rw [h0, Nat.mul_comm]

end Cert.Tail3

end
-- ==== Proof.Tail.Reference3.lean ====
/- The reference of the first layer's tail, read at an index. -/
module

public import proofs.«01_k».proof.Proof.Tail.RefSteps
public import proofs.«01_k».proof.Proof.Tail.Array3
public import proofs.«01_k».proof.Proof.Gen.Reference3Ideal.Run

@[expose] public section

set_option maxRecDepth 16384

noncomputable section

namespace Cert.Tail3.Ref

open Idealize.ShloMosaic Idealize.ShloMosaic.TcCoe Idealize.SL.Sem Finset
open Cert.Reference3Ideal Cert.Reference3Ideal.Gen

/-- The retention's output by head. -/
def heads (Y : FVec Ideal S8x4096x2048 .bf16) : FVec Ideal S8x4096x4x512 .f32 :=
  shapeCast S8x4096x4x512 (extf .f32 Y bitsLt_bf16_f32) shapeCasts_S8x4096x2048_S8x4096x4x512

/-- The factor of every head. -/
def factor (y : FVec Ideal S8x4096x4x512 .f32) : FVec Ideal S8x4096x4x1 .f32 :=
  Host.rsqrt (addf (Host.divf (broadcastInDim S8x4096x4x1 ![0, 1, 2] bcast_S8x4096x4_S8x4096x4x1_0_1_2
      (Host.reduceAdd (mulf y y) (constant S_ .f32 0x00000000#32) reducesTo_S8x4096x4x512_S8x4096x4_d3 h_S_))
    (broadcastInDim S8x4096x4x1 ![] bcast_S_S8x4096x4x1 (constant S_ .f32 0x44000000#32)))
    (broadcastInDim S8x4096x4x1 ![] bcast_S_S8x4096x4x1 (constant S_ .f32 0x358637BD#32)))

/-- The normed heads, side by side. -/
def normed (y : FVec Ideal S8x4096x4x512 .f32) : FVec Ideal S8x4096x2048 .f32 :=
  shapeCast S8x4096x2048 (mulf (mulf y (broadcastInDim S8x4096x4x512 ![0, 1, 2, 3] bcast_S8x4096x4x1_S8x4096x4x512_0_1_2_3 (factor y)))
    (broadcastInDim S8x4096x4x512 ![] bcast_S_S8x4096x4x512 (constant S_ .f32 0x3F800000#32))) shapeCasts_S8x4096x4x512_S8x4096x2048

/-- The residual stream after the output projection. -/
def mix (H : FVec Ideal S8x4096x1024 .f32) (Y G : FVec Ideal S8x4096x2048 .bf16) (Wo : FVec Ideal S2048x1024 .f32) : FVec Ideal S8x4096x1024 .f32 :=
  addf H (Host.dotGeneral dot_S8x4096x2048_S2048x1024_S8x4096x1024_2_0_01_1_n_n none
    (mulf (extf .f32 G bitsLt_bf16_f32) (normed (heads Y))) Wo)

/-- The first layer's gain. -/
def gain0 (G : FVec Ideal S2x1024 .f32) : FVec Ideal S1024 .f32 :=
  shapeCast S1024 (extractStridedSlice S1x1024 ![0, 0] G slices_S2x1024_S1x1024_0_0) shapeCasts_S1x1024_S1024

/-- The first layer's first weights. -/
def first0 (W : FVec Ideal S2x1024x4096 .f32) : FVec Ideal S1024x4096 .f32 :=
  shapeCast S1024x4096 (extractStridedSlice S1x1024x4096 ![0, 0, 0] W slices_S2x1024x4096_S1x1024x4096_0_0_0) shapeCasts_S1x1024x4096_S1024x4096

/-- The first layer's second weights. -/
def second0 (W : FVec Ideal S2x4096x1024 .f32) : FVec Ideal S4096x1024 .f32 :=
  shapeCast S4096x1024 (extractStridedSlice S1x4096x1024 ![0, 0, 0] W slices_S2x4096x1024_S1x4096x1024_0_0_0) shapeCasts_S1x4096x1024_S4096x1024

/-- The first layer's gate weights. -/
def gate0 (W : FVec Ideal S2x1024x1024 .f32) : FVec Ideal S1024x1024 .f32 :=
  shapeCast S1024x1024 (extractStridedSlice S1x1024x1024 ![0, 0, 0] W slices_S2x1024x1024_S1x1024x1024_0_0_0) shapeCasts_S1x1024x1024_S1024x1024

/-- The first layer's projection of the embeddings. -/
def proj0 (W : FVec Ideal S2x256x1024 .f32) : FVec Ideal S256x1024 .f32 :=
  shapeCast S256x1024 (extractStridedSlice S1x256x1024 ![0, 0, 0] W slices_S2x256x1024_S1x256x1024_0_0_0) shapeCasts_S1x256x1024_S256x1024

/-- The first layer's embeddings. -/
def emb0 (P : FVec Ideal S2x8x4096x256 .f32) : FVec Ideal S8x4096x256 .f32 :=
  shapeCast S8x4096x256 (extractStridedSlice S1x8x4096x256 ![0, 0, 0, 0] P slices_S2x8x4096x256_S1x8x4096x256_0_0_0_0)
    shapeCasts_S1x8x4096x256_S8x4096x256

/-- The whole tail. -/
def tail (H : FVec Ideal S8x4096x1024 .f32) (Y G : FVec Ideal S8x4096x2048 .bf16) (P : FVec Ideal S2x8x4096x256 .f32)
    (Wo : FVec Ideal S2048x1024 .f32) (G1 : FVec Ideal S2x1024 .f32) (W1 : FVec Ideal S2x1024x4096 .f32) (W2 : FVec Ideal S2x4096x1024 .f32)
    (G2 : FVec Ideal S2x1024 .f32) (Wg : FVec Ideal S2x1024x1024 .f32) (Wp : FVec Ideal S2x256x1024 .f32) : FVec Ideal S8x4096x1024 .f32 :=
  Cert.Tail.Ref.embed (Cert.Tail.Ref.mlp (mix H Y G Wo) (gain0 G1) (first0 W1) (second0 W2)) (gain0 G2) (emb0 P) (gate0 Wg) (proj0 Wp)

/-- The reference's result is the tail, its rows side by side. -/
theorem result_eq (m : (ℓ : Loc nD τ sig) → Buf (Elt Ideal) ℓ) (c : Dev nD) :
    Cert.Reference3Ideal.Value.res_main_v74 m c
      = shapeCast S32768x1024 (tail (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)))
        shapeCasts_S8x4096x1024_S32768x1024 := rfl

/-- The retention's output by head, read at an index. -/
theorem heads_apply (Y : FVec Ideal S8x4096x2048 .bf16) (b : Fin 8) (s : Fin 4096) (c : Fin 4) (d : Fin 512) :
    heads Y (ix4 b s c d) = Y (ix3 b s ⟨512 * c + d, by omega⟩) := by
  pointwise [heads]
  exact congrArg (fun z => Y (ix3 b s z)) (Fin.ext (by show (c : ℕ) * 512 + d = 512 * c + d; omega))

/-- The factor of every head, read at an index. -/
theorem factor_apply (Y : FVec Ideal S8x4096x2048 .bf16) (b : Fin 8) (s : Fin 4096) (c : Fin 4) (z : Fin 1) :
    factor (heads Y) (ix4 b s c z) = Row.head (fun k => Y (ix3 b s k)) c := by
  have e : ∀ y : FVec Ideal S8x4096x4x512 .f32, factor y (ix4 b s c z)
      = Row.scale (Ideal.ofBits .f32 0x44000000#32) (Ideal.ofBits .f32 0x358637BD#32) (∑ d : Fin 512, y (ix4 b s c d) * y (ix4 b s c d)) := by
    intro y
    pointwise [factor]
    rfl
  refine (e _).trans (congrArg (Row.scale _ _) (Finset.sum_congr rfl fun d _ => ?_))
  exact congrArg (fun x : EReal => x * x) (heads_apply Y b s c d)

/-- The normed heads, side by side, read at an index. -/
theorem normed_apply (Y : FVec Ideal S8x4096x2048 .bf16) (b : Fin 8) (s : Fin 4096) (k : Fin 2048) :
    normed (heads Y) (ix3 b s k) = Y (ix3 b s k) * Row.head (fun k => Y (ix3 b s k)) ⟨k / 512, by omega⟩ := by
  have e : ∀ y : FVec Ideal S8x4096x4x512 .f32, normed y (ix3 b s k)
      = y (ix4 b s ⟨k / 512, by omega⟩ ⟨k % 512, by omega⟩) * factor y (ix4 b s ⟨k / 512, by omega⟩ 0) * Ideal.ofBits .f32 0x3F800000#32 := by
    intro y
    generalize hL : factor y = L
    unfold normed
    rw [hL]
    pointwise
  refine (e _).trans ?_
  rw [Row.ofBits_one, EReal.coe_one, mul_one, factor_apply, heads_apply]
  exact congrArg (fun z => Y (ix3 b s z) * Row.head (fun k => Y (ix3 b s k)) ⟨k / 512, by omega⟩)
    (Fin.ext (by show 512 * ((k : ℕ) / 512) + (k : ℕ) % 512 = k; omega))

/-- A row after the heads' norm, gate and projection and the residual. -/
theorem mix_line (H : FVec Ideal S8x4096x1024 .f32) (Y G : FVec Ideal S8x4096x2048 .bf16) (Wo : FVec Ideal S2048x1024 .f32) (b : Fin 8)
    (s : Fin 4096) : Cert.Tail.Ref.line (mix H Y G Wo) b s = mixRow H Y G Wo b s := by
  funext j
  have e : mix H Y G Wo (ix3 b s j) = H (ix3 b s j) + ∑ k : Fin 2048, G (ix3 b s k) * normed (heads Y) (ix3 b s k) * Wo (ix2 k j) := by
    generalize hL : normed (heads Y) = L
    unfold mix
    rw [hL]
    pointwise
  refine (show _ = _ from e).trans (congrArg (fun x : EReal => H (ix3 b s j) + x) (Finset.sum_congr rfl fun k _ => ?_))
  exact congrArg (fun x : EReal => G (ix3 b s k) * x * Wo (ix2 k j)) (normed_apply Y b s k)

/-- The first layer's gain, read at an index. -/
theorem gain0_apply (G : FVec Ideal S2x1024 .f32) (k : Fin 1024) : gain0 G (ix1 k) = G (ix2 0 k) := by
  pointwise [gain0]

/-- The first layer's first weights, read at an index. -/
theorem first0_apply (W : FVec Ideal S2x1024x4096 .f32) (k : Fin 1024) (d : Fin 4096) : first0 W (ix2 k d) = W (ix3 0 k d) := by
  pointwise [first0]

/-- The first layer's second weights, read at an index. -/
theorem second0_apply (W : FVec Ideal S2x4096x1024 .f32) (d : Fin 4096) (j : Fin 1024) : second0 W (ix2 d j) = W (ix3 0 d j) := by
  pointwise [second0]

/-- The first layer's gate weights, read at an index. -/
theorem gate0_apply (W : FVec Ideal S2x1024x1024 .f32) (k j : Fin 1024) : gate0 W (ix2 k j) = W (ix3 0 k j) := by
  pointwise [gate0]

/-- The first layer's projection of the embeddings, read at an index. -/
theorem proj0_apply (W : FVec Ideal S2x256x1024 .f32) (d : Fin 256) (j : Fin 1024) : proj0 W (ix2 d j) = W (ix3 0 d j) := by
  pointwise [proj0]

/-- The first layer's embeddings, read at an index. -/
theorem emb0_apply (P : FVec Ideal S2x8x4096x256 .f32) (b : Fin 8) (s : Fin 4096) (d : Fin 256) : emb0 P (ix3 b s d) = P (ix4 0 b s d) := by
  pointwise [emb0]

/-- The whole tail, read at an index. -/
theorem tail_apply (H : FVec Ideal S8x4096x1024 .f32) (Y G : FVec Ideal S8x4096x2048 .bf16) (P : FVec Ideal S2x8x4096x256 .f32)
    (Wo : FVec Ideal S2048x1024 .f32) (G1 : FVec Ideal S2x1024 .f32) (W1 : FVec Ideal S2x1024x4096 .f32) (W2 : FVec Ideal S2x4096x1024 .f32)
    (G2 : FVec Ideal S2x1024 .f32) (Wg : FVec Ideal S2x1024x1024 .f32) (Wp : FVec Ideal S2x256x1024 .f32) (b : Fin 8) (s : Fin 4096)
    (j : Fin 1024) : tail H Y G P Wo G1 W1 W2 G2 Wg Wp (ix3 b s j) = tailRow H Y G P Wo G1 W1 W2 G2 Wg Wp b s j := by
  refine (Cert.Tail.Ref.embed_apply _ _ _ _ _ b s j).trans ?_
  refine Row.embed_congr ?_ (funext fun k => gain0_apply G2 k) (funext fun d => emb0_apply P b s d)
    (funext fun k => funext fun j => gate0_apply Wg k j) (funext fun d => funext fun j => proj0_apply Wp d j) j
  funext j
  refine (Cert.Tail.Ref.mlp_apply _ _ _ _ b s j).trans (congrFun ?_ j)
  exact Row.mlp_congr (mix_line H Y G Wo b s) (funext fun k => gain0_apply G1 k) (funext fun k => funext fun d => first0_apply W1 k d)
    (funext fun d => funext fun j => second0_apply W2 d j)

/-- The tail's rows side by side. -/
theorem tail_all (H : FVec Ideal S8x4096x1024 .f32) (Y G : FVec Ideal S8x4096x2048 .bf16) (P : FVec Ideal S2x8x4096x256 .f32)
    (Wo : FVec Ideal S2048x1024 .f32) (G1 : FVec Ideal S2x1024 .f32) (W1 : FVec Ideal S2x1024x4096 .f32) (W2 : FVec Ideal S2x4096x1024 .f32)
    (G2 : FVec Ideal S2x1024 .f32) (Wg : FVec Ideal S2x1024x1024 .f32) (Wp : FVec Ideal S2x256x1024 .f32) :
    shapeCast S32768x1024 (tail H Y G P Wo G1 W1 W2 G2 Wg Wp) shapeCasts_S8x4096x1024_S32768x1024 = tailAll H Y G P Wo G1 W1 W2 G2 Wg Wp := by
  funext y
  have hy : y = (ix2 (y 0 : Fin 32768) (y 1 : Fin 1024) : S32768x1024.Idx) := by funext a; fin_cases a <;> rfl
  generalize ht : tail H Y G P Wo G1 W1 W2 G2 Wg Wp = T
  have e : ∀ (r : Fin 32768) (j : Fin 1024), shapeCast S32768x1024 T shapeCasts_S8x4096x1024_S32768x1024 (ix2 r j)
      = T (ix3 ⟨r / 4096, by omega⟩ ⟨r % 4096, by omega⟩ j) := by
    intro r j
    pointwise
  refine (congrArg _ hy).trans ((e _ _).trans ?_)
  rw [← ht]
  exact tail_apply H Y G P Wo G1 W1 W2 G2 Wg Wp _ _ _

end Cert.Tail3.Ref

end
-- ==== Proof.Proj.Steps.lean ====
/- What the projections compute on a block of rows, read at an index: the products with the columns of the weights, the norm's
   factor applied afterwards, the rotation of a head's two halves, the gate. -/
module

public import proofs.«01_k».proof.Proof.Gen.Kernel4Ideal.Frame
public import proofs.«01_k».proof.Proof.Tail.Steps

@[expose] public section

set_option maxRecDepth 16384

noncomputable section

namespace Cert.Proj

open Idealize.ShloMosaic Idealize.ShloMosaic.TcCoe Idealize.SL.Sem Finset
open Cert.Kernel4Ideal Cert.Kernel4Ideal.Gen

/-- The halves of the heads of a row of four, turned by the angles whose cosines and sines are given. -/
def rot (p : Fin 1024 → EReal) (cs sn : Fin 128 → EReal) (j : Fin 1024) : EReal :=
  if (j : ℕ) % 256 < 128 then
    p ⟨256 * (j / 256) + j % 128, by omega⟩ * cs ⟨j % 128, by omega⟩ - p ⟨256 * (j / 256) + j % 128 + 128, by omega⟩ * sn ⟨j % 128, by omega⟩
  else
    p ⟨256 * (j / 256) + j % 128 + 128, by omega⟩ * cs ⟨j % 128, by omega⟩ + p ⟨256 * (j / 256) + j % 128, by omega⟩ * sn ⟨j % 128, by omega⟩

/-- The first half of a head. -/
theorem rot_lo (p : Fin 1024 → EReal) (cs sn : Fin 128 → EReal) {l : ℕ} (hl : l % 256 = 0) (h1 : l + 256 ≤ 1024) (d : Fin 128) :
    rot p cs sn ⟨l + d, by omega⟩ = p ⟨l + d, by omega⟩ * cs d - p ⟨l + (128 + d), by omega⟩ * sn d := by
  unfold rot
  rw [if_pos (by show (l + (d : ℕ)) % 256 < 128; omega)]
  have e1 : (⟨256 * ((l + (d : ℕ)) / 256) + (l + d) % 128, by omega⟩ : Fin 1024) = ⟨l + d, by omega⟩ := Fin.ext (by simp only; omega)
  have e2 : (⟨256 * ((l + (d : ℕ)) / 256) + (l + d) % 128 + 128, by omega⟩ : Fin 1024) = ⟨l + (128 + d), by omega⟩ :=
    Fin.ext (by simp only; omega)
  have e3 : (⟨(l + (d : ℕ)) % 128, by omega⟩ : Fin 128) = d := Fin.ext (by simp only; omega)
  exact congrArg₂ (fun x y : EReal => x - y) (congrArg₂ (fun x y : EReal => x * y) (congrArg p e1) (congrArg cs e3))
    (congrArg₂ (fun x y : EReal => x * y) (congrArg p e2) (congrArg sn e3))

/-- The second half of a head. -/
theorem rot_hi (p : Fin 1024 → EReal) (cs sn : Fin 128 → EReal) {l : ℕ} (hl : l % 256 = 0) (h1 : l + 256 ≤ 1024) (d : Fin 128) :
    rot p cs sn ⟨l + (128 + d), by omega⟩ = p ⟨l + (128 + d), by omega⟩ * cs d + p ⟨l + d, by omega⟩ * sn d := by
  unfold rot
  rw [if_neg (by show ¬ (l + (128 + (d : ℕ))) % 256 < 128; omega)]
  have e1 : (⟨256 * ((l + (128 + (d : ℕ))) / 256) + (l + (128 + d)) % 128, by omega⟩ : Fin 1024) = ⟨l + d, by omega⟩ :=
    Fin.ext (by simp only; omega)
  have e2 : (⟨256 * ((l + (128 + (d : ℕ))) / 256) + (l + (128 + d)) % 128 + 128, by omega⟩ : Fin 1024) = ⟨l + (128 + d), by omega⟩ :=
    Fin.ext (by simp only; omega)
  have e3 : (⟨(l + (128 + (d : ℕ))) % 128, by omega⟩ : Fin 128) = d := Fin.ext (by simp only; omega)
  exact congrArg₂ (fun x y : EReal => x + y) (congrArg₂ (fun x y : EReal => x * y) (congrArg p e2) (congrArg cs e3))
    (congrArg₂ (fun x y : EReal => x * y) (congrArg p e1) (congrArg sn e3))

/-- A number times its logistic function. -/
def silu (x : EReal) : EReal :=
  x * Ideal.div (Ideal.ofBits .f32 0x3F800000#32) (Ideal.ofBits .f32 0x3F800000#32 + Ideal.exp (-x))

/-- A matrix loaded whole. -/
theorem ld_all {e : EltTy} {b c : ℕ} (X : (⟨2, ![b, c]⟩ : Shape).Idx → Elt Ideal e)
    (inb : ∀ a, (![0, 0] : Fin 2 → ℕ) a + (⟨2, ![b, c]⟩ : Shape).size a ≤ (⟨2, ![b, c]⟩ : Shape).size a) :
    View.ld (Val := Elt Ideal) (e' := e) X (Rect.unit (s := ⟨2, ![b, c]⟩) ![0, 0] (⟨2, ![b, c]⟩ : Shape).size inb) = X := by
  funext y
  have hy : y = (ix2 (y 0 : Fin b) (y 1 : Fin c) : (⟨2, ![b, c]⟩ : Shape).Idx) := by funext a; fin_cases a <;> rfl
  refine (congrArg _ hy).trans ((Tail.ld2_apply (e := e) (by omega) (by omega) X inb (y 0 : Fin b) (y 1 : Fin c)).trans
    ((congrArg₂ (fun (i : Fin b) (j : Fin c) => X (ix2 i j)) (Fin.ext ?_) (Fin.ext ?_)).trans (congrArg X hy).symm))
  · show 0 + ((y 0 : Fin b) : ℕ) = (y 0 : Fin b)
    omega
  · show 0 + ((y 1 : Fin c) : ℕ) = (y 1 : Fin c)
    omega

/-- A row of a block. -/
abbrev row (x : FVec Ideal S1024x1024 .f32) (i : Fin 1024) : Fin 1024 → EReal := fun k => x (ix2 i k)

/-- The norm's gain. -/
abbrev gain (g : FVec Ideal S1x1024 .f32) : Fin 1024 → EReal := fun k => g (ix2 0 k)

/-- The rows' factors, one column. -/
def invCol (x : FVec Ideal S1024x1024 .f32) : FVec Ideal S1024x1 .f32 :=
  rsqrt (addf (divf (shapeCast S1024x1 (multiReduction .add [1] S1024
      (mulf (shapeCast S1024x1024 x shapeCasts_S1024x1024_S1024x1024) (shapeCast S1024x1024 x shapeCasts_S1024x1024_S1024x1024))
      0x00000000#32 reduces_S1024x1024_S1024 (.inl rfl) rfl)
    shapeCasts_S1024_S1024x1) (broadcast S1024x1 (Scalar.ofBits .f32 0x44800000#32))) (broadcast S1024x1 (Scalar.ofBits .f32 0x358637BD#32)))

/-- The rows' factors, one column, read at an index. -/
theorem invCol_apply (x : FVec Ideal S1024x1024 .f32) (i : Fin 1024) (z : Fin 1) : invCol x (ix2 i z) = Row.inv (row x i) := by
  pointwise [invCol]
  rfl

/-- The rows' factors, on every lane. -/
def invLanes (x : FVec Ideal S1024x1024 .f32) : FVec Ideal S1024x128 .f32 :=
  broadcastTo S1024x128 (shapeCast S1024x1 (invCol x) shapeCasts_S1024x1_S1024x1) broadcasts_S1024x1_S1024x128

/-- The rows' factors, on every lane, read at an index. -/
theorem invLanes_apply (x : FVec Ideal S1024x1024 .f32) (i : Fin 1024) (l : Fin 128) : invLanes x (ix2 i l) = Row.inv (row x i) := by
  have e : invLanes x (ix2 i l) = invCol x (ix2 i 0) := by pointwise [invLanes]
  rw [e, invCol_apply]

/-- The rows' factors, as wide as a piece of the row. -/
def inv256 (x : FVec Ideal S1024x1024 .f32) : FVec Ideal S1024x256 .f32 :=
  concatenate S1024x256 1 [⟨S1024x128, invLanes x⟩, ⟨S1024x128, invLanes x⟩] concatenates_S1024x128_S1024x128_S1024x256_d1

/-- The rows' factors, as wide as a piece of the row, read at an index. -/
theorem inv256_apply (x : FVec Ideal S1024x1024 .f32) (i : Fin 1024) (k : Fin 256) : inv256 x (ix2 i k) = Row.inv (row x i) := by
  have hl := invLanes_apply x i
  generalize hL : invLanes x = L at hl
  unfold inv256
  rw [hL]
  pointwise
  split_ifs <;> exact hl _

/-- The rows times the norm's gain. -/
def gained (x : FVec Ideal S1024x1024 .f32) (g : FVec Ideal S1x1024 .f32) : FVec Ideal S1024x1024 .bf16 :=
  truncf .bf16 (mulf (shapeCast S1024x1024 x shapeCasts_S1024x1024_S1024x1024)
    (broadcastTo S1024x1024 (shapeCast S1x1024 g shapeCasts_S1x1024_S1x1024) broadcasts_S1x1024_S1024x1024)) bitsLt_bf16_f32

/-- The rows times the norm's gain, read at an index. -/
theorem gained_apply (x : FVec Ideal S1024x1024 .f32) (g : FVec Ideal S1x1024 .f32) (i k : Fin 1024) :
    gained x g (ix2 i k) = row x i k * gain g k := by
  pointwise [gained]

/-- Cosines or sines with the rows' factors. -/
def scaled (x : FVec Ideal S1024x1024 .f32) (c : FVec Ideal S1024x128 .f32) : FVec Ideal S1024x128 .f32 :=
  mulf (shapeCast S1024x128 c shapeCasts_S1024x128_S1024x128) (invLanes x)

/-- Cosines or sines with the rows' factors, read at an index. -/
theorem scaled_apply (x : FVec Ideal S1024x1024 .f32) (c : FVec Ideal S1024x128 .f32) (i : Fin 1024) (d : Fin 128) :
    scaled x c (ix2 i d) = c (ix2 i d) * Row.inv (row x i) := by
  have hl := invLanes_apply x i d
  unfold scaled
  generalize invLanes x = L at hl
  rw [← hl]
  pointwise

/-- The products with 256 columns of the weights. -/
def cols (a : FVec Ideal S1024x1024 .bf16) (w : FVec Ideal S1024x256 .bf16) : FVec Ideal S1024x256 .f32 :=
  matmul dot_S1024x1024_S1024x256_S1024x256_1_0_0_1_n_n none a (shapeCast S1024x256 w shapeCasts_S1024x256_S1024x256)
    (constant S1024x256 .f32 0x00000000#32)

/-- The products with 256 columns of the weights, read at an index. -/
theorem cols_apply (a : FVec Ideal S1024x1024 .bf16) (w : FVec Ideal S1024x256 .bf16) (i : Fin 1024) (j : Fin 256) :
    cols a w (ix2 i j) = ∑ k : Fin 1024, a (ix2 i k) * w (ix2 k j) := by
  pointwise [cols]

/-- The norm's factor applied to the products. -/
def normedCols (a : FVec Ideal S1024x1024 .bf16) (v : FVec Ideal S1024x256 .f32) (w : FVec Ideal S1024x256 .bf16) : FVec Ideal S1024x256 .f32 :=
  mulf (cols a w) v

/-- The projected row, from the blocks. -/
abbrev proj (x : FVec Ideal S1024x1024 .f32) (g : FVec Ideal S1x1024 .f32) (w : FVec Ideal S1024x6144 .bf16) (i : Fin 1024)
    (j : Fin 6144) : EReal := Row.normed (row x i) (gain g) fun k => w (ix2 k j)

/-- The products with columns of the weights, the factor still to be applied. -/
theorem cols_ld {o : ℕ} (ho : o + 256 ≤ 6144) (x : FVec Ideal S1024x1024 .f32) (g : FVec Ideal S1x1024 .f32) (w : FVec Ideal S1024x6144 .bf16)
    (inb : ∀ a, (![0, o] : Fin 2 → ℕ) a + S1024x256.size a ≤ S1024x6144.size a) (i : Fin 1024) (j : Fin 256) :
    cols (gained x g) (View.ld (Val := Elt Ideal) (e' := .bf16) w (Rect.unit (s := S1024x6144) ![0, o] S1024x256.size inb)) (ix2 i j)
        * Row.inv (row x i) = proj x g w i ⟨o + j, by omega⟩ := by
  refine (congrArg (fun s : EReal => s * Row.inv (row x i)) ((cols_apply _ _ i j).trans
    (Finset.sum_congr rfl fun k _ => congrArg₂ (fun a b : EReal => a * b) (gained_apply x g i k)
      ((Tail.ld2_apply (e := .bf16) (by omega) ho w inb k j).trans
        (congrArg (fun q : Fin 1024 => w (ix2 q ⟨o + j, by omega⟩)) (Fin.ext ?_)))))).trans (Row.normed_eq _ _ _)
  show 0 + (k : ℕ) = k
  omega

/-- The norm's factor applied to the products, read at an index. -/
theorem normedCols_apply {o : ℕ} (ho : o + 256 ≤ 6144) (x : FVec Ideal S1024x1024 .f32) (g : FVec Ideal S1x1024 .f32)
    (w : FVec Ideal S1024x6144 .bf16) (inb : ∀ a, (![0, o] : Fin 2 → ℕ) a + S1024x256.size a ≤ S1024x6144.size a) (i : Fin 1024) (j : Fin 256) :
    normedCols (gained x g) (inv256 x)
      (View.ld (Val := Elt Ideal) (e' := .bf16) w (Rect.unit (s := S1024x6144) ![0, o] S1024x256.size inb)) (ix2 i j)
      = proj x g w i ⟨o + j, by omega⟩ :=
  (congrArg (fun v : EReal => cols (gained x g) (View.ld (Val := Elt Ideal) (e' := .bf16) w
    (Rect.unit (s := S1024x6144) ![0, o] S1024x256.size inb)) (ix2 i j) * v) (inv256_apply x i j)).trans (cols_ld ho x g w inb i j)

/-- A piece of the values. -/
def plain (a : FVec Ideal S1024x1024 .bf16) (v : FVec Ideal S1024x256 .f32) (w : FVec Ideal S1024x256 .bf16) : FVec Ideal S1024x256 .bf16 :=
  truncf .bf16 (normedCols a v w) bitsLt_bf16_f32

/-- A piece of the gate before its gain. -/
def gateRaw (a : FVec Ideal S1024x1024 .bf16) (v : FVec Ideal S1024x256 .f32) (w : FVec Ideal S1024x256 .bf16) : FVec Ideal S1024x256 .f32 :=
  mulf (normedCols a v w) (addf (mulf (broadcast S1024x256 (Scalar.ofBits .f32 0x3F000000#32))
      (tanh (mulf (broadcast S1024x256 (Scalar.ofBits .f32 0x3F000000#32)) (normedCols a v w))))
    (broadcast S1024x256 (Scalar.ofBits .f32 0x3F000000#32)))

/-- A piece of the gate before its gain, read at an index. -/
theorem gateRaw_apply (a : FVec Ideal S1024x1024 .bf16) (v : FVec Ideal S1024x256 .f32) (w : FVec Ideal S1024x256 .bf16) (i : Fin 1024)
    (j : Fin 256) : gateRaw a v w (ix2 i j) = silu (normedCols a v w (ix2 i j)) := by
  unfold gateRaw silu
  generalize normedCols a v w = z
  rw [← Row.tanh_logistic]
  pointwise

/-- A piece of the gate. -/
def gate (a : FVec Ideal S1024x1024 .bf16) (v : FVec Ideal S1024x256 .f32) (w : FVec Ideal S1024x256 .bf16) (n : FVec Ideal S1x256 .f32) :
    FVec Ideal S1024x256 .bf16 :=
  truncf .bf16 (mulf (gateRaw a v w) (broadcastTo S1024x256 (shapeCast S1x256 n shapeCasts_S1x256_S1x256) broadcasts_S1x256_S1024x256))
    bitsLt_bf16_f32

/-- A piece of the gate, read at an index. -/
theorem gate_apply (a : FVec Ideal S1024x1024 .bf16) (v : FVec Ideal S1024x256 .f32) (w : FVec Ideal S1024x256 .bf16) (n : FVec Ideal S1x256 .f32)
    (i : Fin 1024) (j : Fin 256) : gate a v w n (ix2 i j) = silu (normedCols a v w (ix2 i j)) * n (ix2 0 j) := by
  rw [← gateRaw_apply]
  unfold gate
  generalize gateRaw a v w = z
  pointwise

/-- The first columns of a head's products. -/
def left (a : FVec Ideal S1024x1024 .bf16) (w : FVec Ideal S1024x256 .bf16) : FVec Ideal S1024x128 .f32 :=
  extractStridedSlice S1024x128 ![0, 0] (cols a w) slices_S1024x256_o0_0_S1024x128

/-- The first columns of a head's products, read at an index. -/
theorem left_apply (a : FVec Ideal S1024x1024 .bf16) (w : FVec Ideal S1024x256 .bf16) (i : Fin 1024) (d : Fin 128) :
    left a w (ix2 i d) = cols a w (ix2 i ⟨d, by omega⟩) := by
  unfold left
  generalize cols a w = z
  pointwise

/-- The last columns of a head's products. -/
def right (a : FVec Ideal S1024x1024 .bf16) (w : FVec Ideal S1024x256 .bf16) : FVec Ideal S1024x128 .f32 :=
  extractStridedSlice S1024x128 ![0, 128] (cols a w) slices_S1024x256_o0_128_S1024x128

/-- The last columns of a head's products, read at an index. -/
theorem right_apply (a : FVec Ideal S1024x1024 .bf16) (w : FVec Ideal S1024x256 .bf16) (i : Fin 1024) (d : Fin 128) :
    right a w (ix2 i d) = cols a w (ix2 i ⟨128 + d, by omega⟩) := by
  unfold right
  generalize cols a w = z
  pointwise

/-- The first half of a rotated head. -/
def turnLo (c s a b : FVec Ideal S1024x128 .f32) : FVec Ideal S1024x128 .f32 := subf (mulf a c) (mulf b s)

/-- The second half of a rotated head. -/
def turnHi (c s a b : FVec Ideal S1024x128 .f32) : FVec Ideal S1024x128 .f32 := addf (mulf b c) (mulf a s)

/-- A half of a rotated head as it is stored. -/
def narrow (z : FVec Ideal S1024x128 .f32) : FVec Ideal S1024x128 .bf16 := truncf .bf16 z bitsLt_bf16_f32

/-- A half of a rotated head times the keys' scale, as it is stored. -/
def narrowKey (z : FVec Ideal S1024x128 .f32) : FVec Ideal S1024x128 .bf16 :=
  truncf .bf16 (mulf z (broadcast S1024x128 (Scalar.ofBits .f32 0x3D800000#32))) bitsLt_bf16_f32

/-- The factor may be taken to the products instead of the cosines and sines. -/
theorem swap (x c v : EReal) : x * (c * v) = x * v * c := by
  rw [mul_comm c v, mul_assoc]

/-- The first half of a rotated head, read at an index. -/
theorem turnLo_apply {o base l : ℕ} (ho : o + 256 ≤ 6144) (hb : o = base + l) (hbase : base + 1024 ≤ 6144) (hl : l % 256 = 0)
    (hl' : l + 256 ≤ 1024) (x : FVec Ideal S1024x1024 .f32)
    (g : FVec Ideal S1x1024 .f32) (w : FVec Ideal S1024x6144 .bf16) (c s : FVec Ideal S1024x128 .f32)
    (inb : ∀ a, (![0, o] : Fin 2 → ℕ) a + S1024x256.size a ≤ S1024x6144.size a) (i : Fin 1024) (d : Fin 128) :
    turnLo (scaled x c) (scaled x s)
        (left (gained x g) (View.ld (Val := Elt Ideal) (e' := .bf16) w (Rect.unit (s := S1024x6144) ![0, o] S1024x256.size inb)))
        (right (gained x g) (View.ld (Val := Elt Ideal) (e' := .bf16) w (Rect.unit (s := S1024x6144) ![0, o] S1024x256.size inb))) (ix2 i d)
      = rot (fun j => proj x g w i ⟨base + j, by omega⟩) (fun d => c (ix2 i d)) (fun d => s (ix2 i d)) ⟨l + d, by omega⟩ := by
  subst hb
  refine Eq.trans ?_ (rot_lo _ _ _ hl hl' d).symm
  have e1 := cols_ld ho x g w inb i ⟨d, by omega⟩
  have e2 := cols_ld ho x g w inb i ⟨128 + d, by omega⟩
  generalize View.ld (Val := Elt Ideal) (e' := .bf16) w (Rect.unit (s := S1024x6144) ![0, base + l] S1024x256.size inb) = u at *
  refine congrArg₂ (fun a b : EReal => a - b) ?_ ?_
  · refine (congrArg₂ (fun a b : EReal => a * b) (left_apply _ u i d) (scaled_apply x c i d)).trans ((swap _ _ _).trans ?_)
    refine congrArg (fun a : EReal => a * c (ix2 i d)) (e1.trans (congrArg (proj x g w i) (Fin.ext ?_)))
    show base + l + (d : ℕ) = base + (l + d)
    omega
  · refine (congrArg₂ (fun a b : EReal => a * b) (right_apply _ u i d) (scaled_apply x s i d)).trans ((swap _ _ _).trans ?_)
    refine congrArg (fun a : EReal => a * s (ix2 i d)) (e2.trans (congrArg (proj x g w i) (Fin.ext ?_)))
    show base + l + (128 + (d : ℕ)) = base + (l + (128 + d))
    omega

/-- The second half of a rotated head, read at an index. -/
theorem turnHi_apply {o base l : ℕ} (ho : o + 256 ≤ 6144) (hb : o + 128 = base + l) (hbase : base + 1024 ≤ 6144) (hl : l % 256 = 128)
    (hl' : l + 128 ≤ 1024) (x : FVec Ideal S1024x1024 .f32)
    (g : FVec Ideal S1x1024 .f32) (w : FVec Ideal S1024x6144 .bf16) (c s : FVec Ideal S1024x128 .f32)
    (inb : ∀ a, (![0, o] : Fin 2 → ℕ) a + S1024x256.size a ≤ S1024x6144.size a) (i : Fin 1024) (d : Fin 128) :
    turnHi (scaled x c) (scaled x s)
        (left (gained x g) (View.ld (Val := Elt Ideal) (e' := .bf16) w (Rect.unit (s := S1024x6144) ![0, o] S1024x256.size inb)))
        (right (gained x g) (View.ld (Val := Elt Ideal) (e' := .bf16) w (Rect.unit (s := S1024x6144) ![0, o] S1024x256.size inb))) (ix2 i d)
      = rot (fun j => proj x g w i ⟨base + j, by omega⟩) (fun d => c (ix2 i d)) (fun d => s (ix2 i d)) ⟨l + d, by omega⟩ := by
  obtain ⟨l, rfl⟩ : ∃ k, l = k + 128 := ⟨l - 128, by omega⟩
  have e0 : (⟨l + 128 + d, by omega⟩ : Fin 1024) = ⟨l + (128 + d), by omega⟩ := Fin.ext (by simp only; omega)
  refine Eq.trans ?_ ((congrArg (rot _ _ _) e0).trans (rot_hi _ _ _ (l := l) (by omega) (by omega) d)).symm
  have e1 := cols_ld ho x g w inb i ⟨d, by omega⟩
  have e2 := cols_ld ho x g w inb i ⟨128 + d, by omega⟩
  generalize View.ld (Val := Elt Ideal) (e' := .bf16) w (Rect.unit (s := S1024x6144) ![0, o] S1024x256.size inb) = u at *
  refine congrArg₂ (fun a b : EReal => a + b) ?_ ?_
  · refine (congrArg₂ (fun a b : EReal => a * b) (right_apply _ u i d) (scaled_apply x c i d)).trans ((swap _ _ _).trans ?_)
    refine congrArg (fun a : EReal => a * c (ix2 i d)) (e2.trans (congrArg (proj x g w i) (Fin.ext ?_)))
    show o + (128 + (d : ℕ)) = base + (l + (128 + d))
    omega
  · refine (congrArg₂ (fun a b : EReal => a * b) (left_apply _ u i d) (scaled_apply x s i d)).trans ((swap _ _ _).trans ?_)
    refine congrArg (fun a : EReal => a * s (ix2 i d)) (e1.trans (congrArg (proj x g w i) (Fin.ext ?_)))
    show o + (d : ℕ) = base + (l + d)
    omega

end Cert.Proj

end
-- ==== Proof.Proj.Body.lean ====
/- What the projections store for a block of rows: the rotated queries and keys, the values, the gate. -/
module

public import proofs.«01_k».proof.Proof.Proj.Steps

@[expose] public section

set_option maxRecDepth 16384

noncomputable section

namespace Cert.Proj

open Idealize.ShloMosaic Idealize.ShloMosaic.TcCoe Idealize.SL.Sem Finset
open Cert.Kernel4Ideal Cert.Kernel4Ideal.Gen

/-- A piece that agrees with the rows where it is stored may be put before pieces that do. -/
theorem cons_piece {W n l : ℕ} (hl : l + n ≤ W) (T : Fin 1024 → Fin W → EReal) (z : (⟨2, ![1024, n]⟩ : Shape).Idx → EReal)
    (inb : ∀ a, (![0, l] : Fin 2 → ℕ) a + (⟨2, ![1024, n]⟩ : Shape).size a ≤ (⟨2, ![1024, W]⟩ : Shape).size a)
    (hp : ∀ (i : Fin 1024) (j : Fin n), z (ix2 i j) = T i ⟨l + j, by omega⟩)
    (L : List (View.Piece (Elt Ideal) ⟨2, ![1024, W]⟩ .bf16))
    (hL : ∀ p ∈ L, ∀ x : p.1.shape.Idx, p.2 x = T (p.1.emb x 0) (p.1.emb x 1)) :
    ∀ p ∈ (⟨Rect.unit (s := ⟨2, ![1024, W]⟩) ![0, l] (⟨2, ![1024, n]⟩ : Shape).size inb, z⟩
        : View.Piece (Elt Ideal) ⟨2, ![1024, W]⟩ .bf16) :: L,
      ∀ x : p.1.shape.Idx, p.2 x = T (p.1.emb x 0) (p.1.emb x 1) := by
  refine List.forall_mem_cons.2 ⟨fun x => ?_, hL⟩
  have hx : x = (ix2 (x 0 : Fin 1024) (x 1 : Fin n) : (⟨2, ![1024, n]⟩ : Shape).Idx) := by funext a; fin_cases a <;> rfl
  refine (congrArg z hx).trans ((hp (x 0 : Fin 1024) (x 1 : Fin n)).trans ?_)
  refine congrArg₂ T (Fin.ext ?_) (Fin.ext ?_)
  · show ((x 0 : Fin 1024) : ℕ) = 0 + 1 * ((x 0 : Fin 1024) : ℕ)
    omega
  · show l + ((x 1 : Fin n) : ℕ) = l + 1 * ((x 1 : Fin n) : ℕ)
    omega

/-- Equal pieces at one rectangle before equal pieces. -/
theorem same_piece {S : Shape} {r : Rect S} {p q : r.shape.Idx → EReal} {L M : List (View.Piece (Elt Ideal) S .bf16)} (h : p = q) (hL : L = M) :
    ((⟨r, p⟩ : View.Piece (Elt Ideal) S .bf16) :: L) = (⟨r, q⟩ : View.Piece (Elt Ideal) S .bf16) :: M := by
  rw [h, hL]

/-- Nothing is left to agree. -/
theorem no_piece {W : ℕ} (T : Fin 1024 → Fin W → EReal) :
    ∀ p ∈ ([] : List (View.Piece (Elt Ideal) ⟨2, ![1024, W]⟩ .bf16)), ∀ x : p.1.shape.Idx, p.2 x = T (p.1.emb x 0) (p.1.emb x 1) :=
  fun _ h => absurd h List.not_mem_nil

section pieces

variable (x : FVec Ideal S1024x1024 .f32) (g : FVec Ideal S1x1024 .f32) (w : FVec Ideal S1024x6144 .bf16)
  (c s : FVec Ideal S1024x128 .f32) (n : FVec Ideal S1x2048 .f32)

/-- The columns of the weights a piece reads. -/
abbrev wcols (o : ℕ) (inb : ∀ a, (![0, o] : Fin 2 → ℕ) a + S1024x256.size a ≤ S1024x6144.size a) : FVec Ideal S1024x256 .bf16 :=
  View.ld (Val := Elt Ideal) (e' := .bf16) w (Rect.unit (s := S1024x6144) ![0, o] S1024x256.size inb)

/-- The first half of a rotated head from the blocks. -/
abbrev lo (o : ℕ) (inb : ∀ a, (![0, o] : Fin 2 → ℕ) a + S1024x256.size a ≤ S1024x6144.size a) : FVec Ideal S1024x128 .f32 :=
  turnLo (scaled x c) (scaled x s) (left (gained x g) (wcols w o inb)) (right (gained x g) (wcols w o inb))

/-- The second half of a rotated head from the blocks. -/
abbrev hi (o : ℕ) (inb : ∀ a, (![0, o] : Fin 2 → ℕ) a + S1024x256.size a ≤ S1024x6144.size a) : FVec Ideal S1024x128 .f32 :=
  turnHi (scaled x c) (scaled x s) (left (gained x g) (wcols w o inb)) (right (gained x g) (wcols w o inb))

/-- The stored queries, in their eight pieces. -/
def queries : List (View.Piece (Elt Ideal) S1024x1024 .bf16) :=
  [⟨r0_49, narrow (hi x g w c s 768 inb_S1024x6144_S1024x256_0_768)⟩, ⟨r0_48, narrow (lo x g w c s 768 inb_S1024x6144_S1024x256_0_768)⟩,
    ⟨r0_45, narrow (hi x g w c s 512 inb_S1024x6144_S1024x256_0_512)⟩, ⟨r0_44, narrow (lo x g w c s 512 inb_S1024x6144_S1024x256_0_512)⟩,
    ⟨r0_41, narrow (hi x g w c s 256 inb_S1024x6144_S1024x256_0_256)⟩, ⟨r0_40, narrow (lo x g w c s 256 inb_S1024x6144_S1024x256_0_256)⟩,
    ⟨r0_37, narrow (hi x g w c s 0 inb_S1024x6144_S1024x256_0_0)⟩, ⟨r0_36, narrow (lo x g w c s 0 inb_S1024x6144_S1024x256_0_0)⟩]

/-- The stored keys, in their eight pieces. -/
def keys : List (View.Piece (Elt Ideal) S1024x1024 .bf16) :=
  [⟨r0_49, narrowKey (hi x g w c s 1792 inb_S1024x6144_S1024x256_0_1792)⟩, ⟨r0_48, narrowKey (lo x g w c s 1792 inb_S1024x6144_S1024x256_0_1792)⟩,
    ⟨r0_45, narrowKey (hi x g w c s 1536 inb_S1024x6144_S1024x256_0_1536)⟩, ⟨r0_44, narrowKey (lo x g w c s 1536 inb_S1024x6144_S1024x256_0_1536)⟩,
    ⟨r0_41, narrowKey (hi x g w c s 1280 inb_S1024x6144_S1024x256_0_1280)⟩, ⟨r0_40, narrowKey (lo x g w c s 1280 inb_S1024x6144_S1024x256_0_1280)⟩,
    ⟨r0_37, narrowKey (hi x g w c s 1024 inb_S1024x6144_S1024x256_0_1024)⟩, ⟨r0_36, narrowKey (lo x g w c s 1024 inb_S1024x6144_S1024x256_0_1024)⟩]

/-- The stored values, in their eight pieces. -/
def values : List (View.Piece (Elt Ideal) S1024x2048 .bf16) :=
  [⟨r0_33, plain (gained x g) (inv256 x) (View.ld (Val := Elt Ideal) (e' := .bf16) w r0_34)⟩,
    ⟨r0_29, plain (gained x g) (inv256 x) (View.ld (Val := Elt Ideal) (e' := .bf16) w r0_30)⟩,
    ⟨r0_25, plain (gained x g) (inv256 x) (View.ld (Val := Elt Ideal) (e' := .bf16) w r0_26)⟩,
    ⟨r0_21, plain (gained x g) (inv256 x) (View.ld (Val := Elt Ideal) (e' := .bf16) w r0_22)⟩,
    ⟨r0_17, plain (gained x g) (inv256 x) (View.ld (Val := Elt Ideal) (e' := .bf16) w r0_18)⟩,
    ⟨r0_13, plain (gained x g) (inv256 x) (View.ld (Val := Elt Ideal) (e' := .bf16) w r0_14)⟩,
    ⟨r0_9, plain (gained x g) (inv256 x) (View.ld (Val := Elt Ideal) (e' := .bf16) w r0_10)⟩,
    ⟨r0_5, plain (gained x g) (inv256 x) (View.ld (Val := Elt Ideal) (e' := .bf16) w r0_6)⟩]

/-- The stored gate, in its eight pieces. -/
def gates : List (View.Piece (Elt Ideal) S1024x2048 .bf16) :=
  [⟨r0_33, gate (gained x g) (inv256 x) (View.ld (Val := Elt Ideal) (e' := .bf16) w r0_31) (View.ld (Val := Elt Ideal) (e' := .f32) n r0_32)⟩,
    ⟨r0_29, gate (gained x g) (inv256 x) (View.ld (Val := Elt Ideal) (e' := .bf16) w r0_27) (View.ld (Val := Elt Ideal) (e' := .f32) n r0_28)⟩,
    ⟨r0_25, gate (gained x g) (inv256 x) (View.ld (Val := Elt Ideal) (e' := .bf16) w r0_23) (View.ld (Val := Elt Ideal) (e' := .f32) n r0_24)⟩,
    ⟨r0_21, gate (gained x g) (inv256 x) (View.ld (Val := Elt Ideal) (e' := .bf16) w r0_19) (View.ld (Val := Elt Ideal) (e' := .f32) n r0_20)⟩,
    ⟨r0_17, gate (gained x g) (inv256 x) (View.ld (Val := Elt Ideal) (e' := .bf16) w r0_15) (View.ld (Val := Elt Ideal) (e' := .f32) n r0_16)⟩,
    ⟨r0_13, gate (gained x g) (inv256 x) (View.ld (Val := Elt Ideal) (e' := .bf16) w r0_11) (View.ld (Val := Elt Ideal) (e' := .f32) n r0_12)⟩,
    ⟨r0_9, gate (gained x g) (inv256 x) (View.ld (Val := Elt Ideal) (e' := .bf16) w r0_7) (View.ld (Val := Elt Ideal) (e' := .f32) n r0_8)⟩,
    ⟨r0_5, gate (gained x g) (inv256 x) (View.ld (Val := Elt Ideal) (e' := .bf16) w r0_3) (View.ld (Val := Elt Ideal) (e' := .f32) n r0_4)⟩]

/-- A rotated query or key of a block's row. -/
abbrev turned (base : ℕ) (hb : base + 1024 ≤ 6144) (i j : Fin 1024) : EReal :=
  rot (fun j => proj x g w i ⟨base + j, by omega⟩) (fun d => c (ix2 i d)) (fun d => s (ix2 i d)) j

/-- The stored queries, in their eight pieces, read at an index. -/
theorem queries_apply (y : S1024x1024.Idx) :
    View.canon (Val := Elt Ideal) (queries x g w c s) y = turned x g w c s 0 (by decide) (y 0) (y 1) := by
  refine View.canon_apply_of_pieces (Val := Elt Ideal) (fun y => turned x g w c s 0 (by decide) (y 0) (y 1)) _ ?_ y
    (cover0_6 (F := Ideal) _ _ _ _ _ _ _ _ y)
  refine cons_piece (by decide) (turned x g w c s 0 (by decide)) _ _ (turnHi_apply (by decide) (by decide) (by decide) (by decide) (by decide) x g w c s _) _ ?_
  refine cons_piece (by decide) (turned x g w c s 0 (by decide)) _ _ (turnLo_apply (by decide) (by decide) (by decide) (by decide) (by decide) x g w c s _) _ ?_
  refine cons_piece (by decide) (turned x g w c s 0 (by decide)) _ _ (turnHi_apply (by decide) (by decide) (by decide) (by decide) (by decide) x g w c s _) _ ?_
  refine cons_piece (by decide) (turned x g w c s 0 (by decide)) _ _ (turnLo_apply (by decide) (by decide) (by decide) (by decide) (by decide) x g w c s _) _ ?_
  refine cons_piece (by decide) (turned x g w c s 0 (by decide)) _ _ (turnHi_apply (by decide) (by decide) (by decide) (by decide) (by decide) x g w c s _) _ ?_
  refine cons_piece (by decide) (turned x g w c s 0 (by decide)) _ _ (turnLo_apply (by decide) (by decide) (by decide) (by decide) (by decide) x g w c s _) _ ?_
  refine cons_piece (by decide) (turned x g w c s 0 (by decide)) _ _ (turnHi_apply (by decide) (by decide) (by decide) (by decide) (by decide) x g w c s _) _ ?_
  refine cons_piece (by decide) (turned x g w c s 0 (by decide)) _ _ (turnLo_apply (by decide) (by decide) (by decide) (by decide) (by decide) x g w c s _) _ ?_
  exact no_piece _

/-- A key with its scale. -/
abbrev keyed (i j : Fin 1024) : EReal := turned x g w c s 1024 (by decide) i j * Ideal.ofBits .f32 0x3D800000#32

/-- A half of a key with its scale, from the half before it. -/
theorem narrowKey_apply {l : ℕ} {hl : l + 128 ≤ 1024} (z : FVec Ideal S1024x128 .f32) (T : Fin 1024 → Fin 1024 → EReal)
    (h : ∀ (i : Fin 1024) (d : Fin 128), z (ix2 i d) = T i ⟨l + d, by omega⟩) (i : Fin 1024) (d : Fin 128) :
    narrowKey z (ix2 i d) = (fun i j => T i j * Ideal.ofBits .f32 0x3D800000#32) i ⟨l + d, by omega⟩ := by
  have e : narrowKey z (ix2 i d) = z (ix2 i d) * Ideal.ofBits .f32 0x3D800000#32 := by
    pointwise [narrowKey]
  rw [e, h]

/-- The stored keys, in their eight pieces, read at an index. -/
theorem keys_apply (y : S1024x1024.Idx) :
    View.canon (Val := Elt Ideal) (keys x g w c s) y = keyed x g w c s (y 0) (y 1) := by
  refine View.canon_apply_of_pieces (Val := Elt Ideal) (fun y => keyed x g w c s (y 0) (y 1)) _ ?_ y
    (cover0_7 (F := Ideal) _ _ _ _ _ _ _ _ y)
  refine cons_piece (by decide) (keyed x g w c s) _ _ (narrowKey_apply (hl := by decide) _ (turned x g w c s 1024 (by decide)) (turnHi_apply (by decide) (by decide) (by decide) (by decide) (by decide) x g w c s _)) _ ?_
  refine cons_piece (by decide) (keyed x g w c s) _ _ (narrowKey_apply (hl := by decide) _ (turned x g w c s 1024 (by decide)) (turnLo_apply (by decide) (by decide) (by decide) (by decide) (by decide) x g w c s _)) _ ?_
  refine cons_piece (by decide) (keyed x g w c s) _ _ (narrowKey_apply (hl := by decide) _ (turned x g w c s 1024 (by decide)) (turnHi_apply (by decide) (by decide) (by decide) (by decide) (by decide) x g w c s _)) _ ?_
  refine cons_piece (by decide) (keyed x g w c s) _ _ (narrowKey_apply (hl := by decide) _ (turned x g w c s 1024 (by decide)) (turnLo_apply (by decide) (by decide) (by decide) (by decide) (by decide) x g w c s _)) _ ?_
  refine cons_piece (by decide) (keyed x g w c s) _ _ (narrowKey_apply (hl := by decide) _ (turned x g w c s 1024 (by decide)) (turnHi_apply (by decide) (by decide) (by decide) (by decide) (by decide) x g w c s _)) _ ?_
  refine cons_piece (by decide) (keyed x g w c s) _ _ (narrowKey_apply (hl := by decide) _ (turned x g w c s 1024 (by decide)) (turnLo_apply (by decide) (by decide) (by decide) (by decide) (by decide) x g w c s _)) _ ?_
  refine cons_piece (by decide) (keyed x g w c s) _ _ (narrowKey_apply (hl := by decide) _ (turned x g w c s 1024 (by decide)) (turnHi_apply (by decide) (by decide) (by decide) (by decide) (by decide) x g w c s _)) _ ?_
  refine cons_piece (by decide) (keyed x g w c s) _ _ (narrowKey_apply (hl := by decide) _ (turned x g w c s 1024 (by decide)) (turnLo_apply (by decide) (by decide) (by decide) (by decide) (by decide) x g w c s _)) _ ?_
  exact no_piece _

/-- A value. -/
abbrev valued (i : Fin 1024) (j : Fin 2048) : EReal := proj x g w i ⟨2048 + j, by omega⟩

/-- A piece of the values agrees with the rows where it is stored. -/
theorem plain_apply {o l : ℕ} (ho : o = 2048 + l) (hl : l + 256 ≤ 2048)
    (inb : ∀ a, (![0, o] : Fin 2 → ℕ) a + S1024x256.size a ≤ S1024x6144.size a) (i : Fin 1024) (j : Fin 256) :
    plain (gained x g) (inv256 x) (wcols w o inb) (ix2 i j) = valued x g w i ⟨l + j, by omega⟩ := by
  subst ho
  refine (normedCols_apply (by omega) x g w inb i j).trans (congrArg (proj x g w i) (Fin.ext ?_))
  show 2048 + l + (j : ℕ) = 2048 + (l + j)
  omega

/-- The stored values, in their eight pieces, read at an index. -/
theorem values_apply (y : S1024x2048.Idx) :
    View.canon (Val := Elt Ideal) (values x g w) y = valued x g w (y 0) (y 1) := by
  refine View.canon_apply_of_pieces (Val := Elt Ideal) (fun y => valued x g w (y 0) (y 1)) _ ?_ y
    (cover0_8 (F := Ideal) _ _ _ _ _ _ _ _ y)
  refine cons_piece (by decide) (valued x g w) _ _ (plain_apply x g w (by decide) (by decide) _) _ ?_
  refine cons_piece (by decide) (valued x g w) _ _ (plain_apply x g w (by decide) (by decide) _) _ ?_
  refine cons_piece (by decide) (valued x g w) _ _ (plain_apply x g w (by decide) (by decide) _) _ ?_
  refine cons_piece (by decide) (valued x g w) _ _ (plain_apply x g w (by decide) (by decide) _) _ ?_
  refine cons_piece (by decide) (valued x g w) _ _ (plain_apply x g w (by decide) (by decide) _) _ ?_
  refine cons_piece (by decide) (valued x g w) _ _ (plain_apply x g w (by decide) (by decide) _) _ ?_
  refine cons_piece (by decide) (valued x g w) _ _ (plain_apply x g w (by decide) (by decide) _) _ ?_
  refine cons_piece (by decide) (valued x g w) _ _ (plain_apply x g w (by decide) (by decide) _) _ ?_
  exact no_piece _

/-- A gate. -/
abbrev gated (i : Fin 1024) (j : Fin 2048) : EReal := silu (proj x g w i ⟨4096 + j, by omega⟩) * n (ix2 0 j)

/-- A piece of the gate agrees with the rows where it is stored. -/
theorem gate_piece {o l : ℕ} (ho : o = 4096 + l) (hl : l + 256 ≤ 2048)
    (inb : ∀ a, (![0, o] : Fin 2 → ℕ) a + S1024x256.size a ≤ S1024x6144.size a)
    (inb' : ∀ a, (![0, l] : Fin 2 → ℕ) a + S1x256.size a ≤ S1x2048.size a) (i : Fin 1024) (j : Fin 256) :
    gate (gained x g) (inv256 x) (wcols w o inb)
      (View.ld (Val := Elt Ideal) (e' := .f32) n (Rect.unit (s := S1x2048) ![0, l] S1x256.size inb')) (ix2 i j)
      = gated x g w n i ⟨l + j, by omega⟩ := by
  subst ho
  refine (gate_apply _ _ _ _ i j).trans (congrArg₂ (fun a b : EReal => silu a * b) ?_ ?_)
  · refine (normedCols_apply (by omega) x g w inb i j).trans (congrArg (proj x g w i) (Fin.ext ?_))
    show 4096 + l + (j : ℕ) = 4096 + (l + j)
    omega
  · refine (Tail.ld2_apply (e := .f32) (by omega) hl n inb' 0 j).trans (congrArg (fun z : Fin 1 => n (ix2 z ⟨l + j, by omega⟩)) (Fin.ext ?_))
    rfl

/-- The stored gate, in its eight pieces, read at an index. -/
theorem gates_apply (y : S1024x2048.Idx) :
    View.canon (Val := Elt Ideal) (gates x g w n) y = gated x g w n (y 0) (y 1) := by
  refine View.canon_apply_of_pieces (Val := Elt Ideal) (fun y => gated x g w n (y 0) (y 1)) _ ?_ y
    (cover0_9 (F := Ideal) _ _ _ _ _ _ _ _ y)
  refine cons_piece (by decide) (gated x g w n) _ _ (gate_piece x g w n (by decide) (by decide) _ _) _ ?_
  refine cons_piece (by decide) (gated x g w n) _ _ (gate_piece x g w n (by decide) (by decide) _ _) _ ?_
  refine cons_piece (by decide) (gated x g w n) _ _ (gate_piece x g w n (by decide) (by decide) _ _) _ ?_
  refine cons_piece (by decide) (gated x g w n) _ _ (gate_piece x g w n (by decide) (by decide) _ _) _ ?_
  refine cons_piece (by decide) (gated x g w n) _ _ (gate_piece x g w n (by decide) (by decide) _ _) _ ?_
  refine cons_piece (by decide) (gated x g w n) _ _ (gate_piece x g w n (by decide) (by decide) _ _) _ ?_
  refine cons_piece (by decide) (gated x g w n) _ _ (gate_piece x g w n (by decide) (by decide) _ _) _ ?_
  refine cons_piece (by decide) (gated x g w n) _ _ (gate_piece x g w n (by decide) (by decide) _ _) _ ?_
  exact no_piece _

end pieces

section out

variable (x0 : FVec Ideal S1024x1024 .f32) (x1 : FVec Ideal S1x1024 .f32) (x2 : FVec Ideal S1024x6144 .bf16)
  (x3 x4 : FVec Ideal S1024x128 .f32) (x5 : FVec Ideal S1x2048 .f32)

/-- The body's rows times their gain. -/
theorem gained_eq : k0_pay66 (F := Ideal) x0 x1 x2 x3 x4 x5 = gained x0 x1 := by
  have e : k0_pay66 (F := Ideal) x0 x1 x2 x3 x4 x5
      = gained (View.ld (Val := Elt Ideal) (e' := .f32) x0 r0_0) (View.ld (Val := Elt Ideal) (e' := .f32) x1 r0_1) := rfl
  rw [e]
  exact congrArg₂ gained (ld_all (e := .f32) x0 _) (ld_all (e := .f32) x1 _)

/-- The body's factor of the norm. -/
theorem inv_eq : k0_pay67 (F := Ideal) x0 x1 x2 x3 x4 x5 = inv256 x0 := by
  have e : k0_pay67 (F := Ideal) x0 x1 x2 x3 x4 x5 = inv256 (View.ld (Val := Elt Ideal) (e' := .f32) x0 r0_0) := rfl
  rw [e]
  exact congrArg inv256 (ld_all (e := .f32) x0 _)

/-- The body's cosines times the factor. -/
theorem cos_eq : k0_pay68 (F := Ideal) x0 x1 x2 x3 x4 x5 = scaled x0 x3 := by
  have e : k0_pay68 (F := Ideal) x0 x1 x2 x3 x4 x5
      = scaled (View.ld (Val := Elt Ideal) (e' := .f32) x0 r0_0) (View.ld (Val := Elt Ideal) (e' := .f32) x3 r0_2) := rfl
  rw [e]
  exact congrArg₂ scaled (ld_all (e := .f32) x0 _) (ld_all (e := .f32) x3 _)

/-- The body's sines times the factor. -/
theorem sin_eq : k0_pay69 (F := Ideal) x0 x1 x2 x3 x4 x5 = scaled x0 x4 := by
  have e : k0_pay69 (F := Ideal) x0 x1 x2 x3 x4 x5
      = scaled (View.ld (Val := Elt Ideal) (e' := .f32) x0 r0_0) (View.ld (Val := Elt Ideal) (e' := .f32) x4 r0_2) := rfl
  rw [e]
  exact congrArg₂ scaled (ld_all (e := .f32) x0 _) (ld_all (e := .f32) x4 _)

/-- The stored block of queries. -/
theorem out6 (y : S1024x1024.Idx) : out0_6 (F := Ideal) x0 x1 x2 x3 x4 x5 y = turned x0 x1 x2 x3 x4 0 (by decide) (y 0) (y 1) := by
  refine Eq.trans (congrFun ?_ y) (queries_apply x0 x1 x2 x3 x4 y)
  have e70 : k0_pay70 (F := Ideal) x0 x1 x2 x3 x4 x5 = left (k0_pay66 x0 x1 x2 x3 x4 x5) (View.ld (Val := Elt Ideal) (e' := .bf16) x2 r0_43) := rfl
  have e71 : k0_pay71 (F := Ideal) x0 x1 x2 x3 x4 x5 = right (k0_pay66 x0 x1 x2 x3 x4 x5) (View.ld (Val := Elt Ideal) (e' := .bf16) x2 r0_43) := rfl
  unfold out0_6 queries lo hi wcols
  rw [e70, e71, gained_eq, cos_eq, sin_eq]
  generalize gained x0 x1 = a
  generalize scaled x0 x3 = c
  generalize scaled x0 x4 = s
  refine congrArg (View.canon (Val := Elt Ideal)) ?_
  iterate 8 refine same_piece rfl ?_
  rfl

/-- The stored block of keys. -/
theorem out7 (y : S1024x1024.Idx) : out0_7 (F := Ideal) x0 x1 x2 x3 x4 x5 y = keyed x0 x1 x2 x3 x4 (y 0) (y 1) := by
  refine Eq.trans (congrFun ?_ y) (keys_apply x0 x1 x2 x3 x4 y)
  unfold out0_7 keys lo hi wcols
  rw [gained_eq, cos_eq, sin_eq]
  generalize gained x0 x1 = a
  generalize scaled x0 x3 = c
  generalize scaled x0 x4 = s
  refine congrArg (View.canon (Val := Elt Ideal)) ?_
  iterate 8 refine same_piece rfl ?_
  rfl

/-- The stored block of values. -/
theorem out8 (y : S1024x2048.Idx) : out0_8 (F := Ideal) x0 x1 x2 x3 x4 x5 y = valued x0 x1 x2 (y 0) (y 1) := by
  refine Eq.trans (congrFun ?_ y) (values_apply x0 x1 x2 y)
  unfold out0_8 values
  rw [gained_eq, inv_eq]
  generalize gained x0 x1 = a
  generalize inv256 x0 = v
  rfl

/-- The stored block of the gate. -/
theorem out9 (y : S1024x2048.Idx) : out0_9 (F := Ideal) x0 x1 x2 x3 x4 x5 y = gated x0 x1 x2 x5 (y 0) (y 1) := by
  refine Eq.trans (congrFun ?_ y) (gates_apply x0 x1 x2 x5 y)
  have e13 : k0_pay13 (F := Ideal) (View.ld (Val := Elt Ideal) (e' := .f32) x0 r0_0) (View.ld (Val := Elt Ideal) (e' := .f32) x1 r0_1)
      (View.ld (Val := Elt Ideal) (e' := .bf16) x2 r0_3) (View.ld (Val := Elt Ideal) (e' := .f32) x5 r0_4)
      = mulf (gateRaw (k0_pay66 x0 x1 x2 x3 x4 x5) (k0_pay67 x0 x1 x2 x3 x4 x5) (View.ld (Val := Elt Ideal) (e' := .bf16) x2 r0_3))
          (broadcastTo S1024x256 (shapeCast S1x256 (View.ld (Val := Elt Ideal) (e' := .f32) x5 r0_4) shapeCasts_S1x256_S1x256)
            broadcasts_S1x256_S1024x256) := rfl
  unfold out0_9 gates
  rw [e13, gained_eq, inv_eq]
  generalize gained x0 x1 = a
  generalize inv256 x0 = v
  rfl

end out

end Cert.Proj

end
-- ==== Proof.Proj.Array4.lean ====
/- The result arrays of the projections: each point of the grid writes its block of rows. -/
module

public import proofs.«01_k».proof.Proof.Proj.Body
public import proofs.«01_k».proof.Proof.Gen.Kernel4Ideal.Value

@[expose] public section

set_option maxRecDepth 16384

noncomputable section

namespace Cert.Proj

open Idealize.ShloMosaic Idealize.ShloMosaic.TcCoe Idealize.SL.Sem Finset
open Cert.Kernel4Ideal Cert.Kernel4Ideal.Gen

variable (m : (ℓ : Loc nD τ sig) → Buf (Elt Ideal) ℓ)

/-- The blocks of a grid point: its rows and its positions' cosines and sines, and the weights whole. -/
theorem idx : ∀ t : Fin cfg0.N,
    win0_0.index t = ![t.val, 0] ∧ win0_1.index t = ![0, 0] ∧ win0_2.index t = ![0, 0] ∧ win0_3.index t = ![t.val % 4, 0]
      ∧ win0_4.index t = ![t.val % 4, 0] ∧ win0_5.index t = ![0, 0] ∧ win0_6.index t = ![t.val, 0] ∧ win0_7.index t = ![t.val, 0]
      ∧ win0_8.index t = ![t.val, 0] ∧ win0_9.index t = ![t.val, 0] ∧ t.val < 32 :=
  (by decide +kernel : ∀ t : Fin grid0.N, _)

/-- The grid has 32 steps. -/
theorem lt32 (t : Fin cfg0.N) : t.val < 32 := (idx t).2.2.2.2.2.2.2.2.2.2

/-- The batch of a row. -/
def bat (t : Fin cfg0.N) (i : Fin 1024) : Fin 8 := ⟨(1024 * t.val + i) / 4096, by have := lt32 t; omega⟩

/-- The position of a row. -/
def pos (t : Fin cfg0.N) (i : Fin 1024) : Fin 4096 := ⟨(1024 * t.val + i) % 4096, by omega⟩

/-- The angles: a position times the frequency of a pair of columns. -/
def angle : FVec Ideal S4096x128 .f32 :=
  mulf (broadcastInDim S4096x128 ![0, 1] bcast_S4096x1_S4096x128_0_1
      (broadcastInDim S4096x1 ![0] bcast_S4096_S4096x1_0 (sitofp .f32 (iotaInDim S4096 32 0))))
    (broadcastInDim S4096x128 ![0, 1] bcast_S1x128_S4096x128_0_1 (broadcastInDim S1x128 ![1] bcast_S128_S1x128_1
      (Host.divf (broadcastInDim S128 ![] bcast_S_S128 (constant S_ .f32 0x3F800000#32))
        (Host.powf (broadcastInDim S128 ![] bcast_S_S128 (constant S_ .f32 0x461C4000#32))
          (Host.divf (addf (broadcastInDim S128 ![] bcast_S_S128 (constant S_ .f32 0x00000000#32))
              (mulf (broadcastInDim S128 ![] bcast_S_S128 (constant S_ .f32 0x40000000#32)) (sitofp .f32 (iotaInDim S128 32 0))))
            (broadcastInDim S128 ![] bcast_S_S128 (constant S_ .f32 0x43800000#32)))))))

/-- The cosines. -/
def cosines : FVec Ideal S4096x128 .f32 := Host.cos angle

/-- The sines. -/
def sines : FVec Ideal S4096x128 .f32 := Host.sin angle

/-- The cosines that the call is given. -/
theorem V_cos (c : Dev nD) : V m c main_v18 = cosines := by
  unfold cosines angle
  simp only [V, hostOps0]
  after_results_simp <;> rfl

/-- The sines that the call is given. -/
theorem V_sin (c : Dev nD) : V m c main_v19 = sines := by
  unfold sines angle
  simp only [V, hostOps0]
  after_results_simp <;> rfl

/-- The block of the rows. -/
theorem block0 (c : Dev nD) (t : Fin cfg0.N) (i k : Fin 1024) :
    iblk m c 0 t (ix2 i k : S1024x1024.Idx) = (m ((c : Thread nD τ).loc main_arg0) : FVec Ideal S8x4096x1024 .f32) (ix3 (bat t i) (pos t i) k) := by
  unfold bat pos
  blk_ext! [iblk, V, idx t]

/-- The norm's gain. -/
theorem block1 (c : Dev nD) (t : Fin cfg0.N) (k : Fin 1024) :
    iblk m c 1 t (ix2 0 k : S1x1024.Idx) = (m ((c : Thread nD τ).loc main_arg1) : FVec Ideal S1024 .f32) (ix1 k) := by
  blk_ext! [iblk, V, idx t]

/-- The weights. -/
theorem block2 (c : Dev nD) (t : Fin cfg0.N) (k : Fin 1024) (j : Fin 6144) :
    iblk m c 2 t (ix2 k j : S1024x6144.Idx) = (m ((c : Thread nD τ).loc main_arg2) : FVec Ideal S1024x6144 .f32) (ix2 k j) := by
  blk_ext! [iblk, V, idx t]

/-- The block of the cosines. -/
theorem block3 (c : Dev nD) (t : Fin cfg0.N) (i : Fin 1024) (d : Fin 128) :
    iblk m c 3 t (ix2 i d : S1024x128.Idx) = cosines (ix2 (pos t i) d) := by
  have e := V_cos m c
  generalize cosines = T at e ⊢
  unfold pos
  have ht := lt32 t
  subst e
  blk_ext! [iblk, idx t]

/-- The block of the sines. -/
theorem block4 (c : Dev nD) (t : Fin cfg0.N) (i : Fin 1024) (d : Fin 128) :
    iblk m c 4 t (ix2 i d : S1024x128.Idx) = sines (ix2 (pos t i) d) := by
  have e := V_sin m c
  generalize sines = T at e ⊢
  unfold pos
  have ht := lt32 t
  subst e
  blk_ext! [iblk, idx t]

/-- The gain of the heads' norm. -/
theorem block5 (c : Dev nD) (t : Fin cfg0.N) (j : Fin 2048) :
    iblk m c 5 t (ix2 0 j : S1x2048.Idx)
      = (m ((c : Thread nD τ).loc main_arg3) : FVec Ideal S4x512 .f32) (ix2 ⟨j / 512, by omega⟩ ⟨j % 512, by omega⟩) := by
  blk_ext! [iblk, V, idx t]

section rows

variable (X : FVec Ideal S8x4096x1024 .f32) (G : FVec Ideal S1024 .f32) (W : FVec Ideal S1024x6144 .f32) (N : FVec Ideal S4x512 .f32)

/-- The projected row of a batch and a position. -/
def projRow (b : Fin 8) (s : Fin 4096) (j : Fin 6144) : EReal :=
  Row.normed (fun k => X (ix3 b s k)) (fun k => G (ix1 k)) fun k => W (ix2 k j)

/-- The rotated queries or keys of a batch and a position. -/
def turnedRow (base : ℕ) (hb : base + 1024 ≤ 6144) (b : Fin 8) (s : Fin 4096) (j : Fin 1024) : EReal :=
  rot (fun j => projRow X G W b s ⟨base + j, by omega⟩) (fun d => cosines (ix2 s d)) (fun d => sines (ix2 s d)) j

/-- The queries of a batch and a position. -/
def queryRow (b : Fin 8) (s : Fin 4096) (j : Fin 1024) : EReal := turnedRow X G W 0 (by decide) b s j

/-- The keys of a batch and a position, with their scale. -/
def keyRow (b : Fin 8) (s : Fin 4096) (j : Fin 1024) : EReal :=
  turnedRow X G W 1024 (by decide) b s j * Ideal.ofBits .f32 0x3D800000#32

/-- The values of a batch and a position. -/
def valueRow (b : Fin 8) (s : Fin 4096) (j : Fin 2048) : EReal := projRow X G W b s ⟨2048 + j, by omega⟩

/-- The gate of a batch and a position. -/
def gateRow (b : Fin 8) (s : Fin 4096) (j : Fin 2048) : EReal :=
  silu (projRow X G W b s ⟨4096 + j, by omega⟩) * N (ix2 ⟨j / 512, by omega⟩ ⟨j % 512, by omega⟩)

end rows

/-- The rows of every batch and position, side by side. -/
def allRows {n : ℕ} (R : Fin 8 → Fin 4096 → Fin n → EReal) : (⟨2, ![32768, n]⟩ : Shape).Idx → EReal :=
  fun y => R ⟨(y 0).val / 4096, by have : (y 0).val < 32768 := (y 0).isLt; omega⟩ ⟨(y 0).val % 4096, by omega⟩ (y 1)

/-- The projected row a point computes is the row of its batch and position. -/
theorem proj_eq (c : Dev nD) (t : Fin cfg0.N) (i : Fin 1024) (j : Fin 6144) :
    proj (iblk m c 0 t) (iblk m c 1 t) (iblk m c 2 t) i j
      = projRow (m ((c : Thread nD τ).loc main_arg0)) (m ((c : Thread nD τ).loc main_arg1)) (m ((c : Thread nD τ).loc main_arg2))
          (bat t i) (pos t i) j :=
  Row.three Row.normed (funext fun k => block0 m c t i k) (funext fun k => block1 m c t k) (funext fun k => block2 m c t k j)

/-- The rotated queries or keys a point computes. -/
theorem turned_eq (c : Dev nD) (t : Fin cfg0.N) (base : ℕ) (hb : base + 1024 ≤ 6144) (i j : Fin 1024) :
    turned (iblk m c 0 t) (iblk m c 1 t) (iblk m c 2 t) (iblk m c 3 t) (iblk m c 4 t) base hb i j
      = turnedRow (m ((c : Thread nD τ).loc main_arg0)) (m ((c : Thread nD τ).loc main_arg1)) (m ((c : Thread nD τ).loc main_arg2))
          base hb (bat t i) (pos t i) j :=
  congrFun (Row.three rot (funext fun _ => proj_eq m c t i _) (funext fun d => block3 m c t i d) (funext fun d => block4 m c t i d)) j

/-- A row of every batch and position, read where a point writes it. -/
theorem row_at {n : ℕ} (R : Fin 8 → Fin 4096 → Fin n → EReal) (t : Fin cfg0.N) (z : (⟨2, ![32768, n]⟩ : Shape).Idx)
    (y : (⟨2, ![1024, n]⟩ : Shape).Idx) (h0 : (z 0 : ℕ) = t.val * 1024 + y 0) (h1 : z 1 = (y 1 : Fin n)) :
    R (bat t (y 0)) (pos t (y 0)) (y 1) = allRows R z := by
  unfold allRows
  refine Row.three R (Fin.ext ?_) (Fin.ext ?_) h1.symm
  · show (1024 * t.val + (y 0 : ℕ)) / 4096 = (z 0 : ℕ) / 4096
    rw [h0, Nat.mul_comm]
  · show (1024 * t.val + (y 0 : ℕ)) % 4096 = (z 0 : ℕ) % 4096
    rw [h0, Nat.mul_comm]

/-- The array of the queries after the run. -/
theorem final_q (c : Dev nD) : (dats m 0 c).arrAt 6 cfg0.N
    = allRows (queryRow (m ((c : Thread nD τ).loc main_arg0)) (m ((c : Thread nD τ).loc main_arg1)) (m ((c : Thread nD τ).loc main_arg2))) := by
  refine (dats m 0 c).arrAt_eq_of_covers 6 _ (by decide +kernel) fun t _ y => ?_
  blk_simp
  have h0 : (((win0_6.blk t).view.emb y) 0 : ℕ) = t.val * 1024 + y 0 := by blk_simp [idx t]
  have h1 : ((win0_6.blk t).view.emb y) 1 = (y 1 : Fin 1024) := Fin.ext (by blk_simp [idx t])
  rw [after0_6]
  refine (out6 (iblk m c 0 t) (iblk m c 1 t) (iblk m c 2 t) (iblk m c 3 t) (iblk m c 4 t) (iblk m c 5 t) y).trans ?_
  refine (turned_eq m c t 0 (by decide) (y 0 : Fin 1024) (y 1 : Fin 1024)).trans ?_
  exact row_at (queryRow _ _ _) t _ y h0 h1

/-- The array of the keys after the run. -/
theorem final_k (c : Dev nD) : (dats m 0 c).arrAt 7 cfg0.N
    = allRows (keyRow (m ((c : Thread nD τ).loc main_arg0)) (m ((c : Thread nD τ).loc main_arg1)) (m ((c : Thread nD τ).loc main_arg2))) := by
  refine (dats m 0 c).arrAt_eq_of_covers 7 _ (by decide +kernel) fun t _ y => ?_
  blk_simp
  have h0 : (((win0_7.blk t).view.emb y) 0 : ℕ) = t.val * 1024 + y 0 := by blk_simp [idx t]
  have h1 : ((win0_7.blk t).view.emb y) 1 = (y 1 : Fin 1024) := Fin.ext (by blk_simp [idx t])
  rw [after0_7]
  refine (out7 (iblk m c 0 t) (iblk m c 1 t) (iblk m c 2 t) (iblk m c 3 t) (iblk m c 4 t) (iblk m c 5 t) y).trans ?_
  refine (congrArg (fun a : EReal => a * Ideal.ofBits .f32 0x3D800000#32) (turned_eq m c t 1024 (by decide) (y 0 : Fin 1024) (y 1 : Fin 1024))).trans ?_
  exact row_at (keyRow _ _ _) t _ y h0 h1

/-- The array of the values after the run. -/
theorem final_v (c : Dev nD) : (dats m 0 c).arrAt 8 cfg0.N
    = allRows (valueRow (m ((c : Thread nD τ).loc main_arg0)) (m ((c : Thread nD τ).loc main_arg1)) (m ((c : Thread nD τ).loc main_arg2))) := by
  refine (dats m 0 c).arrAt_eq_of_covers 8 _ (by decide +kernel) fun t _ y => ?_
  blk_simp
  have h0 : (((win0_8.blk t).view.emb y) 0 : ℕ) = t.val * 1024 + y 0 := by blk_simp [idx t]
  have h1 : ((win0_8.blk t).view.emb y) 1 = (y 1 : Fin 2048) := Fin.ext (by blk_simp [idx t])
  rw [after0_8]
  refine (out8 (iblk m c 0 t) (iblk m c 1 t) (iblk m c 2 t) (iblk m c 3 t) (iblk m c 4 t) (iblk m c 5 t) y).trans ?_
  refine (proj_eq m c t (y 0 : Fin 1024) _).trans ?_
  exact row_at (valueRow _ _ _) t _ y h0 h1

/-- The array of the gate after the run. -/
theorem final_g (c : Dev nD) : (dats m 0 c).arrAt 9 cfg0.N
    = allRows (gateRow (m ((c : Thread nD τ).loc main_arg0)) (m ((c : Thread nD τ).loc main_arg1)) (m ((c : Thread nD τ).loc main_arg2)) (m ((c : Thread nD τ).loc main_arg3))) := by
  refine (dats m 0 c).arrAt_eq_of_covers 9 _ (by decide +kernel) fun t _ y => ?_
  blk_simp
  have h0 : (((win0_9.blk t).view.emb y) 0 : ℕ) = t.val * 1024 + y 0 := by blk_simp [idx t]
  have h1 : ((win0_9.blk t).view.emb y) 1 = (y 1 : Fin 2048) := Fin.ext (by blk_simp [idx t])
  rw [after0_9]
  refine (out9 (iblk m c 0 t) (iblk m c 1 t) (iblk m c 2 t) (iblk m c 3 t) (iblk m c 4 t) (iblk m c 5 t) y).trans ?_
  refine (congrArg₂ (fun a b : EReal => silu a * b) (proj_eq m c t (y 0 : Fin 1024) _) (block5 m c t (y 1 : Fin 2048))).trans ?_
  exact row_at (gateRow _ _ _ _) t _ y h0 h1

end Cert.Proj

end
-- ==== Proof.Proj.Reference4.lean ====
/- The reference of the projections, read at an index. -/
module

public import proofs.«01_k».proof.Proof.Tail.RefSteps
public import proofs.«01_k».proof.Proof.Proj.Array4
public import proofs.«01_k».proof.Proof.Gen.Reference4Ideal.Run

@[expose] public section

set_option maxRecDepth 16384

noncomputable section

namespace Cert.Proj.Ref

open Idealize.ShloMosaic Idealize.ShloMosaic.TcCoe Idealize.SL.Sem Finset
open Cert.Reference4Ideal Cert.Reference4Ideal.Gen

/-- The projected rows. -/
def project (X : FVec Ideal S8x4096x1024 .f32) (G : FVec Ideal S1024 .f32) (W : FVec Ideal S1024x6144 .f32) : FVec Ideal S8x4096x6144 .f32 :=
  Host.dotGeneral dot_S8x4096x1024_S1024x6144_S8x4096x6144_2_0_01_1_n_n none (Tail.Ref.norm X G) W

/-- The projected rows, read at an index. -/
theorem project_apply (X : FVec Ideal S8x4096x1024 .f32) (G : FVec Ideal S1024 .f32) (W : FVec Ideal S1024x6144 .f32) (b : Fin 8)
    (s : Fin 4096) (j : Fin 6144) : project X G W (ix3 b s j) = projRow X G W b s j := by
  have e : project X G W (ix3 b s j) = ∑ k : Fin 1024, Tail.Ref.norm X G (ix3 b s k) * W (ix2 k j) := by
    unfold project
    generalize Tail.Ref.norm X G = T
    pointwise
  rw [e]
  exact Finset.sum_congr rfl fun k _ => congrArg (fun x : EReal => x * W (ix2 k j)) (Tail.Ref.norm_apply X G b s k)

/-- The first halves of the heads. -/
def firsts (A : FVec Ideal S8x4096x1024 .f32) : FVec Ideal S8x4096x4x128 .f32 :=
  extractStridedSlice S8x4096x4x128 ![0, 0, 0, 0] (shapeCast S8x4096x4x256 A shapeCasts_S8x4096x1024_S8x4096x4x256)
    slices_S8x4096x4x256_S8x4096x4x128_0_0_0_0

/-- The first halves of the heads, read at an index. -/
theorem firsts_apply (A : FVec Ideal S8x4096x1024 .f32) (b : Fin 8) (s : Fin 4096) (h : Fin 4) (d : Fin 128) :
    firsts A (ix4 b s h d) = A (ix3 b s ⟨h * 256 + d, by omega⟩) := by
  pointwise [firsts]

/-- The second halves of the heads. -/
def seconds (A : FVec Ideal S8x4096x1024 .f32) : FVec Ideal S8x4096x4x128 .f32 :=
  extractStridedSlice S8x4096x4x128 ![0, 0, 0, 128] (shapeCast S8x4096x4x256 A shapeCasts_S8x4096x1024_S8x4096x4x256)
    slices_S8x4096x4x256_S8x4096x4x128_0_0_0_128

/-- The second halves of the heads, read at an index. -/
theorem seconds_apply (A : FVec Ideal S8x4096x1024 .f32) (b : Fin 8) (s : Fin 4096) (h : Fin 4) (d : Fin 128) :
    seconds A (ix4 b s h d) = A (ix3 b s ⟨h * 256 + (128 + d), by omega⟩) := by
  pointwise [seconds]

/-- Cosines or sines for every batch and head. -/
def spread (T : FVec Ideal S4096x128 .f32) : FVec Ideal S8x4096x4x128 .f32 :=
  broadcastInDim S8x4096x4x128 ![0, 1, 2, 3] bcast_S1x4096x1x128_S8x4096x4x128_0_1_2_3
    (broadcastInDim S1x4096x1x128 ![1, 2, 3] bcast_S4096x1x128_S1x4096x1x128_1_2_3
      (broadcastInDim S4096x1x128 ![0, 2] bcast_S4096x128_S4096x1x128_0_2 T))

/-- Cosines or sines for every batch and head, read at an index. -/
theorem spread_apply (T : FVec Ideal S4096x128 .f32) (b : Fin 8) (s : Fin 4096) (h : Fin 4) (d : Fin 128) :
    spread T (ix4 b s h d) = T (ix2 s d) := by
  pointwise [spread]

/-- The rotated heads. -/
def rope (A : FVec Ideal S8x4096x1024 .f32) (C S : FVec Ideal S4096x128 .f32) : FVec Ideal S8x4096x4x256 .f32 :=
  concatenate S8x4096x4x256 3 [⟨S8x4096x4x128, subf (mulf (firsts A) (spread C)) (mulf (seconds A) (spread S))⟩,
    ⟨S8x4096x4x128, addf (mulf (seconds A) (spread C)) (mulf (firsts A) (spread S))⟩]
    concatenates_S8x4096x4x128_S8x4096x4x128_S8x4096x4x256_d3

/-- The queries' columns. -/
def queryCols (P : FVec Ideal S8x4096x6144 .f32) : FVec Ideal S8x4096x1024 .f32 :=
  extractStridedSlice S8x4096x1024 ![0, 0, 0] P slices_S8x4096x6144_S8x4096x1024_0_0_0

/-- The keys' columns. -/
def keyCols (P : FVec Ideal S8x4096x6144 .f32) : FVec Ideal S8x4096x1024 .f32 :=
  extractStridedSlice S8x4096x1024 ![0, 0, 1024] P slices_S8x4096x6144_S8x4096x1024_0_0_1024

/-- The values' columns. -/
def valueCols (P : FVec Ideal S8x4096x6144 .f32) : FVec Ideal S8x4096x2048 .f32 :=
  extractStridedSlice S8x4096x2048 ![0, 0, 2048] P slices_S8x4096x6144_S8x4096x2048_0_0_2048

/-- The gate's columns. -/
def gateCols (P : FVec Ideal S8x4096x6144 .f32) : FVec Ideal S8x4096x2048 .f32 :=
  extractStridedSlice S8x4096x2048 ![0, 0, 4096] P slices_S8x4096x6144_S8x4096x2048_0_0_4096

/-- The stored queries. -/
def query (P : FVec Ideal S8x4096x6144 .f32) : FVec Ideal S32768x1024 .bf16 :=
  truncf .bf16 (shapeCast S32768x1024 (rope (queryCols P) cosines sines) shapeCasts_S8x4096x4x256_S32768x1024) bitsLt_bf16_f32

/-- The stored keys. -/
def key (P : FVec Ideal S8x4096x6144 .f32) : FVec Ideal S32768x1024 .bf16 :=
  truncf .bf16 (shapeCast S32768x1024 (mulf (rope (keyCols P) cosines sines)
    (broadcastInDim S8x4096x4x256 ![] bcast_S_S8x4096x4x256 (constant S_ .f32 0x3D800000#32))) shapeCasts_S8x4096x4x256_S32768x1024) bitsLt_bf16_f32

/-- The stored values. -/
def value (P : FVec Ideal S8x4096x6144 .f32) : FVec Ideal S32768x2048 .bf16 :=
  truncf .bf16 (shapeCast S32768x2048 (valueCols P) shapeCasts_S8x4096x2048_S32768x2048) bitsLt_bf16_f32

/-- The stored gate. -/
def gates (P : FVec Ideal S8x4096x6144 .f32) (N : FVec Ideal S4x512 .f32) : FVec Ideal S32768x2048 .bf16 :=
  truncf .bf16 (shapeCast S32768x2048 (mulf (mulf (gateCols P)
      (Host.divf (broadcastInDim S8x4096x2048 ![] bcast_S_S8x4096x2048 (constant S_ .f32 0x3F800000#32))
        (addf (broadcastInDim S8x4096x2048 ![] bcast_S_S8x4096x2048 (constant S_ .f32 0x3F800000#32)) (Host.exp (Host.negf (gateCols P))))))
      (broadcastInDim S8x4096x2048 ![0, 1, 2] bcast_S1x1x2048_S8x4096x2048_0_1_2 (broadcastInDim S1x1x2048 ![2] bcast_S2048_S1x1x2048_2
        (shapeCast S2048 N shapeCasts_S4x512_S2048)))) shapeCasts_S8x4096x2048_S32768x2048) bitsLt_bf16_f32

/-- The columns of a head's half of the rotated heads. -/
theorem rope_apply (A : FVec Ideal S8x4096x1024 .f32) (C S : FVec Ideal S4096x128 .f32) (b : Fin 8) (s : Fin 4096) (j : Fin 1024) :
    rope A C S (ix4 b s ⟨j / 256, by omega⟩ ⟨j % 256, by omega⟩)
      = rot (fun j => A (ix3 b s j)) (fun d => C (ix2 s d)) (fun d => S (ix2 s d)) j := by
  have f := firsts_apply A b s
  have g := seconds_apply A b s
  have hc := spread_apply C b s
  have hs := spread_apply S b s
  unfold rope
  generalize firsts A = F at *
  generalize seconds A = E at *
  generalize spread C = U at *
  generalize spread S = V at *
  pointwise
  unfold rot
  by_cases h : (j : ℕ) % 256 < 128
  · rw [dif_pos h, if_pos h, f, g, hc, hs]
    have d : (⟨(j : ℕ) % 256, by omega⟩ : Fin 128) = ⟨j % 128, by omega⟩ := Fin.ext (by simp only; omega)
    exact congrArg₂ (fun x y : EReal => x - y)
      (congrArg₂ (fun x y : EReal => x * y) (congrArg (fun k => A (ix3 b s k)) (Fin.ext (by simp only; omega))) (congrArg (fun d => C (ix2 s d)) d))
      (congrArg₂ (fun x y : EReal => x * y) (congrArg (fun k => A (ix3 b s k)) (Fin.ext (by simp only; omega))) (congrArg (fun d => S (ix2 s d)) d))
  · rw [dif_neg h, if_neg h, f, g, hc, hs]
    have d : (⟨(j : ℕ) % 256 - 128, by omega⟩ : Fin 128) = ⟨j % 128, by omega⟩ := Fin.ext (by simp only; omega)
    exact congrArg₂ (fun x y : EReal => x + y)
      (congrArg₂ (fun x y : EReal => x * y) (congrArg (fun k => A (ix3 b s k)) (Fin.ext (by simp only; omega))) (congrArg (fun d => C (ix2 s d)) d))
      (congrArg₂ (fun x y : EReal => x * y) (congrArg (fun k => A (ix3 b s k)) (Fin.ext (by simp only; omega))) (congrArg (fun d => S (ix2 s d)) d))

/-- The heads of every row side by side, at an index. -/
theorem heads_apply (T : FVec Ideal S8x4096x4x256 .f32) (r : Fin 32768) (j : Fin 1024) :
    shapeCast S32768x1024 T shapeCasts_S8x4096x4x256_S32768x1024 (ix2 r j)
      = T (ix4 ⟨r / 4096, by omega⟩ ⟨r % 4096, by omega⟩ ⟨j / 256, by omega⟩ ⟨j % 256, by omega⟩) := by
  pointwise

/-- The rows of every batch side by side, at an index. -/
theorem side_apply (T : FVec Ideal S8x4096x2048 .f32) (r : Fin 32768) (j : Fin 2048) :
    shapeCast S32768x2048 T shapeCasts_S8x4096x2048_S32768x2048 (ix2 r j)
      = T (ix3 ⟨r / 4096, by omega⟩ ⟨r % 4096, by omega⟩ j) := by
  pointwise

variable (X : FVec Ideal S8x4096x1024 .f32) (G : FVec Ideal S1024 .f32) (W : FVec Ideal S1024x6144 .f32) (N : FVec Ideal S4x512 .f32)

/-- The queries' columns, read at an index. -/
theorem queryCols_apply (P : FVec Ideal S8x4096x6144 .f32) (b : Fin 8) (s : Fin 4096) (j : Fin 1024) :
    queryCols P (ix3 b s j) = P (ix3 b s ⟨0 + j, by omega⟩) := by
  have e : queryCols P (ix3 b s j) = P (ix3 b s ⟨j, by omega⟩) := by pointwise [queryCols]
  exact e.trans (congrArg (fun k => P (ix3 b s k)) (Fin.ext (Nat.zero_add _).symm))

/-- The keys' columns, read at an index. -/
theorem keyCols_apply (P : FVec Ideal S8x4096x6144 .f32) (b : Fin 8) (s : Fin 4096) (j : Fin 1024) :
    keyCols P (ix3 b s j) = P (ix3 b s ⟨1024 + j, by omega⟩) := by
  pointwise [keyCols]

/-- The values' columns, read at an index. -/
theorem valueCols_apply (P : FVec Ideal S8x4096x6144 .f32) (b : Fin 8) (s : Fin 4096) (j : Fin 2048) :
    valueCols P (ix3 b s j) = P (ix3 b s ⟨2048 + j, by omega⟩) := by
  pointwise [valueCols]

/-- The gate's columns, read at an index. -/
theorem gateCols_apply (P : FVec Ideal S8x4096x6144 .f32) (b : Fin 8) (s : Fin 4096) (j : Fin 2048) :
    gateCols P (ix3 b s j) = P (ix3 b s ⟨4096 + j, by omega⟩) := by
  pointwise [gateCols]

/-- The rotation of equal rows. -/
theorem rot_congr {p q : Fin 1024 → EReal} (h : ∀ j, p j = q j) (cs sn : Fin 128 → EReal) (j : Fin 1024) : rot p cs sn j = rot q cs sn j :=
  congrArg (fun p => rot p cs sn j) (funext h)

/-- The reference's queries. -/
theorem query_all : query (project X G W) = allRows (queryRow X G W) := by
  funext y
  have hy : y = (ix2 (y 0 : Fin 32768) (y 1 : Fin 1024) : S32768x1024.Idx) := by funext a; fin_cases a <;> rfl
  refine (congrArg (query (project X G W)) hy).trans ((heads_apply _ _ _).trans ((rope_apply _ _ _ _ _ _).trans ?_))
  unfold allRows queryRow turnedRow
  refine rot_congr (fun j => ?_) _ _ _
  exact (queryCols_apply _ _ _ j).trans (project_apply X G W _ _ _)

/-- The reference's keys. -/
theorem key_all : key (project X G W) = allRows (keyRow X G W) := by
  funext y
  have hy : y = (ix2 (y 0 : Fin 32768) (y 1 : Fin 1024) : S32768x1024.Idx) := by funext a; fin_cases a <;> rfl
  have e : ∀ (T : FVec Ideal S8x4096x4x256 .f32) (b : Fin 8) (s : Fin 4096) (h : Fin 4) (d : Fin 256),
      mulf T (broadcastInDim S8x4096x4x256 ![] bcast_S_S8x4096x4x256 (constant S_ .f32 0x3D800000#32)) (ix4 b s h d)
        = T (ix4 b s h d) * Ideal.ofBits .f32 0x3D800000#32 := by
    intro T b s h d
    pointwise
  refine (congrArg (key (project X G W)) hy).trans ((heads_apply _ _ _).trans ((e _ _ _ _ _).trans ?_))
  refine congrArg (fun a : EReal => a * Ideal.ofBits .f32 0x3D800000#32) ((rope_apply _ _ _ _ _ _).trans ?_)
  refine rot_congr (fun j => ?_) _ _ _
  exact (keyCols_apply _ _ _ j).trans (project_apply X G W _ _ _)

/-- The reference's values. -/
theorem value_all : value (project X G W) = allRows (valueRow X G W) := by
  funext y
  have hy : y = (ix2 (y 0 : Fin 32768) (y 1 : Fin 2048) : S32768x2048.Idx) := by funext a; fin_cases a <;> rfl
  refine (congrArg (value (project X G W)) hy).trans ?_
  refine (side_apply (valueCols (project X G W)) (y 0 : Fin 32768) (y 1 : Fin 2048)).trans ?_
  exact (valueCols_apply _ _ _ _).trans (project_apply X G W _ _ _)

/-- The reference's gate. -/
theorem gates_all : gates (project X G W) N = allRows (gateRow X G W N) := by
  funext y
  have hy : y = (ix2 (y 0 : Fin 32768) (y 1 : Fin 2048) : S32768x2048.Idx) := by funext a; fin_cases a <;> rfl
  have e : ∀ (Z : FVec Ideal S8x4096x2048 .f32) (b : Fin 8) (s : Fin 4096) (j : Fin 2048),
      mulf (mulf Z (Host.divf (broadcastInDim S8x4096x2048 ![] bcast_S_S8x4096x2048 (constant S_ .f32 0x3F800000#32))
          (addf (broadcastInDim S8x4096x2048 ![] bcast_S_S8x4096x2048 (constant S_ .f32 0x3F800000#32)) (Host.exp (Host.negf Z)))))
        (broadcastInDim S8x4096x2048 ![0, 1, 2] bcast_S1x1x2048_S8x4096x2048_0_1_2 (broadcastInDim S1x1x2048 ![2] bcast_S2048_S1x1x2048_2
          (shapeCast S2048 N shapeCasts_S4x512_S2048))) (ix3 b s j)
        = silu (Z (ix3 b s j)) * N (ix2 ⟨j / 512, by omega⟩ ⟨j % 512, by omega⟩) := by
    intro Z b s j
    pointwise [silu]
  refine (congrArg (gates (project X G W) N) hy).trans ((side_apply _ _ _).trans ((e _ _ _ _).trans ?_))
  exact congrArg (fun a : EReal => silu a * _) ((gateCols_apply _ _ _ _).trans (project_apply X G W _ _ _))

section results

variable (m : (ℓ : Loc nD τ sig) → Buf (Elt Ideal) ℓ) (c : Dev nD)

/-- The first result is the queries. -/
theorem result_q : Cert.Reference4Ideal.Value.res_main_v83 m c
    = query (project (m ((c.tc : Thread nD τ).loc main_arg0)) (m ((c.tc : Thread nD τ).loc main_arg1)) (m ((c.tc : Thread nD τ).loc main_arg2))) := rfl

/-- The second result is the keys. -/
theorem result_k : Cert.Reference4Ideal.Value.res_main_v85 m c
    = key (project (m ((c.tc : Thread nD τ).loc main_arg0)) (m ((c.tc : Thread nD τ).loc main_arg1)) (m ((c.tc : Thread nD τ).loc main_arg2))) := rfl

end results

end Cert.Proj.Ref

end
-- ==== Proof.Mla.Row.lean ====
/- The row-level mathematics of the attention's projections: a head's norm taken over doubled rotated columns, and the rotation
   by a sum with the opposite half. -/
module

public import proofs.«01_k».proof.Proof.Tail.Row
public import proofs.«01_k».proof.Proof.Attn.Online

@[expose] public section

noncomputable section

namespace Cert.Mla

open Idealize.ShloMosaic Finset

/-- The small number added before the root. -/
abbrev eps : EReal := Ideal.ofBits .f32 0x358637BD#32

/-- The length of a latent query. -/
abbrev n384 : EReal := Ideal.ofBits .f32 0x43C00000#32

/-- The length of a latent key. -/
abbrev n256 : EReal := Ideal.ofBits .f32 0x43800000#32

/-- The length of a head. -/
abbrev n192 : EReal := Ideal.ofBits .f32 0x43400000#32

/-- The number 384 of the constants. -/
theorem ofBits_384 : n384 = ((384 : ℝ) : EReal) := by
  simp [Ideal.ofBits, Ideal.ieee, -EReal.coe_mul]; norm_num

/-- The number 256 of the constants. -/
theorem ofBits_256 : n256 = ((256 : ℝ) : EReal) := by
  simp [Ideal.ofBits, Ideal.ieee, -EReal.coe_mul]; norm_num

/-- The number 192 of the constants. -/
theorem ofBits_192 : n192 = ((192 : ℝ) : EReal) := by
  simp [Ideal.ofBits, Ideal.ieee, -EReal.coe_mul]; norm_num

/-- The number two of the constants. -/
theorem ofBits_two : Ideal.ofBits .f32 0x40000000#32 = ((2 : ℝ) : EReal) := by
  simp [Ideal.ofBits, Ideal.ieee, -EReal.coe_mul]; norm_num

/-- The reciprocal of 1024 of the constants. -/
theorem ofBits_inv1024 : Ideal.ofBits .f32 0x3A800000#32 = ((1 / 1024 : ℝ) : EReal) := by
  simp [Ideal.ofBits, Ideal.ieee, -EReal.coe_mul]; norm_num

/-- The reciprocal of 256 of the constants. -/
theorem ofBits_inv256 : Ideal.ofBits .f32 0x3B800000#32 = ((1 / 256 : ℝ) : EReal) := by
  simp [Ideal.ofBits, Ideal.ieee, -EReal.coe_mul]; norm_num

/-- The half of the short constants. -/
theorem ofBits_half_bf16 : Ideal.ofBits .bf16 0x3F00#16 = ((1 / 2 : ℝ) : EReal) := by
  simp [Ideal.ofBits, Ideal.ieee, -EReal.coe_mul]; norm_num

/-- The factor by a reciprocal is the factor by a quotient. -/
theorem rsqrt_recip {n : ℝ} (hn : n ≠ 0) (s e : EReal) : Ideal.rsqrt (s * ((1 / n : ℝ) : EReal) + e) = Row.scale (n : EReal) e s := by
  rw [Row.scale, Ideal.div_coe hn]

/-- The factor of a row. -/
def fac (N : EReal) {n : ℕ} (p : Fin n → EReal) : EReal := Row.scale N eps (∑ k, p k * p k)

/-- The normed row. -/
def rms (N : EReal) {n : ℕ} (p g : Fin n → EReal) (k : Fin n) : EReal := p k * fac N p * g k

/-- The norm's factor is a real number that is not negative. -/
theorem fac_real {n : ℕ} (p : Fin n → EReal) : ∃ r : ℝ, 0 ≤ r ∧ fac n192 p = r :=
  Row.scale_real ⟨192, by norm_num, ofBits_192⟩ Row.ofBits_eps (Row.sumsq_nonneg p)

/-- The factor of an infinite sum of squares is zero. -/
theorem fac_bot {n : ℕ} (p : Fin n → EReal) (k : Fin n) (h : p k = ⊥) : fac n192 p = 0 := by
  have hs : ∑ k, p k * p k = ⊤ := by
    refine top_le_iff.1 (le_trans (le_of_eq ?_) (Finset.single_le_sum (fun i _ => Row.sq_nonneg (p i)) (mem_univ k)))
    rw [h, EReal.bot_mul_bot]
  obtain ⟨e, he, h'⟩ := Row.ofBits_eps
  rw [fac, hs, eps, h', ofBits_192, Row.scale, Ideal.div_coe (by norm_num), EReal.top_mul_coe_of_pos (by norm_num), EReal.top_add_coe]
  rfl

/-- A number is another's negative, or both are the lower infinity. -/
def Opp (a b : EReal) : Prop := a = -b ∨ (a = ⊥ ∧ b = ⊥)

/-- A sum of negatives against the sum. -/
theorem opp_sum {ι : Type*} (t : Finset ι) (f g : ι → EReal) (h : ∀ k, g k = -f k) : Opp (∑ k ∈ t, g k) (∑ k ∈ t, f k) := by
  classical
  induction t using Finset.induction_on with
  | empty => left; simp
  | insert a t ha ih =>
    rw [sum_insert ha, sum_insert ha, h]
    rcases ih with ih | ⟨i1, i2⟩
    · rw [ih]
      generalize ∑ k ∈ t, f k = B
      by_cases h1 : f a = ⊥ ∧ B = ⊤
      · right
        rw [h1.1, h1.2]
        simp
      by_cases h2 : f a = ⊤ ∧ B = ⊥
      · right
        rw [h2.1, h2.2]
        simp
      left
      rw [EReal.neg_add (by tauto) (by tauto), sub_eq_add_neg]
    · right
      rw [i1, i2]
      simp

/-- Opposite numbers have equal squares. -/
theorem opp_sq {a b : EReal} (h : Opp a b) : a * a = b * b := by
  rcases h with rfl | ⟨rfl, rfl⟩
  · rw [neg_mul_neg]
  · rfl

/-- The doubled rotated columns of a head: the head's last columns, numbers standing for the negatives of their second half, the
    first half. -/
def ext (z : Fin 192 → EReal) (N : Fin 32 → EReal) (l : Fin 128) : EReal :=
  if h : (l : ℕ) < 64 then z ⟨128 + l, by omega⟩ else if h : (l : ℕ) < 96 then N ⟨l - 64, by omega⟩ else z ⟨32 + l, by omega⟩

/-- The opposite column. -/
def opp (l : Fin 128) : Fin 128 := ⟨((l : ℕ) + 128 - 64) % 128, by omega⟩

/-- A sum over 128 in two halves. -/
theorem sum_128 (f : Fin 128 → EReal) : ∑ l, f l = ∑ l : Fin 64, f ⟨l, by omega⟩ + ∑ l : Fin 64, f ⟨64 + l, by omega⟩ :=
  Fin.sum_univ_add (a := 64) (b := 64) f

/-- A sum over 64 in two halves. -/
theorem sum_64 (f : Fin 64 → EReal) : ∑ l, f l = ∑ l : Fin 32, f ⟨l, by omega⟩ + ∑ l : Fin 32, f ⟨32 + l, by omega⟩ :=
  Fin.sum_univ_add (a := 32) (b := 32) f

/-- A sum over 256 in two halves. -/
theorem sum_256 (f : Fin 256 → EReal) : ∑ l, f l = ∑ l : Fin 128, f ⟨l, by omega⟩ + ∑ l : Fin 128, f ⟨128 + l, by omega⟩ :=
  Fin.sum_univ_add (a := 128) (b := 128) f

/-- A sum over a head's columns, plain and rotated. -/
theorem sum_192 (f : Fin 192 → EReal) : ∑ l, f l = ∑ l : Fin 128, f ⟨l, by omega⟩ + ∑ l : Fin 64, f ⟨128 + l, by omega⟩ :=
  Fin.sum_univ_add (a := 128) (b := 64) f

/-- Twice the half. -/
theorem half_add_half (x : EReal) : x * ((1 / 2 : ℝ) : EReal) + x * ((1 / 2 : ℝ) : EReal) = x := by
  have h : (0 : EReal) ≤ ((1 / 2 : ℝ) : EReal) := by exact_mod_cast (by norm_num : (0 : ℝ) ≤ 1 / 2)
  rw [← EReal.left_distrib_of_nonneg h h, ← EReal.coe_add]
  norm_num

/-- The doubled columns' squares with weight a half. -/
theorem sumsq_ext (z : Fin 192 → EReal) (N : Fin 32 → EReal) (hN : ∀ j : Fin 32, Opp (N j) (z ⟨160 + j, by omega⟩)) :
    ∑ l, ext z N l * ext z N l * ((1 / 2 : ℝ) : EReal) = ∑ l : Fin 64, z ⟨128 + l, by omega⟩ * z ⟨128 + l, by omega⟩ := by
  have e1 : ∀ l : Fin 32, ext z N ⟨l, by omega⟩ = z ⟨128 + l, by omega⟩ := fun l => dif_pos (by show (l : ℕ) < 64; omega)
  have e2 : ∀ l : Fin 32, ext z N ⟨32 + l, by omega⟩ = z ⟨160 + l, by omega⟩ := fun l =>
    (dif_pos (by show 32 + (l : ℕ) < 64; omega)).trans (congrArg z (Fin.ext (by show 128 + (32 + (l : ℕ)) = 160 + l; omega)))
  have e3 : ∀ l : Fin 32, ext z N ⟨64 + l, by omega⟩ = N l := fun l =>
    (dif_neg (by show ¬ 64 + (l : ℕ) < 64; omega)).trans ((dif_pos (by show 64 + (l : ℕ) < 96; omega)).trans
      (congrArg N (Fin.ext (by show 64 + (l : ℕ) - 64 = l; omega))))
  have e4 : ∀ l : Fin 32, ext z N ⟨64 + (32 + l), by omega⟩ = z ⟨128 + l, by omega⟩ := fun l =>
    (dif_neg (by show ¬ 64 + (32 + (l : ℕ)) < 64; omega)).trans ((dif_neg (by show ¬ 64 + (32 + (l : ℕ)) < 96; omega)).trans
      (congrArg z (Fin.ext (by show 32 + (64 + (32 + (l : ℕ))) = 128 + l; omega))))
  rw [sum_128, sum_64, sum_64, sum_64 fun l => z ⟨128 + l, by omega⟩ * z ⟨128 + l, by omega⟩]
  simp only [e1, e2, e3, e4]
  have e5 : ∀ l : Fin 32, (⟨128 + (32 + l), by omega⟩ : Fin 192) = ⟨160 + l, by omega⟩ := fun l => Fin.ext (by simp only; omega)
  simp only [e5, opp_sq (hN _)]
  have hA : ∀ f : Fin 32 → EReal, ∑ l, f l * ((1 / 2 : ℝ) : EReal) + ∑ l, f l * ((1 / 2 : ℝ) : EReal) = ∑ l, f l := by
    intro f
    rw [← sum_add_distrib]
    exact sum_congr rfl fun l _ => half_add_half _
  have a1 := hA fun l => z ⟨128 + l, by omega⟩ * z ⟨128 + l, by omega⟩
  have a2 := hA fun l => z ⟨160 + l, by omega⟩ * z ⟨160 + l, by omega⟩
  refine Eq.trans ?_ (congrArg₂ (fun x y : EReal => x + y) a1 a2)
  ac_rfl

/-- The rotation of a head's last columns. -/
def turn (z : Fin 192 → EReal) (C S : Fin 32 → EReal) (l : Fin 64) : EReal :=
  if h : (l : ℕ) < 32 then z ⟨128 + l, by omega⟩ * C ⟨l, h⟩ - z ⟨160 + l, by omega⟩ * S ⟨l, h⟩
  else z ⟨128 + l, by omega⟩ * C ⟨l - 32, by omega⟩ + z ⟨96 + l, by omega⟩ * S ⟨l - 32, by omega⟩

/-- Cosines and sines for the doubled columns, times the columns' gains. -/
def tab (g : Fin 192 → EReal) (C S : Fin 32 → EReal) (l : Fin 128) : EReal :=
  (if (l : ℕ) < 64 then C ⟨l % 32, by omega⟩ else S ⟨l % 32, by omega⟩) * ext g (fun j => g ⟨160 + j, by omega⟩) l

/-- A doubled column with its opposite. -/
def pair (z : Fin 192 → EReal) (N : Fin 32 → EReal) (T : Fin 128 → EReal) (l : Fin 128) : EReal :=
  ext z N l * T l + ext z N (opp l) * T (opp l)

/-- A difference from a sum with the negative, under a factor. -/
theorem core_sub {a n b c s g1 g2 v : EReal} (h : Opp n b) (hv : ∃ r : ℝ, 0 ≤ r ∧ v = r) (hb : b = ⊥ → v = 0) :
    (a * (c * g1) + n * (s * g2)) * v = a * v * g1 * c - b * v * g2 * s := by
  rcases h with rfl | ⟨rfl, h⟩
  · obtain ⟨r, hr, rfl⟩ := hv
    rw [EReal.right_distrib_of_nonneg_of_ne_top (by exact_mod_cast hr) (EReal.coe_ne_top r), sub_eq_add_neg, neg_mul, neg_mul]
    exact congrArg₂ (fun x y : EReal => x + -y) (by ac_rfl) (by ac_rfl)
  · rw [hb h]
    simp

/-- A sum under a factor. -/
theorem core_add {a b c s g1 g2 v : EReal} (hv : ∃ r : ℝ, 0 ≤ r ∧ v = r) :
    (b * (c * g2) + a * (s * g1)) * v = b * v * g2 * c + a * v * g1 * s := by
  obtain ⟨r, hr, rfl⟩ := hv
  rw [EReal.right_distrib_of_nonneg_of_ne_top (by exact_mod_cast hr) (EReal.coe_ne_top r)]
  exact congrArg₂ (fun x y : EReal => x + y) (by ac_rfl) (by ac_rfl)

section turns

variable (z g : Fin 192 → EReal) (N : Fin 32 → EReal) (C S : Fin 32 → EReal)

/-- The first half of the doubled columns. -/
theorem ext_lo (l : Fin 64) : ext z N ⟨l, by omega⟩ = z ⟨128 + l, by omega⟩ := dif_pos (by show (l : ℕ) < 64; omega)

/-- The third quarter of the doubled columns. -/
theorem ext_neg (l : Fin 64) (h : (l : ℕ) < 32) : ext z N ⟨64 + l, by omega⟩ = N ⟨l, h⟩ :=
  (dif_neg (by show ¬ 64 + (l : ℕ) < 64; omega)).trans ((dif_pos (by show 64 + (l : ℕ) < 96; omega)).trans
    (congrArg N (Fin.ext (by show 64 + (l : ℕ) - 64 = l; omega))))

/-- The last quarter of the doubled columns. -/
theorem ext_hi (l : Fin 64) (h : ¬ (l : ℕ) < 32) : ext z N ⟨64 + l, by omega⟩ = z ⟨96 + l, by omega⟩ :=
  (dif_neg (by show ¬ 64 + (l : ℕ) < 64; omega)).trans ((dif_neg (by show ¬ 64 + (l : ℕ) < 96; omega)).trans
    (congrArg z (Fin.ext (by show 32 + (64 + (l : ℕ)) = 96 + l; omega))))

/-- The column opposite to one in the first half. -/
theorem opp_lo (l : Fin 64) : opp ⟨l, by omega⟩ = ⟨64 + l, by omega⟩ :=
  Fin.ext (by show ((l : ℕ) + 128 - 64) % 128 = 64 + l; omega)

/-- The column opposite to one in the second half. -/
theorem opp_hi (l : Fin 64) : opp ⟨64 + l, by omega⟩ = ⟨l, by omega⟩ :=
  Fin.ext (by show (64 + (l : ℕ) + 128 - 64) % 128 = l; omega)

/-- The rotation by a sum with the opposite column, the norm's factor applied afterwards. -/
theorem pair_lo (hN : ∀ j : Fin 32, Opp (N j) (z ⟨160 + j, by omega⟩)) (l : Fin 64) :
    pair z N (tab g C S) ⟨l, by omega⟩ * fac n192 z = turn (rms n192 z g) C S l := by
  have t1 : tab g C S ⟨l, by omega⟩ = C ⟨l % 32, by omega⟩ * g ⟨128 + l, by omega⟩ := by
    unfold tab
    rw [if_pos (show (l : ℕ) < 64 by omega), ext_lo]
  unfold pair turn
  rw [opp_lo, ext_lo, t1]
  by_cases h : (l : ℕ) < 32
  · have t2 : tab g C S ⟨64 + l, by omega⟩ = S ⟨(64 + l) % 32, by omega⟩ * g ⟨160 + l, by omega⟩ := by
      unfold tab
      rw [if_neg (show ¬ 64 + (l : ℕ) < 64 by omega), ext_neg _ _ l h]
    have c1 : (⟨(l : ℕ) % 32, by omega⟩ : Fin 32) = ⟨l, h⟩ := Fin.ext (Nat.mod_eq_of_lt h)
    have c2 : (⟨(64 + (l : ℕ)) % 32, by omega⟩ : Fin 32) = ⟨l, h⟩ := Fin.ext (by simp only; omega)
    rw [dif_pos h, t2, ext_neg _ _ l h, c1, c2]
    exact core_sub (hN ⟨l, h⟩) (fac_real z) (fac_bot z _)
  · have t2 : tab g C S ⟨64 + l, by omega⟩ = S ⟨(64 + l) % 32, by omega⟩ * g ⟨96 + l, by omega⟩ := by
      unfold tab
      rw [if_neg (show ¬ 64 + (l : ℕ) < 64 by omega), ext_hi _ _ l h]
    have c1 : (⟨(l : ℕ) % 32, by omega⟩ : Fin 32) = ⟨l - 32, by omega⟩ := Fin.ext (by simp only; omega)
    have c2 : (⟨(64 + (l : ℕ)) % 32, by omega⟩ : Fin 32) = ⟨l - 32, by omega⟩ := Fin.ext (by simp only; omega)
    rw [dif_neg h, t2, ext_hi _ _ l h, c1, c2]
    exact core_add (fac_real z)

/-- The rotation by a sum with the opposite column, in every lane. -/
theorem pair_turn (hN : ∀ j : Fin 32, Opp (N j) (z ⟨160 + j, by omega⟩)) (l : Fin 128) :
    pair z N (tab g C S) l * fac n192 z = turn (rms n192 z g) C S ⟨l % 64, by omega⟩ := by
  by_cases h : (l : ℕ) < 64
  · have e : (⟨(l : ℕ) % 64, by omega⟩ : Fin 64) = ⟨l, h⟩ := Fin.ext (Nat.mod_eq_of_lt h)
    rw [e]
    exact pair_lo z g N C S hN ⟨l, h⟩
  · have e : (⟨(l : ℕ) % 64, by omega⟩ : Fin 64) = ⟨l - 64, by omega⟩ := Fin.ext (by simp only; omega)
    have e2 : l = ⟨64 + ((⟨l - 64, by omega⟩ : Fin 64) : ℕ), by omega⟩ := Fin.ext (by simp only; omega)
    rw [e, ← pair_lo z g N C S hN ⟨l - 64, by omega⟩]
    refine congrArg (fun x : EReal => x * fac n192 z) ?_
    unfold pair
    rw [opp_lo]
    conv_lhs => rw [e2, opp_hi]
    exact add_comm _ _

end turns

/-- The scale of the scores in base-two units. -/
def sc : EReal := (((Real.sqrt 192)⁻¹ * (Real.log 2)⁻¹ : ℝ) : EReal)

/-- The scale by a quotient by the root and a quotient by the logarithm. -/
theorem div_scale (x : EReal) :
    Ideal.div (Ideal.div x (Ideal.sqrt n192)) (Ideal.log (Ideal.ofBits .f32 0x40000000#32)) = x * sc := by
  have h1 : Ideal.sqrt n192 = ((Real.sqrt 192 : ℝ) : EReal) := by
    rw [ofBits_192]
    exact if_neg (by norm_num)
  have h2 : Ideal.log (Ideal.ofBits .f32 0x40000000#32) = ((Real.log 2 : ℝ) : EReal) := by
    rw [ofBits_two]
    exact if_neg (by norm_num)
  have hs : Real.sqrt 192 ≠ 0 := (Real.sqrt_pos.2 (by norm_num)).ne'
  have hl : Real.log 2 ≠ 0 := (Real.log_pos (by norm_num)).ne'
  rw [h1, h2, Ideal.div_coe hs, Ideal.div_coe hl, mul_assoc, ← EReal.coe_mul, one_div, one_div]
  rfl

/-- A query's lane: plain, rotated, rotated again; scaled. -/
def qlane (z g : Fin 192 → EReal) (C S : Fin 32 → EReal) (l : Fin 256) : EReal :=
  Ideal.div (Ideal.div (if h : (l : ℕ) < 128 then rms n192 z g ⟨l, by omega⟩ else turn (rms n192 z g) C S ⟨l % 64, by omega⟩)
    (Ideal.sqrt n192)) (Ideal.log (Ideal.ofBits .f32 0x40000000#32))

/-- A key's lane: plain, rotated, zero. -/
def klane (z g : Fin 192 → EReal) (C S : Fin 32 → EReal) (l : Fin 256) : EReal :=
  if h : (l : ℕ) < 128 then rms n192 z g ⟨l, by omega⟩
  else if (l : ℕ) < 192 then turn (rms n192 z g) C S ⟨l % 64, by omega⟩ else 0

/-- What a row of the projections is made from: the row, the weights and gains, the position's cosines and sines. -/
structure Data where
  /-- the row -/
  x : Fin 1024 → EReal
  /-- the row's gain -/
  mg : Fin 1024 → EReal
  /-- the weights of the first projection -/
  w : Fin 1024 → Fin 704 → EReal
  /-- the latent query's gain -/
  qa : Fin 384 → EReal
  /-- the latent key's gain -/
  kva : Fin 256 → EReal
  /-- the weights of the queries -/
  uq : Fin 384 → Fin 1536 → EReal
  /-- the weights of the keys and values -/
  ukv : Fin 256 → Fin 2048 → EReal
  /-- the queries' gain -/
  qn : Fin 192 → EReal
  /-- the keys' gain -/
  kn : Fin 192 → EReal
  /-- the cosines -/
  C : Fin 32 → EReal
  /-- the sines -/
  S : Fin 32 → EReal

variable (R : Data)

/-- The first projection. -/
def Data.P (j : Fin 704) : EReal := Row.normed R.x R.mg fun k => R.w k j

/-- The latent query. -/
def Data.cq : Fin 384 → EReal := rms n384 (fun k : Fin 384 => R.P ⟨k, by omega⟩) R.qa

/-- The latent key. -/
def Data.ckv : Fin 256 → EReal := rms n256 (fun k : Fin 256 => R.P ⟨384 + k, by omega⟩) R.kva

/-- A head of the queries before its norm. -/
def Data.qhead (h : Fin 8) (d : Fin 192) : EReal := ∑ k, R.cq k * R.uq k ⟨192 * h + d, by omega⟩

/-- A head of the keys before its norm. -/
def Data.khead (h : Fin 8) (d : Fin 192) : EReal :=
  if (d : ℕ) < 128 then ∑ k, R.ckv k * R.ukv k ⟨256 * h + d, by omega⟩ else R.P ⟨512 + d, by omega⟩

/-- The queries. -/
def Data.q (h : Fin 8) : Fin 256 → EReal := qlane (R.qhead h) R.qn R.C R.S

/-- The keys. -/
def Data.k (h : Fin 8) : Fin 256 → EReal := klane (R.khead h) R.kn R.C R.S

/-- The values. -/
def Data.v (h : Fin 8) (d : Fin 128) : EReal := ∑ k, R.ckv k * R.ukv k ⟨256 * h + 128 + d, by omega⟩

end Cert.Mla

end
-- ==== Proof.Mla.Steps.lean ====
/- What the attention's projections compute on a block of rows, read at an index. -/
module

public import proofs.«01_k».proof.Proof.Gen.Kernel5Ideal.Frame
public import proofs.«01_k».proof.Proof.Mla.Row
public import proofs.«01_k».proof.Proof.Proj.Body

@[expose] public section

set_option maxRecDepth 16384

noncomputable section

namespace Cert.Mla

open Idealize.ShloMosaic Idealize.ShloMosaic.TcCoe Idealize.SL.Sem Finset
open Cert.Kernel5Ideal Cert.Kernel5Ideal.Gen

/-- The named reciprocal of 384. -/
theorem named_384 : (Named.named Cert.Kernel5Ideal.κ "inv_384" 0x3B2AAAAB#32 : Ideal .f32) = ((1 / 384 : ℝ) : EReal) :=
  IdealRules.named_const.ideal_named_scalar _ _ _ _ rfl

/-- The named reciprocal of 192. -/
theorem named_192 : (Named.named Cert.Kernel5Ideal.κ "inv_192" 0x3BAAAAAB#32 : Ideal .f32) = ((1 / 192 : ℝ) : EReal) :=
  IdealRules.named_const.ideal_named_scalar _ _ _ _ rfl

/-- The named scale. -/
theorem named_scale : (Named.named Cert.Kernel5Ideal.κ "scale" 0x3DD53B95#32 : Ideal .f32) = sc :=
  IdealRules.named_const.ideal_named_scalar _ _ _ _ rfl

/-- The rows' factors from sums of squares and a reciprocal. -/
def fct (r : Ideal .f32) (s : FVec Ideal S512x128 .f32) : FVec Ideal S512x128 .f32 :=
  rsqrt (addf (mulf s (broadcast S512x128 r)) (broadcast S512x128 (Scalar.ofBits .f32 0x358637BD#32)))

/-- The rows' factors from sums of squares and a reciprocal, read at an index. -/
theorem fct_apply (r : Ideal .f32) (s : FVec Ideal S512x128 .f32) (i : Fin 512) (l : Fin 128) :
    fct r s (ix2 i l) = Ideal.rsqrt (s (ix2 i l) * r + eps) := by
  pointwise [fct]

/-- The factors of the rows, from their sums of squares. -/
def inv1024 (x : FVec Ideal S512x1024 .f32) : FVec Ideal S512x128 .f32 :=
  fct (Scalar.ofBits .f32 0x3A800000#32) (matmul dot_S512x1024_S1024x128_S512x128_1_0_0_1_n_n none (truncf .bf16 (mulf x x) bitsLt_bf16_f32)
    (broadcast S1024x128 (Scalar.ofBits .bf16 0x3F80#16)) (constant S512x128 .f32 0x00000000#32))

/-- The factors of the rows, from their sums of squares, read at an index. -/
theorem inv1024_apply (x : FVec Ideal S512x1024 .f32) (i : Fin 512) (l : Fin 128) :
    inv1024 x (ix2 i l) = Row.inv fun k => x (ix2 i k) := by
  have e : matmul dot_S512x1024_S1024x128_S512x128_1_0_0_1_n_n none (truncf .bf16 (mulf x x) bitsLt_bf16_f32)
      (broadcast S1024x128 (Scalar.ofBits .bf16 0x3F80#16)) (constant S512x128 .f32 0x00000000#32) (ix2 i l)
      = ∑ k : Fin 1024, x (ix2 i k) * x (ix2 i k) := by
    pointwise
  unfold inv1024
  rw [fct_apply, e]
  refine (congrArg (fun r : EReal => Ideal.rsqrt (_ * r + eps)) ofBits_inv1024).trans ((rsqrt_recip (by norm_num) _ _).trans ?_)
  unfold Row.inv
  rw [Row.ofBits_1024]

/-- The rows projected. -/
def projT (x : FVec Ideal S512x1024 .f32) (g : FVec Ideal S1x1024 .f32) (w : FVec Ideal S1024x768 .bf16) : FVec Ideal S512x768 .f32 :=
  mulf (matmul dot_S512x1024_S1024x768_S512x768_1_0_0_1_n_n none
      (truncf .bf16 (mulf (shapeCast S512x1024 x shapeCasts_S512x1024_S512x1024)
        (broadcastTo S512x1024 (shapeCast S1x1024 g shapeCasts_S1x1024_S1x1024) broadcasts_S1x1024_S512x1024)) bitsLt_bf16_f32)
      (shapeCast S1024x768 w shapeCasts_S1024x768_S1024x768) (constant S512x768 .f32 0x00000000#32))
    (concatenate S512x768 1 [⟨S512x128, inv1024 (shapeCast S512x1024 x shapeCasts_S512x1024_S512x1024)⟩,
        ⟨S512x128, inv1024 (shapeCast S512x1024 x shapeCasts_S512x1024_S512x1024)⟩,
        ⟨S512x128, inv1024 (shapeCast S512x1024 x shapeCasts_S512x1024_S512x1024)⟩,
        ⟨S512x128, inv1024 (shapeCast S512x1024 x shapeCasts_S512x1024_S512x1024)⟩,
        ⟨S512x128, inv1024 (shapeCast S512x1024 x shapeCasts_S512x1024_S512x1024)⟩,
        ⟨S512x128, inv1024 (shapeCast S512x1024 x shapeCasts_S512x1024_S512x1024)⟩]
      concatenates_S512x128_S512x128_S512x128_S512x128_S512x128_S512x128_S512x768_d1)

/-- The rows projected, read at an index. -/
theorem projT_apply (x : FVec Ideal S512x1024 .f32) (g : FVec Ideal S1x1024 .f32) (w : FVec Ideal S1024x768 .bf16) (i : Fin 512) (j : Fin 768) :
    projT x g w (ix2 i j) = Row.normed (fun k => x (ix2 i k)) (fun k => g (ix2 0 k)) fun k => w (ix2 k j) := by
  have hl : ∀ l, inv1024 (shapeCast S512x1024 x shapeCasts_S512x1024_S512x1024) (ix2 i l) = Row.inv fun k => x (ix2 i k) := by
    intro l
    rw [inv1024_apply]
    refine congrArg Row.inv (funext fun k => ?_)
    pointwise
  refine Eq.trans ?_ (Row.normed_eq _ _ _)
  unfold projT
  generalize inv1024 (shapeCast S512x1024 x shapeCasts_S512x1024_S512x1024) = L at *
  refine congrArg₂ (fun a b : EReal => a * b) ?_ ?_
  · pointwise
  · pointwise
    split_ifs <;> exact hl _

/-- The latent queries. -/
def latQ (p : FVec Ideal S512x768 .f32) (g : FVec Ideal S1x384 .f32) : FVec Ideal S512x384 .bf16 :=
  truncf .bf16 (mulf (mulf (extractStridedSlice S512x384 ![0, 0] p slices_S512x768_o0_0_S512x384)
      (concatenate S512x384 1 [⟨S512x128, fct (Named.named Cert.Kernel5Ideal.κ "inv_384" 0x3B2AAAAB#32)
          (matmul dot_S512x384_S384x128_S512x128_1_0_0_1_n_n none (truncf .bf16 (mulf (extractStridedSlice S512x384 ![0, 0] p slices_S512x768_o0_0_S512x384)
            (extractStridedSlice S512x384 ![0, 0] p slices_S512x768_o0_0_S512x384)) bitsLt_bf16_f32)
          (broadcast S384x128 (Scalar.ofBits .bf16 0x3F80#16)) (constant S512x128 .f32 0x00000000#32))⟩,
        ⟨S512x128, fct (Named.named Cert.Kernel5Ideal.κ "inv_384" 0x3B2AAAAB#32)
          (matmul dot_S512x384_S384x128_S512x128_1_0_0_1_n_n none (truncf .bf16 (mulf (extractStridedSlice S512x384 ![0, 0] p slices_S512x768_o0_0_S512x384)
            (extractStridedSlice S512x384 ![0, 0] p slices_S512x768_o0_0_S512x384)) bitsLt_bf16_f32)
          (broadcast S384x128 (Scalar.ofBits .bf16 0x3F80#16)) (constant S512x128 .f32 0x00000000#32))⟩,
        ⟨S512x128, fct (Named.named Cert.Kernel5Ideal.κ "inv_384" 0x3B2AAAAB#32)
          (matmul dot_S512x384_S384x128_S512x128_1_0_0_1_n_n none (truncf .bf16 (mulf (extractStridedSlice S512x384 ![0, 0] p slices_S512x768_o0_0_S512x384)
            (extractStridedSlice S512x384 ![0, 0] p slices_S512x768_o0_0_S512x384)) bitsLt_bf16_f32)
          (broadcast S384x128 (Scalar.ofBits .bf16 0x3F80#16)) (constant S512x128 .f32 0x00000000#32))⟩]
        concatenates_S512x128_S512x128_S512x128_S512x384_d1))
    (broadcastTo S512x384 (shapeCast S1x384 g shapeCasts_S1x384_S1x384) broadcasts_S1x384_S512x384)) bitsLt_bf16_f32

/-- The latent queries, read at an index. -/
theorem latQ_apply (p : FVec Ideal S512x768 .f32) (g : FVec Ideal S1x384 .f32) (i : Fin 512) (k : Fin 384) :
    latQ p g (ix2 i k) = rms n384 (fun k : Fin 384 => p (ix2 i ⟨k, by omega⟩)) (fun k => g (ix2 0 k)) k := by
  have hz : ∀ k : Fin 384, extractStridedSlice S512x384 ![0, 0] p slices_S512x768_o0_0_S512x384 (ix2 i k) = p (ix2 i ⟨k, by omega⟩) := by
    intro k
    pointwise
  unfold latQ
  generalize extractStridedSlice S512x384 ![0, 0] p slices_S512x768_o0_0_S512x384 = z at *
  have hs : ∀ l, matmul dot_S512x384_S384x128_S512x128_1_0_0_1_n_n none (truncf .bf16 (mulf z z) bitsLt_bf16_f32)
      (broadcast S384x128 (Scalar.ofBits .bf16 0x3F80#16)) (constant S512x128 .f32 0x00000000#32) (ix2 i l)
      = ∑ k : Fin 384, z (ix2 i k) * z (ix2 i k) := by
    intro l
    pointwise
  have hf : ∀ l, fct (Named.named Cert.Kernel5Ideal.κ "inv_384" 0x3B2AAAAB#32) (matmul dot_S512x384_S384x128_S512x128_1_0_0_1_n_n none
      (truncf .bf16 (mulf z z) bitsLt_bf16_f32) (broadcast S384x128 (Scalar.ofBits .bf16 0x3F80#16)) (constant S512x128 .f32 0x00000000#32)) (ix2 i l)
      = fac n384 fun k : Fin 384 => z (ix2 i k) := by
    intro l
    rw [fct_apply, hs, named_384, rsqrt_recip (by norm_num), fac, ofBits_384]
  generalize fct (Named.named Cert.Kernel5Ideal.κ "inv_384" 0x3B2AAAAB#32) _ = L at hf ⊢
  have e : rms n384 (fun k : Fin 384 => p (ix2 i ⟨k, by omega⟩)) (fun k => g (ix2 0 k)) k
      = z (ix2 i k) * (fac n384 fun k : Fin 384 => z (ix2 i k)) * g (ix2 0 k) := by
    unfold rms
    simp only [hz]
  rw [e]
  refine congrArg₂ (fun a b : EReal => a * b) (congrArg (fun b : EReal => z (ix2 i k) * b) ?_) ?_
  · pointwise
    split_ifs <;> exact hf _
  · pointwise

/-- The latent keys. -/
def latK (p : FVec Ideal S512x768 .f32) (g : FVec Ideal S1x256 .f32) : FVec Ideal S512x256 .bf16 :=
  truncf .bf16 (mulf (mulf (extractStridedSlice S512x256 ![0, 384] p slices_S512x768_o0_384_S512x256)
      (concatenate S512x256 1 [⟨S512x128, fct (Scalar.ofBits .f32 0x3B800000#32)
          (matmul dot_S512x256_S256x128_S512x128_1_0_0_1_n_n none (truncf .bf16 (mulf (extractStridedSlice S512x256 ![0, 384] p slices_S512x768_o0_384_S512x256)
            (extractStridedSlice S512x256 ![0, 384] p slices_S512x768_o0_384_S512x256)) bitsLt_bf16_f32)
          (broadcast S256x128 (Scalar.ofBits .bf16 0x3F80#16)) (constant S512x128 .f32 0x00000000#32))⟩,
        ⟨S512x128, fct (Scalar.ofBits .f32 0x3B800000#32)
          (matmul dot_S512x256_S256x128_S512x128_1_0_0_1_n_n none (truncf .bf16 (mulf (extractStridedSlice S512x256 ![0, 384] p slices_S512x768_o0_384_S512x256)
            (extractStridedSlice S512x256 ![0, 384] p slices_S512x768_o0_384_S512x256)) bitsLt_bf16_f32)
          (broadcast S256x128 (Scalar.ofBits .bf16 0x3F80#16)) (constant S512x128 .f32 0x00000000#32))⟩]
        concatenates_S512x128_S512x128_S512x256_d1))
    (broadcastTo S512x256 (shapeCast S1x256 g shapeCasts_S1x256_S1x256) broadcasts_S1x256_S512x256)) bitsLt_bf16_f32

/-- The latent keys, read at an index. -/
theorem latK_apply (p : FVec Ideal S512x768 .f32) (g : FVec Ideal S1x256 .f32) (i : Fin 512) (k : Fin 256) :
    latK p g (ix2 i k) = rms n256 (fun k : Fin 256 => p (ix2 i ⟨384 + k, by omega⟩)) (fun k => g (ix2 0 k)) k := by
  have hz : ∀ k : Fin 256, extractStridedSlice S512x256 ![0, 384] p slices_S512x768_o0_384_S512x256 (ix2 i k) = p (ix2 i ⟨384 + k, by omega⟩) := by
    intro k
    pointwise
  unfold latK
  generalize extractStridedSlice S512x256 ![0, 384] p slices_S512x768_o0_384_S512x256 = z at *
  have hs : ∀ l, matmul dot_S512x256_S256x128_S512x128_1_0_0_1_n_n none (truncf .bf16 (mulf z z) bitsLt_bf16_f32)
      (broadcast S256x128 (Scalar.ofBits .bf16 0x3F80#16)) (constant S512x128 .f32 0x00000000#32) (ix2 i l)
      = ∑ k : Fin 256, z (ix2 i k) * z (ix2 i k) := by
    intro l
    pointwise
  have hf : ∀ l, fct (Scalar.ofBits .f32 0x3B800000#32) (matmul dot_S512x256_S256x128_S512x128_1_0_0_1_n_n none
      (truncf .bf16 (mulf z z) bitsLt_bf16_f32) (broadcast S256x128 (Scalar.ofBits .bf16 0x3F80#16)) (constant S512x128 .f32 0x00000000#32)) (ix2 i l)
      = fac n256 fun k : Fin 256 => z (ix2 i k) := by
    intro l
    rw [fct_apply, hs]
    refine (congrArg (fun r : EReal => Ideal.rsqrt (_ * r + eps)) ofBits_inv256).trans ((rsqrt_recip (by norm_num) _ _).trans ?_)
    rw [fac, ofBits_256]
  generalize fct (Scalar.ofBits .f32 0x3B800000#32) _ = L at hf ⊢
  have e : rms n256 (fun k : Fin 256 => p (ix2 i ⟨384 + k, by omega⟩)) (fun k => g (ix2 0 k)) k
      = z (ix2 i k) * (fac n256 fun k : Fin 256 => z (ix2 i k)) * g (ix2 0 k) := by
    unfold rms
    simp only [hz]
  rw [e]
  refine congrArg₂ (fun a b : EReal => a * b) (congrArg (fun b : EReal => z (ix2 i k) * b) ?_) ?_
  · pointwise
    split_ifs <;> exact hf _
  · pointwise

/-- The keys' doubled rotated columns before their norm. -/
def keyR (p : FVec Ideal S512x768 .f32) : FVec Ideal S512x128 .f32 :=
  extractStridedSlice S512x128 ![0, 640] p slices_S512x768_o0_640_S512x128

/-- The keys' doubled rotated columns before their norm, read at an index. -/
theorem keyR_apply (p : FVec Ideal S512x768 .f32) (i : Fin 512) (l : Fin 128) : keyR p (ix2 i l) = p (ix2 i ⟨640 + l, by omega⟩) := by
  pointwise [keyR]

/-- Columns times a table, with the opposite columns. -/
def both (r T : FVec Ideal S512x128 .f32) : FVec Ideal S512x128 .f32 :=
  addf (mulf r (shapeCast S512x128 T shapeCasts_S512x128_S512x128))
    (dynamicRotate 1 64#32 none (mulf r (shapeCast S512x128 T shapeCasts_S512x128_S512x128)) rotates_S512x128_d1)

/-- Columns times a table, with the opposite columns, read at an index. -/
theorem both_apply (r T : FVec Ideal S512x128 .f32) (i : Fin 512) (l : Fin 128) :
    both r T (ix2 i l) = r (ix2 i l) * T (ix2 i l) + r (ix2 i (opp l)) * T (ix2 i (opp l)) := by
  unfold opp
  pointwise [both]

/-- The keys' rotated columns, the second half zero. -/
def keyRot (f : FVec Ideal S1x128 .f32) (r T : FVec Ideal S512x128 .f32) : FVec Ideal S512x128 .f32 :=
  mulf (both r T) (broadcastTo S512x128 f broadcasts_S1x128_S512x128)

/-- The keys' rotated columns, the second half zero, read at an index. -/
theorem keyRot_apply (f : FVec Ideal S1x128 .f32) (r T : FVec Ideal S512x128 .f32) (i : Fin 512) (l : Fin 128) :
    keyRot f r T (ix2 i l) = both r T (ix2 i l) * f (ix2 0 l) := by
  unfold keyRot
  generalize both r T = z
  pointwise

/-- The mask of the first half. -/
theorem first_apply (l : Fin 128) : k0_pay6 (F := Ideal) (ix2 0 l) = if (l : ℕ) < 64 then 1 else 0 := by
  have e : ∀ l : Fin 128, BitVec.setWidth 32 (IntOp.cmpi CmpIPredicate.slt (BitVec.ofNat 32 l) 64#32) = if (l : ℕ) < 64 then 1#32 else 0#32 := by
    decide +kernel
  pointwise [k0_pay6]
  rw [e]
  by_cases h : (l : ℕ) < 64
  · rw [if_pos h, if_pos h]
    show (((1#32 : BitVec 32).toInt : ℝ) : EReal) = 1
    simp
  · rw [if_neg h, if_neg h]
    show (((0#32 : BitVec 32).toInt : ℝ) : EReal) = 0
    simp

/-- The sum of the doubled columns' squares. -/
def keySs (r : FVec Ideal S512x128 .f32) : FVec Ideal S512x128 .f32 :=
  matmul dot_S512x128_S128x128_S512x128_1_0_0_1_n_n none (truncf .bf16 (mulf r r) bitsLt_bf16_f32)
    (broadcast S128x128 (Scalar.ofBits .bf16 0x3F00#16)) (constant S512x128 .f32 0x00000000#32)

/-- The sum of the doubled columns' squares, read at an index. -/
theorem keySs_apply (r : FVec Ideal S512x128 .f32) (i : Fin 512) (l : Fin 128) :
    keySs r (ix2 i l) = ∑ k : Fin 128, r (ix2 i k) * r (ix2 i k) * ((1 / 2 : ℝ) : EReal) := by
  rw [← ofBits_half_bf16]
  pointwise [keySs]

/-- A head of the queries before its norm. -/
def upQ (c : FVec Ideal S512x384 .bf16) (w : FVec Ideal S384x256 .bf16) : FVec Ideal S512x256 .f32 :=
  matmul dot_S512x384_S384x256_S512x256_1_0_0_1_n_n none c (shapeCast S384x256 w shapeCasts_S384x256_S384x256)
    (constant S512x256 .f32 0x00000000#32)

/-- A head of the queries before its norm, read at an index. -/
theorem upQ_apply (c : FVec Ideal S512x384 .bf16) (w : FVec Ideal S384x256 .bf16) (i : Fin 512) (j : Fin 256) :
    upQ c w (ix2 i j) = ∑ k : Fin 384, c (ix2 i k) * w (ix2 k j) := by
  pointwise [upQ]

/-- A head of the keys and the values before the norm. -/
def upK (c : FVec Ideal S512x256 .bf16) (w : FVec Ideal S256x256 .bf16) : FVec Ideal S512x256 .f32 :=
  matmul dot_S512x256_S256x256_S512x256_1_0_0_1_n_n none c (shapeCast S256x256 w shapeCasts_S256x256_S256x256)
    (constant S512x256 .f32 0x00000000#32)

/-- A head of the keys and the values before the norm, read at an index. -/
theorem upK_apply (c : FVec Ideal S512x256 .bf16) (w : FVec Ideal S256x256 .bf16) (i : Fin 512) (j : Fin 256) :
    upK c w (ix2 i j) = ∑ k : Fin 256, c (ix2 i k) * w (ix2 k j) := by
  pointwise [upK]

/-- A head's first columns. -/
def lft (u : FVec Ideal S512x256 .f32) : FVec Ideal S512x128 .f32 := extractStridedSlice S512x128 ![0, 0] u slices_S512x256_o0_0_S512x128

/-- A head's first columns, read at an index. -/
theorem lft_apply (u : FVec Ideal S512x256 .f32) (i : Fin 512) (l : Fin 128) : lft u (ix2 i l) = u (ix2 i ⟨l, by omega⟩) := by
  pointwise [lft]

/-- A head's last columns. -/
def rgt (u : FVec Ideal S512x256 .f32) : FVec Ideal S512x128 .f32 := extractStridedSlice S512x128 ![0, 128] u slices_S512x256_o0_128_S512x128

/-- A head's last columns, read at an index. -/
theorem rgt_apply (u : FVec Ideal S512x256 .f32) (i : Fin 512) (l : Fin 128) : rgt u (ix2 i l) = u (ix2 i ⟨128 + l, by omega⟩) := by
  pointwise [rgt]

/-- The factors of a head of the queries, with the scale. -/
def qInv (u : FVec Ideal S512x256 .f32) : FVec Ideal S512x128 .f32 :=
  mulf (fct (Named.named Cert.Kernel5Ideal.κ "inv_192" 0x3BAAAAAB#32)
      (matmul dot_S512x256_S256x128_S512x128_1_0_0_1_n_n none (truncf .bf16 (mulf u u) bitsLt_bf16_f32)
        (concatenate S256x128 0 [⟨S128x128, broadcast S128x128 (Scalar.ofBits .bf16 0x3F80#16)⟩,
          ⟨S128x128, broadcast S128x128 (Scalar.ofBits .bf16 0x3F00#16)⟩] concatenates_S128x128_S128x128_S256x128_d0)
        (constant S512x128 .f32 0x00000000#32)))
    (broadcast S512x128 (Named.named Cert.Kernel5Ideal.κ "scale" 0x3DD53B95#32))

/-- The factors of a head of the queries, with the scale, read at an index. -/
theorem qInv_apply (u : FVec Ideal S512x256 .f32) (i : Fin 512) (l : Fin 128) (z : Fin 192 → EReal) (N : Fin 32 → EReal)
    (hN : ∀ j : Fin 32, Opp (N j) (z ⟨160 + j, by omega⟩)) (h1 : ∀ d : Fin 128, u (ix2 i ⟨d, by omega⟩) = z ⟨d, by omega⟩)
    (h2 : ∀ d : Fin 128, u (ix2 i ⟨128 + d, by omega⟩) = ext z N d) : qInv u (ix2 i l) = fac n192 z * sc := by
  have hs : matmul dot_S512x256_S256x128_S512x128_1_0_0_1_n_n none (truncf .bf16 (mulf u u) bitsLt_bf16_f32)
        (concatenate S256x128 0 [⟨S128x128, broadcast S128x128 (Scalar.ofBits .bf16 0x3F80#16)⟩,
          ⟨S128x128, broadcast S128x128 (Scalar.ofBits .bf16 0x3F00#16)⟩] concatenates_S128x128_S128x128_S256x128_d0)
        (constant S512x128 .f32 0x00000000#32) (ix2 i l) = ∑ d, z d * z d := by
    have e : matmul dot_S512x256_S256x128_S512x128_1_0_0_1_n_n none (truncf .bf16 (mulf u u) bitsLt_bf16_f32)
        (concatenate S256x128 0 [⟨S128x128, broadcast S128x128 (Scalar.ofBits .bf16 0x3F80#16)⟩,
          ⟨S128x128, broadcast S128x128 (Scalar.ofBits .bf16 0x3F00#16)⟩] concatenates_S128x128_S128x128_S256x128_d0)
        (constant S512x128 .f32 0x00000000#32) (ix2 i l)
        = ∑ k : Fin 256, u (ix2 i k) * u (ix2 i k) * if (k : ℕ) < 128 then 1 else Ideal.ofBits .bf16 0x3F00#16 := by
      pointwise
    rw [e, sum_256, sum_192]
    refine congrArg₂ (fun a b : EReal => a + b) (sum_congr rfl fun d _ => ?_) ?_
    · rw [if_pos (show (d : ℕ) < 128 by omega), h1, mul_one]
    · refine (sum_congr rfl fun d _ => ?_).trans (sumsq_ext z N hN)
      rw [if_neg (show ¬ 128 + (d : ℕ) < 128 by omega), h2, ofBits_half_bf16]
  have hf := fct_apply (Named.named Cert.Kernel5Ideal.κ "inv_192" 0x3BAAAAAB#32) _ i l |>.trans
    (congrArg (fun s : EReal => Ideal.rsqrt (s * (Named.named Cert.Kernel5Ideal.κ "inv_192" 0x3BAAAAAB#32 : Ideal .f32) + eps)) hs)
  refine congrArg₂ (fun a b : EReal => a * b) (hf.trans ?_) named_scale
  rw [named_192, rsqrt_recip (by norm_num), fac, ofBits_192]

/-- The plain columns of the queries. -/
def qPlain (v : FVec Ideal S512x128 .f32) (u : FVec Ideal S512x256 .f32) (g : FVec Ideal S1x128 .f32) : FVec Ideal S512x128 .bf16 :=
  truncf .bf16 (mulf (mulf (lft u) v) (broadcastTo S512x128 g broadcasts_S1x128_S512x128)) bitsLt_bf16_f32

/-- The plain columns of the queries, read at an index. -/
theorem qPlain_apply (v : FVec Ideal S512x128 .f32) (u : FVec Ideal S512x256 .f32) (g : FVec Ideal S1x128 .f32) (i : Fin 512) (l : Fin 128) :
    qPlain v u g (ix2 i l) = u (ix2 i ⟨l, by omega⟩) * v (ix2 i l) * g (ix2 0 l) := by
  rw [← lft_apply u i l]
  unfold qPlain
  generalize lft u = z
  pointwise

/-- The rotated columns of the queries. -/
def qTurn (v : FVec Ideal S512x128 .f32) (u : FVec Ideal S512x256 .f32) (T : FVec Ideal S512x128 .f32) : FVec Ideal S512x128 .bf16 :=
  truncf .bf16 (mulf (both (rgt u) T) v) bitsLt_bf16_f32

/-- The factors of a head of the keys. -/
def kInv (u : FVec Ideal S512x256 .f32) (s : FVec Ideal S512x128 .f32) : FVec Ideal S512x128 .f32 :=
  fct (Named.named Cert.Kernel5Ideal.κ "inv_192" 0x3BAAAAAB#32)
    (addf (matmul dot_S512x128_S128x128_S512x128_1_0_0_1_n_n none (truncf .bf16 (mulf (lft u) (lft u)) bitsLt_bf16_f32)
      (broadcast S128x128 (Scalar.ofBits .bf16 0x3F80#16)) (constant S512x128 .f32 0x00000000#32)) s)

/-- The factors of a head of the keys, read at an index. -/
theorem kInv_apply (u : FVec Ideal S512x256 .f32) (s : FVec Ideal S512x128 .f32) (i : Fin 512) (l : Fin 128) (z : Fin 192 → EReal)
    (h1 : ∀ d : Fin 128, u (ix2 i ⟨d, by omega⟩) = z ⟨d, by omega⟩)
    (h2 : s (ix2 i l) = ∑ d : Fin 64, z ⟨128 + d, by omega⟩ * z ⟨128 + d, by omega⟩) : kInv u s (ix2 i l) = fac n192 z := by
  have hu : ∀ d : Fin 128, lft u (ix2 i d) = z ⟨d, by omega⟩ := fun d => (lft_apply u i d).trans (h1 d)
  unfold kInv
  generalize lft u = y at *
  have e : addf (matmul dot_S512x128_S128x128_S512x128_1_0_0_1_n_n none (truncf .bf16 (mulf y y) bitsLt_bf16_f32)
      (broadcast S128x128 (Scalar.ofBits .bf16 0x3F80#16)) (constant S512x128 .f32 0x00000000#32)) s (ix2 i l)
      = ∑ k : Fin 128, y (ix2 i k) * y (ix2 i k) + s (ix2 i l) := by
    pointwise
  rw [fct_apply, e, h2, named_192, rsqrt_recip (by norm_num), fac, ofBits_192, sum_192]
  simp only [hu]

/-- The rotated columns of the keys. -/
def kTurn (v : FVec Ideal S512x128 .f32) (r : FVec Ideal S512x128 .f32) : FVec Ideal S512x128 .bf16 := truncf .bf16 (mulf r v) bitsLt_bf16_f32

/-- The values. -/
def vPlain (u : FVec Ideal S512x256 .f32) : FVec Ideal S512x128 .bf16 := truncf .bf16 (rgt u) bitsLt_bf16_f32

end Cert.Mla

end
-- ==== Proof.Mla.Body.lean ====
/- What the attention's projections store for a block of rows. -/
module

public import proofs.«01_k».proof.Proof.Mla.Steps

@[expose] public section

set_option maxRecDepth 16384

noncomputable section

namespace Cert.Mla

open Idealize.ShloMosaic Idealize.ShloMosaic.TcCoe Idealize.SL.Sem Finset
open Cert.Kernel5Ideal Cert.Kernel5Ideal.Gen

/-- The numbers standing for the negatives of the second half of the keys' rotated columns. -/
def Data.negK (R : Data) (j : Fin 32) : EReal := Row.normed R.x R.mg fun k => -R.w k ⟨672 + j, by omega⟩

/-- The numbers standing for the negatives of the second half of a head's rotated columns of the queries. -/
def Data.negQ (R : Data) (h : Fin 8) (j : Fin 32) : EReal := ∑ k, R.cq k * -R.uq k ⟨192 * h + (160 + j), by omega⟩

/-- The appended key columns stand for negatives of the rotated ones. -/
theorem opp_negK (R : Data) (h : Fin 8) (j : Fin 32) : Opp (R.negK j) (R.khead h ⟨160 + j, by omega⟩) := by
  have e : R.khead h ⟨160 + j, by omega⟩ = R.P ⟨672 + j, by omega⟩ :=
    (if_neg (by show ¬ 160 + (j : ℕ) < 128; omega)).trans (congrArg R.P (Fin.ext (by show 512 + (160 + (j : ℕ)) = 672 + j; omega)))
  rw [e]
  exact opp_sum (ι := Fin 1024) univ (fun k => R.x k * Row.inv R.x * R.mg k * R.w k ⟨672 + j, by omega⟩) _ fun k => mul_neg _ _

/-- The appended query columns stand for negatives of the rotated ones. -/
theorem opp_negQ (R : Data) (h : Fin 8) (j : Fin 32) : Opp (R.negQ h j) (R.qhead h ⟨160 + j, by omega⟩) :=
  opp_sum (ι := Fin 384) univ (fun k => R.cq k * R.uq k ⟨192 * h + (160 + j), by omega⟩) _ fun k => mul_neg _ _

/-- A rectangle of a matrix lies inside. -/
theorem inb2 {r c R C o1 o2 : ℕ} (h1 : o1 + r ≤ R) (h2 : o2 + c ≤ C) :
    ∀ a, (![o1, o2] : Fin 2 → ℕ) a + (⟨2, ![r, c]⟩ : Shape).size a ≤ (⟨2, ![R, C]⟩ : Shape).size a := by
  intro a
  fin_cases a
  · exact h1
  · exact h2

/-- A half of the rows. -/
abbrev half (x0 : FVec Ideal S1024x1024 .f32) (t : Fin 2) : FVec Ideal S512x1024 .f32 :=
  View.ld (Val := Elt Ideal) (e' := .f32) x0 (Rect.unit (s := S1024x1024) ![512 * t, 0] S512x1024.size (inb2 (by omega) (by decide)))

/-- A half of a table. -/
abbrev halfTab (x9 : FVec Ideal S1024x128 .f32) (t : Fin 2) : FVec Ideal S512x128 .f32 :=
  View.ld (Val := Elt Ideal) (e' := .f32) x9 (Rect.unit (s := S1024x128) ![512 * t, 0] S512x128.size (inb2 (by omega) (by decide)))

/-- A head's columns of the queries' weights. -/
abbrev headQ (x5 : FVec Ideal S384x2048 .bf16) (h : Fin 8) : FVec Ideal S384x256 .bf16 :=
  View.ld (Val := Elt Ideal) (e' := .bf16) x5 (Rect.unit (s := S384x2048) ![0, 256 * h] S384x256.size (inb2 (by decide) (by omega)))

/-- A head's columns of the keys' and values' weights. -/
abbrev headK (x6 : FVec Ideal S256x2048 .bf16) (h : Fin 8) : FVec Ideal S256x256 .bf16 :=
  View.ld (Val := Elt Ideal) (e' := .bf16) x6 (Rect.unit (s := S256x2048) ![0, 256 * h] S256x256.size (inb2 (by decide) (by omega)))

/-- The halves and heads in the order they are stored, the last first. -/
def units : List (Fin 2 × Fin 8) :=
  [(1, 7), (1, 6), (1, 5), (1, 4), (1, 3), (1, 2), (1, 1), (1, 0), (0, 7), (0, 6), (0, 5), (0, 4), (0, 3), (0, 2), (0, 1), (0, 0)]

/-- A gain as it is read. -/
abbrev gn (g : FVec Ideal S1x128 .f32) : FVec Ideal S1x128 .f32 := shapeCast S1x128 g shapeCasts_S1x128_S1x128

/-- A gain as it is read, read at an index. -/
theorem gn_apply (g : FVec Ideal S1x128 .f32) (l : Fin 128) : gn g (ix2 0 l) = g (ix2 0 l) := by
  pointwise [gn]

/-- The stored queries of a half and a head. -/
def qPieces (c : Fin 2 → FVec Ideal S512x384 .bf16) (x5 : FVec Ideal S384x2048 .bf16) (g : FVec Ideal S1x128 .f32) (x9 : FVec Ideal S1024x128 .f32)
    (u : Fin 2 × Fin 8) : List (View.Piece (Elt Ideal) S1024x2048 .bf16) :=
  [⟨Rect.unit (s := S1024x2048) ![512 * u.1, 256 * u.2 + 128] S512x128.size (inb2 (by omega) (by omega)),
      qTurn (qInv (upQ (c u.1) (headQ x5 u.2))) (upQ (c u.1) (headQ x5 u.2)) (halfTab x9 u.1)⟩,
    ⟨Rect.unit (s := S1024x2048) ![512 * u.1, 256 * u.2] S512x128.size (inb2 (by omega) (by omega)),
      qPlain (qInv (upQ (c u.1) (headQ x5 u.2))) (upQ (c u.1) (headQ x5 u.2)) g⟩]

/-- The stored keys of a half and a head. -/
def kPieces (c : Fin 2 → FVec Ideal S512x256 .bf16) (x6 : FVec Ideal S256x2048 .bf16) (g : FVec Ideal S1x128 .f32)
    (r s : Fin 2 → FVec Ideal S512x128 .f32) (u : Fin 2 × Fin 8) : List (View.Piece (Elt Ideal) S1024x2048 .bf16) :=
  [⟨Rect.unit (s := S1024x2048) ![512 * u.1, 256 * u.2 + 128] S512x128.size (inb2 (by omega) (by omega)),
      kTurn (kInv (upK (c u.1) (headK x6 u.2)) (s u.1)) (r u.1)⟩,
    ⟨Rect.unit (s := S1024x2048) ![512 * u.1, 256 * u.2] S512x128.size (inb2 (by omega) (by omega)),
      qPlain (kInv (upK (c u.1) (headK x6 u.2)) (s u.1)) (upK (c u.1) (headK x6 u.2)) g⟩]

/-- The stored values of a half and a head. -/
def vPieces (c : Fin 2 → FVec Ideal S512x256 .bf16) (x6 : FVec Ideal S256x2048 .bf16) (u : Fin 2 × Fin 8) :
    List (View.Piece (Elt Ideal) S1024x1024 .bf16) :=
  [⟨Rect.unit (s := S1024x1024) ![512 * u.1, 128 * u.2] S512x128.size (inb2 (by omega) (by omega)), vPlain (upK (c u.1) (headK x6 u.2))⟩]

section out

variable (x0 : FVec Ideal S1024x1024 .f32) (x1 : FVec Ideal S1x1024 .f32) (x2 : FVec Ideal S1024x768 .bf16) (x3 : FVec Ideal S1x384 .f32)
  (x4 : FVec Ideal S1x256 .f32) (x5 : FVec Ideal S384x2048 .bf16) (x6 : FVec Ideal S256x2048 .bf16) (x7 x8 : FVec Ideal S1x128 .f32)
  (x9 x10 : FVec Ideal S1024x128 .f32)

/-- The projected rows of a half. -/
def pt (t : Fin 2) : FVec Ideal S512x768 .f32 := projT (half x0 t) x1 x2

/-- The latent queries of a half. -/
def cqT (t : Fin 2) : FVec Ideal S512x384 .bf16 := latQ (pt x0 x1 x2 t) x3

/-- The latent keys of a half. -/
def ckT (t : Fin 2) : FVec Ideal S512x256 .bf16 := latK (pt x0 x1 x2 t) x4

/-- The keys' rotated columns of a half. -/
def rotT (t : Fin 2) : FVec Ideal S512x128 .f32 := keyRot (k0_pay6 (F := Ideal)) (keyR (pt x0 x1 x2 t)) (halfTab x10 t)

/-- The keys' rotated columns' sums of squares of a half. -/
def ssT (t : Fin 2) : FVec Ideal S512x128 .f32 := keySs (keyR (pt x0 x1 x2 t))

/-- The rows' gain is read whole. -/
theorem ld1 : View.ld (Val := Elt Ideal) (e' := .f32) x1 r0_2 = x1 := Proj.ld_all (e := .f32) x1 _

/-- The first weights are read whole. -/
theorem ld2 : View.ld (Val := Elt Ideal) (e' := .bf16) x2 r0_3 = x2 := Proj.ld_all (e := .bf16) x2 _

/-- The latent queries' gain is read whole. -/
theorem ld3 : View.ld (Val := Elt Ideal) (e' := .f32) x3 r0_4 = x3 := Proj.ld_all (e := .f32) x3 _

/-- The latent keys' gain is read whole. -/
theorem ld4 : View.ld (Val := Elt Ideal) (e' := .f32) x4 r0_5 = x4 := Proj.ld_all (e := .f32) x4 _

/-- The queries' gain is read whole. -/
theorem ld7 : View.ld (Val := Elt Ideal) (e' := .f32) x7 r0_0 = x7 := Proj.ld_all (e := .f32) x7 _

/-- The body's value of the rotary key in the first half of the block. -/
theorem e228 : k0_pay228 (F := Ideal) x0 x1 x2 x3 x4 x5 x6 x7 x8 x9 x10 = keyR (pt x0 x1 x2 0) := by
  have e : k0_pay228 (F := Ideal) x0 x1 x2 x3 x4 x5 x6 x7 x8 x9 x10
      = keyR (projT (half x0 0) (View.ld (Val := Elt Ideal) (e' := .f32) x1 r0_2) (View.ld (Val := Elt Ideal) (e' := .bf16) x2 r0_3)) := rfl
  rw [e, ld1, ld2, pt]

/-- The body's value of the rotary key in the second half of the block. -/
theorem e236 : k0_pay236 (F := Ideal) x0 x1 x2 x3 x4 x5 x6 x7 x8 x9 x10 = keyR (pt x0 x1 x2 1) := by
  have e : k0_pay236 (F := Ideal) x0 x1 x2 x3 x4 x5 x6 x7 x8 x9 x10
      = keyR (projT (half x0 1) (View.ld (Val := Elt Ideal) (e' := .f32) x1 r0_2) (View.ld (Val := Elt Ideal) (e' := .bf16) x2 r0_3)) := rfl
  rw [e, ld1, ld2, pt]

/-- The body's value of the latent queries in the first half of the block. -/
theorem e229 : k0_pay229 (F := Ideal) x0 x1 x2 x3 x4 x5 x6 x7 x8 x9 x10 = cqT x0 x1 x2 x3 0 := by
  have e : k0_pay229 (F := Ideal) x0 x1 x2 x3 x4 x5 x6 x7 x8 x9 x10
      = latQ (projT (half x0 0) (View.ld (Val := Elt Ideal) (e' := .f32) x1 r0_2) (View.ld (Val := Elt Ideal) (e' := .bf16) x2 r0_3))
        (View.ld (Val := Elt Ideal) (e' := .f32) x3 r0_4) := rfl
  rw [e, ld1, ld2, ld3, cqT, pt]

/-- The body's value of the latent queries in the second half of the block. -/
theorem e237 : k0_pay237 (F := Ideal) x0 x1 x2 x3 x4 x5 x6 x7 x8 x9 x10 = cqT x0 x1 x2 x3 1 := by
  have e : k0_pay237 (F := Ideal) x0 x1 x2 x3 x4 x5 x6 x7 x8 x9 x10
      = latQ (projT (half x0 1) (View.ld (Val := Elt Ideal) (e' := .f32) x1 r0_2) (View.ld (Val := Elt Ideal) (e' := .bf16) x2 r0_3))
        (View.ld (Val := Elt Ideal) (e' := .f32) x3 r0_4) := rfl
  rw [e, ld1, ld2, ld3, cqT, pt]

/-- The body's value of the latent keys in the first half of the block. -/
theorem e230 : k0_pay230 (F := Ideal) x0 x1 x2 x3 x4 x5 x6 x7 x8 x9 x10 = ckT x0 x1 x2 x4 0 := by
  have e : k0_pay230 (F := Ideal) x0 x1 x2 x3 x4 x5 x6 x7 x8 x9 x10
      = latK (projT (half x0 0) (View.ld (Val := Elt Ideal) (e' := .f32) x1 r0_2) (View.ld (Val := Elt Ideal) (e' := .bf16) x2 r0_3))
        (View.ld (Val := Elt Ideal) (e' := .f32) x4 r0_5) := rfl
  rw [e, ld1, ld2, ld4, ckT, pt]

/-- The body's value of the latent keys in the second half of the block. -/
theorem e238 : k0_pay238 (F := Ideal) x0 x1 x2 x3 x4 x5 x6 x7 x8 x9 x10 = ckT x0 x1 x2 x4 1 := by
  have e : k0_pay238 (F := Ideal) x0 x1 x2 x3 x4 x5 x6 x7 x8 x9 x10
      = latK (projT (half x0 1) (View.ld (Val := Elt Ideal) (e' := .f32) x1 r0_2) (View.ld (Val := Elt Ideal) (e' := .bf16) x2 r0_3))
        (View.ld (Val := Elt Ideal) (e' := .f32) x4 r0_5) := rfl
  rw [e, ld1, ld2, ld4, ckT, pt]

/-- The body's value of the rotated key in the first half of the block. -/
theorem e231 : k0_pay231 (F := Ideal) x0 x1 x2 x3 x4 x5 x6 x7 x8 x9 x10 = rotT x0 x1 x2 x10 0 := by
  unfold k0_pay231
  rw [e228]
  rfl

/-- The body's value of the rotated key in the second half of the block. -/
theorem e239 : k0_pay239 (F := Ideal) x0 x1 x2 x3 x4 x5 x6 x7 x8 x9 x10 = rotT x0 x1 x2 x10 1 := by
  unfold k0_pay239
  rw [e236]
  rfl

/-- The body's value of the rotary key's squares in the first half of the block. -/
theorem e232 : k0_pay232 (F := Ideal) x0 x1 x2 x3 x4 x5 x6 x7 x8 x9 x10 = ssT x0 x1 x2 0 := by
  unfold k0_pay232
  rw [e228]
  rfl

/-- The body's value of the rotary key's squares in the second half of the block. -/
theorem e240 : k0_pay240 (F := Ideal) x0 x1 x2 x3 x4 x5 x6 x7 x8 x9 x10 = ssT x0 x1 x2 1 := by
  unfold k0_pay240
  rw [e236]
  rfl

/-- The body's gain of the queries. -/
theorem e223 : k0_pay223 (F := Ideal) x0 x1 x2 x3 x4 x5 x6 x7 x8 x9 x10 = gn x7 := by
  unfold k0_pay223
  rw [ld7]
  rfl

/-- The body's gain of the keys. -/
theorem e224 : k0_pay224 (F := Ideal) x0 x1 x2 x3 x4 x5 x6 x7 x8 x9 x10 = gn x8 := by
  unfold k0_pay224
  rw [ld7]
  rfl

/-- The stored block of queries, a half and a head after another. -/
theorem out11_eq : out0_11 (F := Ideal) x0 x1 x2 x3 x4 x5 x6 x7 x8 x9 x10
    = View.canon (Val := Elt Ideal) (units.flatMap (qPieces (cqT x0 x1 x2 x3) x5 (gn x7) x9)) := by
  unfold out0_11 k0_pay283 k0_pay282 k0_pay281 k0_pay279 k0_pay277 k0_pay275 k0_pay274 k0_pay272 k0_pay269 k0_pay267 k0_pay265 k0_pay263 k0_pay260 k0_pay259 k0_pay258 k0_pay256 k0_pay254 k0_pay252 k0_pay251 k0_pay249 k0_pay245 k0_pay244 k0_pay242
  rw [e229, e237, e223]
  generalize cqT x0 x1 x2 x3 = c
  generalize gn x7 = g
  refine congrArg (View.canon (Val := Elt Ideal)) ?_
  iterate 32 refine Proj.same_piece rfl ?_
  rfl

/-- The stored block of keys, a half and a head after another. -/
theorem out12_eq : out0_12 (F := Ideal) x0 x1 x2 x3 x4 x5 x6 x7 x8 x9 x10
    = View.canon (Val := Elt Ideal) (units.flatMap (kPieces (ckT x0 x1 x2 x4) x6 (gn x8) (rotT x0 x1 x2 x10) (ssT x0 x1 x2))) := by
  unfold out0_12 k0_pay285 k0_pay284 k0_pay280 k0_pay278 k0_pay276 k0_pay273 k0_pay271 k0_pay270 k0_pay268 k0_pay266 k0_pay264 k0_pay262 k0_pay261 k0_pay257 k0_pay255 k0_pay253 k0_pay250 k0_pay248 k0_pay247 k0_pay246 k0_pay243 k0_pay241
  rw [e230, e238, e224, e231, e239, e232, e240]
  generalize ckT x0 x1 x2 x4 = c
  generalize gn x8 = g
  generalize rotT x0 x1 x2 x10 = r
  generalize ssT x0 x1 x2 = s
  refine congrArg (View.canon (Val := Elt Ideal)) ?_
  iterate 32 refine Proj.same_piece rfl ?_
  rfl

/-- The stored block of values, a half and a head after another. -/
theorem out13_eq : out0_13 (F := Ideal) x0 x1 x2 x3 x4 x5 x6 x7 x8 x9 x10
    = View.canon (Val := Elt Ideal) (units.flatMap (vPieces (ckT x0 x1 x2 x4) x6)) := by
  unfold out0_13 k0_pay284 k0_pay280 k0_pay278 k0_pay276 k0_pay273 k0_pay270 k0_pay266 k0_pay264 k0_pay261 k0_pay257 k0_pay255 k0_pay253 k0_pay250 k0_pay246 k0_pay243 k0_pay241
  rw [e230, e238]
  generalize ckT x0 x1 x2 x4 = c
  refine congrArg (View.canon (Val := Elt Ideal)) ?_
  iterate 16 refine Proj.same_piece rfl ?_
  rfl

end out

end Cert.Mla

end
-- ==== Proof.Mla.Body2.lean ====
/- The stored blocks of the attention's projections, from the rows' data. -/
module

public import proofs.«01_k».proof.Proof.Mla.Body

@[expose] public section

set_option maxRecDepth 16384

noncomputable section

namespace Cert.Mla

open Idealize.ShloMosaic Idealize.ShloMosaic.TcCoe Idealize.SL.Sem Finset
open Cert.Kernel5Ideal Cert.Kernel5Ideal.Gen

/-- A column of the first weights with the rotated columns doubled. -/
def wext (w : Fin 704 → EReal) (j : Fin 768) : EReal :=
  if h : (j : ℕ) < 704 then w ⟨j, h⟩ else if h : (j : ℕ) < 736 then -w ⟨j - 32, by omega⟩ else w ⟨j - 96, by omega⟩

/-- A column of a head's weights of the queries with the rotated columns doubled. -/
def uext (u : Fin 1536 → EReal) (h : Fin 8) (l : Fin 256) : EReal :=
  if _ : (l : ℕ) < 192 then u ⟨192 * h + l, by omega⟩
  else if _ : (l : ℕ) < 224 then -u ⟨192 * h + (l - 32), by omega⟩ else u ⟨192 * h + (l - 96), by omega⟩

/-- The blocks hold the rows' data. -/
structure Agrees (R : Fin 1024 → Data) (x0 : FVec Ideal S1024x1024 .f32) (x1 : FVec Ideal S1x1024 .f32) (x2 : FVec Ideal S1024x768 .bf16)
    (x3 : FVec Ideal S1x384 .f32) (x4 : FVec Ideal S1x256 .f32) (x5 : FVec Ideal S384x2048 .bf16) (x6 : FVec Ideal S256x2048 .bf16)
    (x7 x8 : FVec Ideal S1x128 .f32) (x9 x10 : FVec Ideal S1024x128 .f32) : Prop where
  /-- the rows -/
  h0 : ∀ i k, x0 (ix2 i k) = (R i).x k
  /-- the rows' gain -/
  h1 : ∀ i k, x1 (ix2 0 k) = (R i).mg k
  /-- the weights of the first projection -/
  h2 : ∀ i k j, x2 (ix2 k j) = wext ((R i).w k) j
  /-- the latent query's gain -/
  h3 : ∀ i k, x3 (ix2 0 k) = (R i).qa k
  /-- the latent key's gain -/
  h4 : ∀ i k, x4 (ix2 0 k) = (R i).kva k
  /-- the weights of the queries -/
  h5 : ∀ i k (h : Fin 8) (l : Fin 256), x5 (ix2 k ⟨256 * h + l, by omega⟩) = uext ((R i).uq k) h l
  /-- the weights of the keys and values -/
  h6 : ∀ i k j, x6 (ix2 k j) = (R i).ukv k j
  /-- the queries' plain gain -/
  h7 : ∀ i (l : Fin 128), x7 (ix2 0 l) = (R i).qn ⟨l, by omega⟩
  /-- the keys' plain gain -/
  h8 : ∀ i (l : Fin 128), x8 (ix2 0 l) = (R i).kn ⟨l, by omega⟩
  /-- the queries' table -/
  h9 : ∀ i l, x9 (ix2 i l) = tab (R i).qn (R i).C (R i).S l
  /-- the keys' table -/
  h10 : ∀ i l, x10 (ix2 i l) = tab (R i).kn (R i).C (R i).S l

section values

variable {R : Fin 1024 → Data} {x0 : FVec Ideal S1024x1024 .f32} {x1 : FVec Ideal S1x1024 .f32} {x2 : FVec Ideal S1024x768 .bf16}
  {x3 : FVec Ideal S1x384 .f32} {x4 : FVec Ideal S1x256 .f32} {x5 : FVec Ideal S384x2048 .bf16} {x6 : FVec Ideal S256x2048 .bf16}
  {x7 x8 : FVec Ideal S1x128 .f32} {x9 x10 : FVec Ideal S1024x128 .f32}
  (A : Agrees R x0 x1 x2 x3 x4 x5 x6 x7 x8 x9 x10)

/-- A row of a half. -/
abbrev at512 (t : Fin 2) (i : Fin 512) : Fin 1024 := ⟨512 * t + i, by omega⟩

include A

/-- The projected rows of a half, read at an index. -/
theorem pt_apply (t : Fin 2) (i : Fin 512) (j : Fin 768) : pt x0 x1 x2 t (ix2 i j)
    = Row.normed (R (at512 t i)).x (R (at512 t i)).mg fun k => wext ((R (at512 t i)).w k) j := by
  refine (projT_apply _ _ _ i j).trans (Row.three Row.normed (funext fun k => ?_) (funext fun k => A.h1 _ k) (funext fun k => A.h2 _ k j))
  refine (Tail.ld2_apply (e := .f32) (by omega) (by decide) x0 (inb2 (by omega) (by decide)) i k).trans ?_
  refine Eq.trans ?_ (A.h0 (at512 t i) k)
  refine congrArg (fun q : Fin 1024 => x0 (ix2 (at512 t i) q)) (Fin.ext ?_)
  show 0 + (k : ℕ) = k
  omega

/-- The projected tile's first 704 columns are the row's projection. -/
theorem pt_plain (t : Fin 2) (i : Fin 512) (j : Fin 704) : pt x0 x1 x2 t (ix2 i ⟨j, by omega⟩) = (R (at512 t i)).P j := by
  rw [pt_apply A]
  refine congrArg (Row.normed _ _) (funext fun k => ?_)
  exact dif_pos (show (j : ℕ) < 704 by omega)

/-- The latent queries of a half, read at an index. -/
theorem cqT_apply (t : Fin 2) (i : Fin 512) (k : Fin 384) : cqT x0 x1 x2 x3 t (ix2 i k) = (R (at512 t i)).cq k := by
  refine (latQ_apply _ _ i k).trans (congrFun (congrArg₂ (rms n384) (funext fun k => ?_) (funext fun k => A.h3 _ k)) k)
  exact pt_plain A t i ⟨k, by omega⟩

/-- The latent keys of a half, read at an index. -/
theorem ckT_apply (t : Fin 2) (i : Fin 512) (k : Fin 256) : ckT x0 x1 x2 x4 t (ix2 i k) = (R (at512 t i)).ckv k := by
  refine (latK_apply _ _ i k).trans (congrFun (congrArg₂ (rms n256) (funext fun k => ?_) (funext fun k => A.h4 _ k)) k)
  exact pt_plain A t i ⟨384 + k, by omega⟩

/-- The tile's rotary key columns are the doubled columns of the row's key. -/
theorem keyR_ext (h : Fin 8) (t : Fin 2) (i : Fin 512) (l : Fin 128) :
    keyR (pt x0 x1 x2 t) (ix2 i l) = ext ((R (at512 t i)).khead h) (R (at512 t i)).negK l := by
  rw [keyR_apply]
  unfold ext
  by_cases h1 : (l : ℕ) < 64
  · rw [dif_pos h1]
    refine (pt_plain A t i ⟨640 + l, by omega⟩).trans (Eq.trans ?_ (if_neg (show ¬ 128 + (l : ℕ) < 128 by omega)).symm)
    exact congrArg (R (at512 t i)).P (Fin.ext (show 640 + (l : ℕ) = 512 + (128 + l) by omega))
  rw [dif_neg h1, pt_apply A]
  by_cases h2 : (l : ℕ) < 96
  · rw [dif_pos h2]
    refine congrArg (Row.normed _ _) (funext fun k => ?_)
    refine (dif_neg (show ¬ 640 + (l : ℕ) < 704 by omega)).trans ((dif_pos (show 640 + (l : ℕ) < 736 by omega)).trans ?_)
    exact congrArg (fun j => -(R (at512 t i)).w k j) (Fin.ext (show 640 + (l : ℕ) - 32 = 672 + (l - 64) by omega))
  · rw [dif_neg h2]
    refine Eq.trans ?_ (if_neg (show ¬ 32 + (l : ℕ) < 128 by omega)).symm
    refine congrArg (Row.normed _ _) (funext fun k => ?_)
    refine (dif_neg (show ¬ 640 + (l : ℕ) < 704 by omega)).trans ((dif_neg (show ¬ 640 + (l : ℕ) < 736 by omega)).trans ?_)
    exact congrArg (fun j => (R (at512 t i)).w k j) (Fin.ext (show 640 + (l : ℕ) - 96 = 512 + (32 + l) by omega))

/-- The keys' rotated columns' sums of squares of a half, read at an index. -/
theorem ssT_apply (h : Fin 8) (t : Fin 2) (i : Fin 512) (l : Fin 128) : ssT x0 x1 x2 t (ix2 i l)
    = ∑ d : Fin 64, (R (at512 t i)).khead h ⟨128 + d, by omega⟩ * (R (at512 t i)).khead h ⟨128 + d, by omega⟩ := by
  refine (keySs_apply _ i l).trans (Eq.trans ?_ (sumsq_ext _ _ (opp_negK (R (at512 t i)) h)))
  exact sum_congr rfl fun k _ => by rw [keyR_ext A h]

/-- A table's half holds the rows' table. -/
theorem halfTab_apply {x : FVec Ideal S1024x128 .f32} {f : Fin 1024 → Fin 128 → EReal} (hx : ∀ i l, x (ix2 i l) = f i l) (t : Fin 2) (i : Fin 512)
    (l : Fin 128) : halfTab x t (ix2 i l) = f (at512 t i) l := by
  refine (Tail.ld2_apply (e := .f32) (by omega) (by decide) x (inb2 (by omega) (by decide)) i l).trans ?_
  refine Eq.trans ?_ (hx (at512 t i) l)
  refine congrArg (fun q : Fin 128 => x (ix2 (at512 t i) q)) (Fin.ext ?_)
  show 0 + (l : ℕ) = l
  omega

/-- The keys' rotated columns of a half, read at an index. -/
theorem rotT_apply (h : Fin 8) (t : Fin 2) (i : Fin 512) (l : Fin 128) : rotT x0 x1 x2 x10 t (ix2 i l)
    = pair ((R (at512 t i)).khead h) (R (at512 t i)).negK (tab (R (at512 t i)).kn (R (at512 t i)).C (R (at512 t i)).S) l
        * if (l : ℕ) < 64 then 1 else 0 := by
  unfold rotT
  rw [keyRot_apply, both_apply, first_apply, keyR_ext A h, keyR_ext A h, halfTab_apply A A.h10, halfTab_apply A A.h10]
  rfl

/-- A head of the queries, from the weights' columns. -/
theorem upQ_at (h : Fin 8) (t : Fin 2) (i : Fin 512) (l : Fin 256) : upQ (cqT x0 x1 x2 x3 t) (headQ x5 h) (ix2 i l)
    = ∑ k, (R (at512 t i)).cq k * uext ((R (at512 t i)).uq k) h l := by
  refine (upQ_apply _ _ i l).trans (sum_congr rfl fun k _ => congrArg₂ (fun a b : EReal => a * b) (cqT_apply A t i k) ?_)
  refine (Tail.ld2_apply (e := .bf16) (by decide) (by omega) x5 (inb2 (by decide) (by omega)) k l).trans ?_
  refine Eq.trans ?_ (A.h5 (at512 t i) k h l)
  refine congrArg (fun q : Fin 384 => x5 (ix2 q ⟨256 * h + l, by omega⟩)) (Fin.ext ?_)
  show 0 + (k : ℕ) = k
  omega

/-- A head's first 128 columns are the query's plain part. -/
theorem upQ_lo (h : Fin 8) (t : Fin 2) (i : Fin 512) (d : Fin 128) :
    upQ (cqT x0 x1 x2 x3 t) (headQ x5 h) (ix2 i ⟨d, by omega⟩) = (R (at512 t i)).qhead h ⟨d, by omega⟩ := by
  refine (upQ_at A h t i _).trans (sum_congr rfl fun k _ => congrArg (fun a : EReal => (R (at512 t i)).cq k * a) ?_)
  exact dif_pos (show (d : ℕ) < 192 by omega)

/-- A head's last 128 columns are the query's doubled rotated part. -/
theorem upQ_hi (h : Fin 8) (t : Fin 2) (i : Fin 512) (d : Fin 128) : upQ (cqT x0 x1 x2 x3 t) (headQ x5 h) (ix2 i ⟨128 + d, by omega⟩)
    = ext ((R (at512 t i)).qhead h) ((R (at512 t i)).negQ h) d := by
  rw [upQ_at A]
  unfold ext
  by_cases h1 : (d : ℕ) < 64
  · rw [dif_pos h1]
    refine sum_congr rfl fun k _ => congrArg (fun a : EReal => (R (at512 t i)).cq k * a) ?_
    exact dif_pos (show 128 + (d : ℕ) < 192 by omega)
  rw [dif_neg h1]
  by_cases h2 : (d : ℕ) < 96
  · rw [dif_pos h2]
    refine sum_congr rfl fun k _ => congrArg (fun a : EReal => (R (at512 t i)).cq k * a) ?_
    refine (dif_neg (show ¬ 128 + (d : ℕ) < 192 by omega)).trans ((dif_pos (show 128 + (d : ℕ) < 224 by omega)).trans ?_)
    exact congrArg (fun j => -(R (at512 t i)).uq k j) (Fin.ext (show 192 * (h : ℕ) + (128 + d - 32) = 192 * h + (160 + (d - 64)) by omega))
  · rw [dif_neg h2]
    refine sum_congr rfl fun k _ => congrArg (fun a : EReal => (R (at512 t i)).cq k * a) ?_
    refine (dif_neg (show ¬ 128 + (d : ℕ) < 192 by omega)).trans ((dif_neg (show ¬ 128 + (d : ℕ) < 224 by omega)).trans ?_)
    exact congrArg (fun j => (R (at512 t i)).uq k j) (Fin.ext (show 192 * (h : ℕ) + (128 + d - 96) = 192 * h + (32 + d) by omega))

/-- A head's keys and values, at an index. -/
theorem upK_at (h : Fin 8) (t : Fin 2) (i : Fin 512) (l : Fin 256) : upK (ckT x0 x1 x2 x4 t) (headK x6 h) (ix2 i l)
    = ∑ k, (R (at512 t i)).ckv k * (R (at512 t i)).ukv k ⟨256 * h + l, by omega⟩ := by
  refine (upK_apply _ _ i l).trans (sum_congr rfl fun k _ => congrArg₂ (fun a b : EReal => a * b) (ckT_apply A t i k) ?_)
  refine (Tail.ld2_apply (e := .bf16) (by decide) (by omega) x6 (inb2 (by decide) (by omega)) k l).trans ?_
  refine Eq.trans ?_ (A.h6 (at512 t i) k ⟨256 * h + l, by omega⟩)
  refine congrArg (fun q : Fin 256 => x6 (ix2 q ⟨256 * h + l, by omega⟩)) (Fin.ext ?_)
  show 0 + (k : ℕ) = k
  omega

/-- A head's first 128 columns are the key's plain part. -/
theorem upK_lo (h : Fin 8) (t : Fin 2) (i : Fin 512) (d : Fin 128) :
    upK (ckT x0 x1 x2 x4 t) (headK x6 h) (ix2 i ⟨d, by omega⟩) = (R (at512 t i)).khead h ⟨d, by omega⟩ :=
  (upK_at A h t i _).trans (if_pos (show (d : ℕ) < 128 by omega)).symm

/-- The query's factor is the norm's factor times the scale. -/
theorem qInv_at (h : Fin 8) (t : Fin 2) (i : Fin 512) (l : Fin 128) :
    qInv (upQ (cqT x0 x1 x2 x3 t) (headQ x5 h)) (ix2 i l) = fac n192 ((R (at512 t i)).qhead h) * sc :=
  qInv_apply _ i l _ _ (opp_negQ _ h) (upQ_lo A h t i) (upQ_hi A h t i)

/-- The key's factor is the norm's factor. -/
theorem kInv_at (h : Fin 8) (t : Fin 2) (i : Fin 512) (l : Fin 128) :
    kInv (upK (ckT x0 x1 x2 x4 t) (headK x6 h)) (ssT x0 x1 x2 t) (ix2 i l) = fac n192 ((R (at512 t i)).khead h) :=
  kInv_apply _ _ i l _ (upK_lo A h t i) (ssT_apply A h t i l)

/-- The plain columns of the queries. -/
theorem q_plain (h : Fin 8) (t : Fin 2) (i : Fin 512) (l : Fin 128) :
    qPlain (qInv (upQ (cqT x0 x1 x2 x3 t) (headQ x5 h))) (upQ (cqT x0 x1 x2 x3 t) (headQ x5 h)) (gn x7) (ix2 i l)
      = (R (at512 t i)).q h ⟨l, by omega⟩ := by
  rw [qPlain_apply, upQ_lo A, qInv_at A, gn_apply, A.h7 (at512 t i)]
  refine Eq.trans ?_ (div_scale _).symm
  rw [dif_pos (show (l : ℕ) < 128 by omega)]
  unfold rms
  ac_rfl

/-- The rotated columns of the queries. -/
theorem q_turn (h : Fin 8) (t : Fin 2) (i : Fin 512) (l : Fin 128) :
    qTurn (qInv (upQ (cqT x0 x1 x2 x3 t) (headQ x5 h))) (upQ (cqT x0 x1 x2 x3 t) (headQ x5 h)) (halfTab x9 t) (ix2 i l)
      = (R (at512 t i)).q h ⟨128 + l, by omega⟩ := by
  refine (congrArg₂ (fun a b : EReal => a * b) (both_apply _ _ i l) (qInv_at A h t i l)).trans ?_
  rw [rgt_apply, rgt_apply, upQ_hi A, upQ_hi A, halfTab_apply A A.h9, halfTab_apply A A.h9]
  refine Eq.trans ?_ (div_scale _).symm
  rw [dif_neg (show ¬ 128 + (l : ℕ) < 128 by omega), ← mul_assoc]
  refine congrArg (fun a : EReal => a * sc) ((pair_turn _ _ _ _ _ (opp_negQ _ h) l).trans ?_)
  exact congrArg (turn _ _ _) (Fin.ext (show (l : ℕ) % 64 = (128 + l) % 64 by omega))

/-- The plain columns of the keys. -/
theorem k_plain (h : Fin 8) (t : Fin 2) (i : Fin 512) (l : Fin 128) :
    qPlain (kInv (upK (ckT x0 x1 x2 x4 t) (headK x6 h)) (ssT x0 x1 x2 t)) (upK (ckT x0 x1 x2 x4 t) (headK x6 h)) (gn x8) (ix2 i l)
      = (R (at512 t i)).k h ⟨l, by omega⟩ := by
  rw [qPlain_apply, upK_lo A, kInv_at A, gn_apply, A.h8 (at512 t i)]
  refine Eq.trans ?_ (dif_pos (show (l : ℕ) < 128 by omega)).symm
  rfl

/-- The rotated columns of the keys. -/
theorem k_turn (h : Fin 8) (t : Fin 2) (i : Fin 512) (l : Fin 128) :
    kTurn (kInv (upK (ckT x0 x1 x2 x4 t) (headK x6 h)) (ssT x0 x1 x2 t)) (rotT x0 x1 x2 x10 t) (ix2 i l)
      = (R (at512 t i)).k h ⟨128 + l, by omega⟩ := by
  refine (congrArg₂ (fun a b : EReal => a * b) (rotT_apply A h t i l) (kInv_at A h t i l)).trans ?_
  refine Eq.trans ?_ (dif_neg (show ¬ 128 + (l : ℕ) < 128 by omega)).symm
  by_cases hl : (l : ℕ) < 64
  · rw [if_pos hl, if_pos (show 128 + (l : ℕ) < 192 by omega), mul_one]
    refine (pair_turn _ _ _ _ _ (opp_negK _ h) l).trans ?_
    exact congrArg (turn _ _ _) (Fin.ext (show (l : ℕ) % 64 = (128 + l) % 64 by omega))
  · rw [if_neg hl, if_neg (show ¬ 128 + (l : ℕ) < 192 by omega), mul_zero, zero_mul]

/-- The values. -/
theorem v_plain (h : Fin 8) (t : Fin 2) (i : Fin 512) (l : Fin 128) :
    vPlain (upK (ckT x0 x1 x2 x4 t) (headK x6 h)) (ix2 i l) = (R (at512 t i)).v h l := by
  refine (rgt_apply _ i l).trans ((upK_at A h t i _).trans (sum_congr rfl fun k _ => ?_))
  exact congrArg (fun j => (R (at512 t i)).ckv k * (R (at512 t i)).ukv k j) (Fin.ext (show 256 * (h : ℕ) + (128 + l) = 256 * h + 128 + l by omega))

end values

/-- A piece that agrees with the rows where it is stored. -/
theorem piece_at {W o : ℕ} (ho : o + 128 ≤ W) (T : Fin 1024 → Fin W → EReal) (t : Fin 2) (z : S512x128.Idx → EReal)
    (inb : ∀ a, (![512 * (t : ℕ), o] : Fin 2 → ℕ) a + S512x128.size a ≤ (⟨2, ![1024, W]⟩ : Shape).size a)
    (hp : ∀ (i : Fin 512) (d : Fin 128), z (ix2 i d) = T (at512 t i) ⟨o + d, by omega⟩)
    (x : (Rect.unit (s := ⟨2, ![1024, W]⟩) ![512 * (t : ℕ), o] S512x128.size inb).shape.Idx) :
    z x = T ((Rect.unit (s := ⟨2, ![1024, W]⟩) ![512 * (t : ℕ), o] S512x128.size inb).emb x 0)
      ((Rect.unit (s := ⟨2, ![1024, W]⟩) ![512 * (t : ℕ), o] S512x128.size inb).emb x 1) := by
  have hx : x = (ix2 (x 0 : Fin 512) (x 1 : Fin 128) : S512x128.Idx) := by funext a; fin_cases a <;> rfl
  refine (congrArg z hx).trans ((hp (x 0 : Fin 512) (x 1 : Fin 128)).trans ?_)
  refine congrArg₂ T (Fin.ext ?_) (Fin.ext ?_)
  · show 512 * (t : ℕ) + ((x 0 : Fin 512) : ℕ) = 512 * t + 1 * ((x 0 : Fin 512) : ℕ)
    omega
  · show o + ((x 1 : Fin 128) : ℕ) = o + 1 * ((x 1 : Fin 128) : ℕ)
    omega

/-- A head's lanes beside the other heads'. -/
def wide {n : ℕ} (m : ℕ) (hm : n = 8 * m) (hp : 0 < m) (f : Fin 8 → Fin m → EReal) (j : Fin n) : EReal :=
  f ⟨j / m, Nat.div_lt_of_lt_mul (by have := j.isLt; rw [Nat.mul_comm]; omega)⟩ ⟨j % m, Nat.mod_lt _ hp⟩

/-- A lane of a head. -/
theorem wide_at (f : Fin 8 → Fin 256 → EReal) (h : Fin 8) (l : Fin 256) (j : Fin 2048) (hj : (j : ℕ) = 256 * h + l) :
    wide 256 rfl (by decide) f j = f h l :=
  congrArg₂ f (Fin.ext (by show (j : ℕ) / 256 = h; omega)) (Fin.ext (by show (j : ℕ) % 256 = l; omega))

/-- A lane of a head of the values. -/
theorem wide_at_v (f : Fin 8 → Fin 128 → EReal) (h : Fin 8) (l : Fin 128) (j : Fin 1024) (hj : (j : ℕ) = 128 * h + l) :
    wide 128 rfl (by decide) f j = f h l :=
  congrArg₂ f (Fin.ext (by show (j : ℕ) / 128 = h; omega)) (Fin.ext (by show (j : ℕ) % 128 = l; omega))

section blocks

variable {R : Fin 1024 → Data} {x0 : FVec Ideal S1024x1024 .f32} {x1 : FVec Ideal S1x1024 .f32} {x2 : FVec Ideal S1024x768 .bf16}
  {x3 : FVec Ideal S1x384 .f32} {x4 : FVec Ideal S1x256 .f32} {x5 : FVec Ideal S384x2048 .bf16} {x6 : FVec Ideal S256x2048 .bf16}
  {x7 x8 : FVec Ideal S1x128 .f32} {x9 x10 : FVec Ideal S1024x128 .f32}
  (A : Agrees R x0 x1 x2 x3 x4 x5 x6 x7 x8 x9 x10)

include A

/-- The stored block of queries. -/
theorem out11 (y : S1024x2048.Idx) :
    out0_11 (F := Ideal) x0 x1 x2 x3 x4 x5 x6 x7 x8 x9 x10 y = wide 256 rfl (by decide) (R (y 0)).q (y 1) := by
  have hL : ∀ p ∈ units.flatMap (qPieces (cqT x0 x1 x2 x3) x5 (gn x7) x9), ∀ x, p.2 x = (fun y : S1024x2048.Idx => wide 256 rfl (by decide) (R (y 0)).q (y 1)) (p.1.emb x) := by
    intro p hp
    obtain ⟨⟨t, h⟩, -, hp⟩ := List.mem_flatMap.1 hp
    rcases List.mem_pair.1 hp with rfl | rfl
    · exact piece_at (W := 2048) (by omega) (fun i => wide 256 rfl (by decide) (R i).q) t _ (inb2 (by omega) (by omega)) fun i d =>
        (q_turn A h t i d).trans (wide_at _ h ⟨128 + d, by omega⟩ _ (by simp only; omega)).symm
    · exact piece_at (W := 2048) (by omega) (fun i => wide 256 rfl (by decide) (R i).q) t _ (inb2 (by omega) (by omega)) fun i d =>
        (q_plain A h t i d).trans (wide_at _ h ⟨d, by omega⟩ _ (by simp only)).symm
  rw [out11_eq]
  exact View.canon_apply_of_pieces (Val := Elt Ideal) (fun y : S1024x2048.Idx => wide 256 rfl (by decide) (R (y 0)).q (y 1)) _ hL y (cover0_11 (F := Ideal) _ _ _ _ _ _ _ _ _ _ _ _ _ _ _ _ _ _ _ _ _ _ _ _ _ _ _ _ _ _ _ _ y)

/-- The stored block of keys. -/
theorem out12 (y : S1024x2048.Idx) :
    out0_12 (F := Ideal) x0 x1 x2 x3 x4 x5 x6 x7 x8 x9 x10 y = wide 256 rfl (by decide) (R (y 0)).k (y 1) := by
  have hL : ∀ p ∈ units.flatMap (kPieces (ckT x0 x1 x2 x4) x6 (gn x8) (rotT x0 x1 x2 x10) (ssT x0 x1 x2)), ∀ x, p.2 x = (fun y : S1024x2048.Idx => wide 256 rfl (by decide) (R (y 0)).k (y 1)) (p.1.emb x) := by
    intro p hp
    obtain ⟨⟨t, h⟩, -, hp⟩ := List.mem_flatMap.1 hp
    rcases List.mem_pair.1 hp with rfl | rfl
    · exact piece_at (W := 2048) (by omega) (fun i => wide 256 rfl (by decide) (R i).k) t _ (inb2 (by omega) (by omega)) fun i d =>
        (k_turn A h t i d).trans (wide_at _ h ⟨128 + d, by omega⟩ _ (by simp only; omega)).symm
    · exact piece_at (W := 2048) (by omega) (fun i => wide 256 rfl (by decide) (R i).k) t _ (inb2 (by omega) (by omega)) fun i d =>
        (k_plain A h t i d).trans (wide_at _ h ⟨d, by omega⟩ _ (by simp only)).symm
  rw [out12_eq]
  exact View.canon_apply_of_pieces (Val := Elt Ideal) (fun y : S1024x2048.Idx => wide 256 rfl (by decide) (R (y 0)).k (y 1)) _ hL y (cover0_12 (F := Ideal) _ _ _ _ _ _ _ _ _ _ _ _ _ _ _ _ _ _ _ _ _ _ _ _ _ _ _ _ _ _ _ _ y)

/-- The stored block of values. -/
theorem out13 (y : S1024x1024.Idx) :
    out0_13 (F := Ideal) x0 x1 x2 x3 x4 x5 x6 x7 x8 x9 x10 y = wide 128 rfl (by decide) (R (y 0)).v (y 1) := by
  have hL : ∀ p ∈ units.flatMap (vPieces (ckT x0 x1 x2 x4) x6), ∀ x, p.2 x = (fun y : S1024x1024.Idx => wide 128 rfl (by decide) (R (y 0)).v (y 1)) (p.1.emb x) := by
    intro p hp
    obtain ⟨⟨t, h⟩, -, hp⟩ := List.mem_flatMap.1 hp
    obtain rfl := List.mem_singleton.1 hp
    exact piece_at (W := 1024) (by omega) (fun i => wide 128 rfl (by decide) (R i).v) t _ (inb2 (by omega) (by omega)) fun i d =>
      (v_plain A h t i d).trans (wide_at_v _ h d _ (by simp only)).symm
  rw [out13_eq]
  exact View.canon_apply_of_pieces (Val := Elt Ideal) (fun y : S1024x1024.Idx => wide 128 rfl (by decide) (R (y 0)).v (y 1)) _ hL y (cover0_13 (F := Ideal) _ _ _ _ _ _ _ _ _ _ _ _ _ _ _ _ y)

end blocks

end Cert.Mla

end
-- ==== Proof.Mla.Array5.lean ====
/- The result arrays of the attention's projections: each point of the grid writes its block of rows. -/
module

public import proofs.«01_k».proof.Proof.Mla.Body2
public import proofs.«01_k».proof.Proof.Gen.Kernel5Ideal.Value

@[expose] public section

set_option maxRecDepth 16384

noncomputable section

namespace Cert.Mla

open Idealize.ShloMosaic Idealize.ShloMosaic.TcCoe Idealize.SL.Sem Finset
open Cert.Kernel5Ideal Cert.Kernel5Ideal.Gen

variable (m : (ℓ : Loc nD τ sig) → Buf (Elt Ideal) ℓ)

/-- The blocks of a grid point: its rows and its positions' tables, and the weights whole. -/
theorem idx : ∀ t : Fin cfg0.N,
    win0_0.index t = ![t.val, 0] ∧ win0_1.index t = ![0, 0] ∧ win0_2.index t = ![0, 0] ∧ win0_3.index t = ![0, 0]
      ∧ win0_4.index t = ![0, 0] ∧ win0_5.index t = ![0, 0] ∧ win0_6.index t = ![0, 0] ∧ win0_7.index t = ![0, 0]
      ∧ win0_8.index t = ![0, 0] ∧ win0_9.index t = ![t.val % 4, 0] ∧ win0_10.index t = ![t.val % 4, 0] ∧ win0_11.index t = ![t.val, 0]
      ∧ win0_12.index t = ![t.val, 0] ∧ win0_13.index t = ![t.val, 0] ∧ t.val < 32 :=
  (by decide +kernel : ∀ t : Fin grid0.N, _)

/-- The grid has 32 steps. -/
theorem lt32 (t : Fin cfg0.N) : t.val < 32 := (idx t).2.2.2.2.2.2.2.2.2.2.2.2.2.2

/-- The batch of a row. -/
def bat (t : Fin cfg0.N) (i : Fin 1024) : Fin 8 := ⟨(1024 * t.val + i) / 4096, by have := lt32 t; omega⟩

/-- The position of a row. -/
def pos (t : Fin cfg0.N) (i : Fin 1024) : Fin 4096 := ⟨(1024 * t.val + i) % 4096, by omega⟩

/-- The angles: a position times the frequency of a pair of columns. -/
def angle : FVec Ideal S4096x32 .f32 :=
  mulf (broadcastInDim S4096x32 ![0, 1] bcast_S4096x1_S4096x32_0_1
      (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32))
              (mulf (broadcastInDim S32 ![] bcast_S_S32 (constant S_ .f32 0x40000000#32)) (sitofp .f32 (iotaInDim S32 32 0))))
            (broadcastInDim S32 ![] bcast_S_S32 (constant S_ .f32 0x42800000#32)))))))

/-- The cosines. -/
def cosines : FVec Ideal S4096x32 .f32 := Host.cos angle

/-- The sines. -/
def sines : FVec Ideal S4096x32 .f32 := Host.sin angle

/-- Cosines twice and sines twice. -/
def quad (C S : FVec Ideal S4096x32 .f32) : FVec Ideal S4096x128 .f32 :=
  concatenate S4096x128 1 [⟨S4096x32, C⟩, ⟨S4096x32, C⟩, ⟨S4096x32, S⟩, ⟨S4096x32, S⟩]
    concatenates_S4096x32_S4096x32_S4096x32_S4096x32_S4096x128_d1

/-- Cosines twice and sines twice, read at an index. -/
theorem quad_apply (C S : FVec Ideal S4096x32 .f32) (s : Fin 4096) (l : Fin 128) : quad C S (ix2 s l)
    = if (l : ℕ) < 64 then C (ix2 s ⟨l % 32, by omega⟩) else S (ix2 s ⟨l % 32, by omega⟩) := by
  pointwise [quad]
  have hC : ∀ a b : Fin 32, (a : ℕ) = b → C (ix2 s a) = C (ix2 s b) := fun a b h => congrArg (fun d => C (ix2 s d)) (Fin.ext h)
  have hS : ∀ a b : Fin 32, (a : ℕ) = b → S (ix2 s a) = S (ix2 s b) := fun a b h => congrArg (fun d => S (ix2 s d)) (Fin.ext h)
  repeat' split
  all_goals first | omega | (refine hC _ _ ?_; first | omega | rfl | (dsimp only; omega)) | (refine hS _ _ ?_; first | omega | rfl | (dsimp only; omega))

/-- The gain's last columns. -/
def lastG (g : FVec Ideal S192 .f32) : FVec Ideal S64 .f32 := extractStridedSlice S64 ![128] g slices_S192_S64_128

/-- The gain's last columns, read at an index. -/
theorem lastG_apply (g : FVec Ideal S192 .f32) (l : Fin 64) : lastG g (ix1 l) = g (ix1 ⟨128 + l, by omega⟩) := by
  pointwise [lastG]

/-- The gains of the doubled columns. -/
def gains (u : FVec Ideal S64 .f32) : FVec Ideal S128 .f32 :=
  concatenate S128 0 [⟨S64, u⟩, ⟨S32, extractStridedSlice S32 ![32] u slices_S64_S32_32⟩, ⟨S32, extractStridedSlice S32 ![0] u slices_S64_S32_0⟩]
    concatenates_S64_S32_S32_S128_d0

/-- The gains of the doubled columns, read at an index. -/
theorem gains_apply (g : FVec Ideal S192 .f32) (l : Fin 128) :
    gains (lastG g) (ix1 l) = ext (fun d => g (ix1 d)) (fun j => g (ix1 ⟨160 + j, by omega⟩)) l := by
  have e := lastG_apply g
  generalize lastG g = u at e ⊢
  pointwise [gains]
  simp only [e]
  have hg : ∀ a b : Fin 192, (a : ℕ) = b → g (ix1 a) = g (ix1 b) := fun a b h => congrArg (fun d => g (ix1 d)) (Fin.ext h)
  unfold ext
  repeat' split
  all_goals first | omega | (refine hg _ _ ?_; first | omega | rfl | (dsimp only; omega))

/-- The table of the doubled columns. -/
def table (g : FVec Ideal S192 .f32) : FVec Ideal S4096x128 .f32 :=
  mulf (quad cosines sines) (broadcastInDim S4096x128 ![0, 1] bcast_S1x128_S4096x128_0_1
    (broadcastInDim S1x128 ![1] bcast_S128_S1x128_1 (gains (lastG g))))

/-- The table of the doubled columns, read at an index. -/
theorem table_apply (g : FVec Ideal S192 .f32) (s : Fin 4096) (l : Fin 128) : table g (ix2 s l)
    = tab (fun d => g (ix1 d)) (fun d => cosines (ix2 s d)) (fun d => sines (ix2 s d)) l := by
  have e : table g (ix2 s l) = quad cosines sines (ix2 s l) * gains (lastG g) (ix1 l) := by
    unfold table
    generalize quad cosines sines = A
    generalize gains (lastG g) = B
    pointwise
  rw [e, quad_apply, gains_apply]
  rfl

/-- The last columns of the first weights. -/
def lastW (W : FVec Ideal S1024x704 .f32) : FVec Ideal S1024x64 .f32 := extractStridedSlice S1024x64 ![0, 640] W slices_S1024x704_S1024x64_0_640

/-- The first weights with the rotated columns doubled. -/
def wide1 (W : FVec Ideal S1024x704 .f32) : FVec Ideal S1024x768 .f32 :=
  concatenate S1024x768 1 [⟨S1024x704, W⟩, ⟨S1024x64, concatenate S1024x64 1
    [⟨S1024x32, Host.negf (extractStridedSlice S1024x32 ![0, 32] (lastW W) slices_S1024x64_S1024x32_0_32)⟩,
      ⟨S1024x32, extractStridedSlice S1024x32 ![0, 0] (lastW W) slices_S1024x64_S1024x32_0_0⟩] concatenates_S1024x32_S1024x32_S1024x64_d1⟩]
    concatenates_S1024x704_S1024x64_S1024x768_d1

/-- The first weights with the rotated columns doubled, read at an index. -/
theorem wide1_apply (W : FVec Ideal S1024x704 .f32) (k : Fin 1024) (j : Fin 768) :
    wide1 W (ix2 k j) = wext (fun j => W (ix2 k j)) j := by
  pointwise [wide1, lastW]
  have hW : ∀ a b : Fin 704, (a : ℕ) = b → W (ix2 k a) = W (ix2 k b) := fun a b h => congrArg (fun d => W (ix2 k d)) (Fin.ext h)
  unfold wext
  repeat' split
  all_goals first | omega | (refine hW _ _ ?_; first | omega | rfl | (dsimp only; omega)) | (refine congrArg (fun a : EReal => -a) (hW _ _ ?_); first | omega | rfl | (dsimp only; omega))

/-- The queries' weights by heads. -/
def byHead (U : FVec Ideal S384x1536 .f32) : FVec Ideal S384x8x192 .f32 := shapeCast S384x8x192 U shapeCasts_S384x1536_S384x8x192

/-- The queries' weights by heads, read at an index. -/
theorem byHead_apply (U : FVec Ideal S384x1536 .f32) (k : Fin 384) (h : Fin 8) (d : Fin 192) :
    byHead U (ix3 k h d) = U (ix2 k ⟨192 * h + d, by omega⟩) := by
  pointwise [byHead]
  exact congrArg (fun d => U (ix2 k d)) (Fin.ext (by simp only; omega))

/-- The heads with the rotated columns doubled. -/
def wide2 (T : FVec Ideal S384x8x192 .f32) : FVec Ideal S384x8x256 .f32 :=
  concatenate S384x8x256 2 [⟨S384x8x192, T⟩, ⟨S384x8x64, concatenate S384x8x64 2
    [⟨S384x8x32, Host.negf (extractStridedSlice S384x8x32 ![0, 0, 32]
        (extractStridedSlice S384x8x64 ![0, 0, 128] T slices_S384x8x192_S384x8x64_0_0_128) slices_S384x8x64_S384x8x32_0_0_32)⟩,
      ⟨S384x8x32, extractStridedSlice S384x8x32 ![0, 0, 0]
        (extractStridedSlice S384x8x64 ![0, 0, 128] T slices_S384x8x192_S384x8x64_0_0_128) slices_S384x8x64_S384x8x32_0_0_0⟩]
    concatenates_S384x8x32_S384x8x32_S384x8x64_d2⟩] concatenates_S384x8x192_S384x8x64_S384x8x256_d2

/-- The heads with the rotated columns doubled, read at an index. -/
theorem wide2_apply (T : FVec Ideal S384x8x192 .f32) (k : Fin 384) (h : Fin 8) (l : Fin 256) : wide2 T (ix3 k h l)
    = if _ : (l : ℕ) < 192 then T (ix3 k h ⟨l, by omega⟩)
      else if _ : (l : ℕ) < 224 then -T (ix3 k h ⟨l - 32, by omega⟩) else T (ix3 k h ⟨l - 96, by omega⟩) := by
  pointwise [wide2]
  have hT : ∀ a b : Fin 192, (a : ℕ) = b → T (ix3 k h a) = T (ix3 k h b) := fun a b e => congrArg (fun d => T (ix3 k h d)) (Fin.ext e)
  repeat' split
  all_goals first | omega | (refine hT _ _ ?_; first | omega | rfl | (dsimp only; omega)) | (refine congrArg (fun a : EReal => -a) (hT _ _ ?_); first | omega | rfl | (dsimp only; omega))

/-- The queries' weights with the rotated columns doubled. -/
def wideQ (U : FVec Ideal S384x1536 .f32) : FVec Ideal S384x2048 .f32 := shapeCast S384x2048 (wide2 (byHead U)) shapeCasts_S384x8x256_S384x2048

/-- The queries' weights with the rotated columns doubled, read at an index. -/
theorem wideQ_apply (U : FVec Ideal S384x1536 .f32) (k : Fin 384) (h : Fin 8) (l : Fin 256) :
    wideQ U (ix2 k ⟨256 * h + l, by omega⟩) = uext (fun j => U (ix2 k j)) h l := by
  have e : wideQ U (ix2 k ⟨256 * h + l, by omega⟩) = wide2 (byHead U) (ix3 k h l) := by
    unfold wideQ
    generalize wide2 (byHead U) = T
    pointwise
  rw [e, wide2_apply]
  simp only [byHead_apply]
  rfl

/-- The widened first weights that the call is given. -/
theorem V_w (c : Dev nD) : V m c main_v70 = truncf .bf16 (wide1 (m ((c : Thread nD τ).loc main_arg2))) bitsLt_bf16_f32 := by
  unfold wide1 lastW
  simp only [V, hostOps0]
  after_results_simp <;> rfl

/-- The widened query weights that the call is given. -/
theorem V_u (c : Dev nD) : V m c main_v73 = truncf .bf16 (wideQ (m ((c : Thread nD τ).loc main_arg5))) bitsLt_bf16_f32 := by
  unfold wideQ wide2 byHead
  simp only [V, hostOps0]
  after_results_simp <;> rfl

/-- The queries' rotation table that the call is given. -/
theorem V_q (c : Dev nD) : V m c main_v41 = table (m ((c : Thread nD τ).loc main_arg7)) := by
  unfold table quad gains lastG cosines sines angle
  simp only [V, hostOps0]
  after_results_simp <;> (try dsimp only [Matrix.cons_val]) <;> (try after_results_simp) <;> rfl

/-- The keys' rotation table that the call is given. -/
theorem V_k (c : Dev nD) : V m c main_v68 = table (m ((c : Thread nD τ).loc main_arg8)) := by
  unfold table quad gains lastG cosines sines angle
  simp only [V, hostOps0]
  after_results_simp <;> (try dsimp only [Matrix.cons_val]) <;> (try after_results_simp) <;> rfl

/-- The rows of every batch side by side, at an index. -/
theorem rows_apply (T : FVec Ideal S8x4096x1024 .f32) (r : Fin 32768) (k : Fin 1024) :
    shapeCast S32768x1024 T shapeCasts_S8x4096x1024_S32768x1024 (ix2 r k) = T (ix3 ⟨r / 4096, by omega⟩ ⟨r % 4096, by omega⟩ k) := by
  pointwise

/-- The rows that the call is given. -/
theorem V_x (c : Dev nD) : V m c main_v0 = shapeCast S32768x1024 (m ((c : Thread nD τ).loc main_arg0)) shapeCasts_S8x4096x1024_S32768x1024 := by
  simp only [V, hostOps0]
  after_results_simp <;> rfl

/-- The rows' gain that the call is given. -/
theorem V_g (c : Dev nD) : V m c main_v69 = shapeCast S1x1024 (m ((c : Thread nD τ).loc main_arg1)) shapeCasts_S1024_S1x1024 := by
  simp only [V, hostOps0]
  after_results_simp <;> rfl

/-- The latent queries' gain that the call is given. -/
theorem V_qa (c : Dev nD) : V m c main_v71 = shapeCast S1x384 (m ((c : Thread nD τ).loc main_arg3)) shapeCasts_S384_S1x384 := by
  simp only [V, hostOps0]
  after_results_simp <;> rfl

/-- The latent keys' gain that the call is given. -/
theorem V_ka (c : Dev nD) : V m c main_v72 = shapeCast S1x256 (m ((c : Thread nD τ).loc main_arg4)) shapeCasts_S256_S1x256 := by
  simp only [V, hostOps0]
  after_results_simp <;> rfl

/-- The keys' and values' weights as stored. -/
def castE (E : FVec Ideal S256x2048 .f32) : FVec Ideal S256x2048 .bf16 := truncf .bf16 E bitsLt_bf16_f32

/-- The key and value weights that the call is given. -/
theorem V_e (c : Dev nD) : V m c main_v74 = castE (m ((c : Thread nD τ).loc main_arg6)) := by
  simp only [V, hostOps0]
  after_results_simp <;> rfl

/-- The plain part of the queries' gain that the call is given. -/
theorem V_qn (c : Dev nD) : V m c main_v76 = shapeCast S1x128 (extractStridedSlice S128 ![0] (m ((c : Thread nD τ).loc main_arg7)) slices_S192_S128_0) shapeCasts_S128_S1x128 := by
  simp only [V, hostOps0]
  after_results_simp <;> rfl

/-- The plain part of the keys' gain that the call is given. -/
theorem V_kn (c : Dev nD) : V m c main_v78 = shapeCast S1x128 (extractStridedSlice S128 ![0] (m ((c : Thread nD τ).loc main_arg8)) slices_S192_S128_0) shapeCasts_S128_S1x128 := by
  simp only [V, hostOps0]
  after_results_simp <;> rfl

/-- The block of the rows. -/
theorem block0 (c : Dev nD) (t : Fin cfg0.N) (i k : Fin 1024) :
    iblk m c 0 t (ix2 i k : S1024x1024.Idx) = (m ((c : Thread nD τ).loc main_arg0) : FVec Ideal S8x4096x1024 .f32) (ix3 (bat t i) (pos t i) k) := by
  have h : iblk m c 0 t (ix2 i k : S1024x1024.Idx) = V m c main_v0 (ix2 ⟨1024 * t.val + i, by have := lt32 t; omega⟩ k : S32768x1024.Idx) := by
    blk_ext! [iblk, idx t]
  exact h.trans ((congrFun (V_x m c) _).trans (rows_apply _ _ _))

/-- The norm's gain. -/
theorem block1 (c : Dev nD) (t : Fin cfg0.N) (k : Fin 1024) :
    iblk m c 1 t (ix2 0 k : S1x1024.Idx) = (m ((c : Thread nD τ).loc main_arg1) : FVec Ideal S1024 .f32) (ix1 k) := by
  have h : iblk m c 1 t (ix2 0 k : S1x1024.Idx) = V m c main_v69 (ix2 0 k : S1x1024.Idx) := by
    blk_ext! [iblk, idx t]
  refine h.trans ((congrFun (V_g m c) _).trans ?_)
  generalize m ((c : Thread nD τ).loc main_arg1) = T
  pointwise

/-- The first weights. -/
theorem block2 (c : Dev nD) (t : Fin cfg0.N) (k : Fin 1024) (j : Fin 768) :
    iblk m c 2 t (ix2 k j : S1024x768.Idx) = wide1 (m ((c : Thread nD τ).loc main_arg2)) (ix2 k j) := by
  have h : iblk m c 2 t (ix2 k j : S1024x768.Idx) = V m c main_v70 (ix2 k j : S1024x768.Idx) := by
    blk_ext! [iblk, idx t]
  exact h.trans (congrFun (V_w m c) _)

/-- The latent queries' gain. -/
theorem block3 (c : Dev nD) (t : Fin cfg0.N) (k : Fin 384) :
    iblk m c 3 t (ix2 0 k : S1x384.Idx) = (m ((c : Thread nD τ).loc main_arg3) : FVec Ideal S384 .f32) (ix1 k) := by
  have h : iblk m c 3 t (ix2 0 k : S1x384.Idx) = V m c main_v71 (ix2 0 k : S1x384.Idx) := by
    blk_ext! [iblk, idx t]
  refine h.trans ((congrFun (V_qa m c) _).trans ?_)
  generalize m ((c : Thread nD τ).loc main_arg3) = T
  pointwise

/-- The latent keys' gain. -/
theorem block4 (c : Dev nD) (t : Fin cfg0.N) (k : Fin 256) :
    iblk m c 4 t (ix2 0 k : S1x256.Idx) = (m ((c : Thread nD τ).loc main_arg4) : FVec Ideal S256 .f32) (ix1 k) := by
  have h : iblk m c 4 t (ix2 0 k : S1x256.Idx) = V m c main_v72 (ix2 0 k : S1x256.Idx) := by
    blk_ext! [iblk, idx t]
  refine h.trans ((congrFun (V_ka m c) _).trans ?_)
  generalize m ((c : Thread nD τ).loc main_arg4) = T
  pointwise

/-- The queries' weights. -/
theorem block5 (c : Dev nD) (t : Fin cfg0.N) (k : Fin 384) (j : Fin 2048) :
    iblk m c 5 t (ix2 k j : S384x2048.Idx) = wideQ (m ((c : Thread nD τ).loc main_arg5)) (ix2 k j) := by
  have h : iblk m c 5 t (ix2 k j : S384x2048.Idx) = V m c main_v73 (ix2 k j : S384x2048.Idx) := by
    blk_ext! [iblk, idx t]
  exact h.trans (congrFun (V_u m c) _)

/-- The keys' and values' weights. -/
theorem block6 (c : Dev nD) (t : Fin cfg0.N) (k : Fin 256) (j : Fin 2048) :
    iblk m c 6 t (ix2 k j : S256x2048.Idx) = (m ((c : Thread nD τ).loc main_arg6) : FVec Ideal S256x2048 .f32) (ix2 k j) := by
  have h : iblk m c 6 t (ix2 k j : S256x2048.Idx) = V m c main_v74 (ix2 k j : S256x2048.Idx) := by
    blk_ext! [iblk, idx t]
  exact h.trans (congrFun (V_e m c) _)

/-- The queries' plain gain. -/
theorem block7 (c : Dev nD) (t : Fin cfg0.N) (l : Fin 128) :
    iblk m c 7 t (ix2 0 l : S1x128.Idx) = (m ((c : Thread nD τ).loc main_arg7) : FVec Ideal S192 .f32) (ix1 ⟨l, by omega⟩) := by
  have h : iblk m c 7 t (ix2 0 l : S1x128.Idx) = V m c main_v76 (ix2 0 l : S1x128.Idx) := by
    blk_ext! [iblk, idx t]
  refine h.trans ((congrFun (V_qn m c) _).trans ?_)
  generalize m ((c : Thread nD τ).loc main_arg7) = T
  pointwise

/-- The keys' plain gain. -/
theorem block8 (c : Dev nD) (t : Fin cfg0.N) (l : Fin 128) :
    iblk m c 8 t (ix2 0 l : S1x128.Idx) = (m ((c : Thread nD τ).loc main_arg8) : FVec Ideal S192 .f32) (ix1 ⟨l, by omega⟩) := by
  have h : iblk m c 8 t (ix2 0 l : S1x128.Idx) = V m c main_v78 (ix2 0 l : S1x128.Idx) := by
    blk_ext! [iblk, idx t]
  refine h.trans ((congrFun (V_kn m c) _).trans ?_)
  generalize m ((c : Thread nD τ).loc main_arg8) = T
  pointwise

/-- The block of the queries' table. -/
theorem block9 (c : Dev nD) (t : Fin cfg0.N) (i : Fin 1024) (l : Fin 128) :
    iblk m c 9 t (ix2 i l : S1024x128.Idx) = table (m ((c : Thread nD τ).loc main_arg7)) (ix2 (pos t i) l) := by
  have h : iblk m c 9 t (ix2 i l : S1024x128.Idx) = V m c main_v41 (ix2 (pos t i) l : S4096x128.Idx) := by
    unfold pos
    have ht := lt32 t
    blk_ext! [iblk, idx t]
  exact h.trans (congrFun (V_q m c) _)

/-- The block of the keys' table. -/
theorem block10 (c : Dev nD) (t : Fin cfg0.N) (i : Fin 1024) (l : Fin 128) :
    iblk m c 10 t (ix2 i l : S1024x128.Idx) = table (m ((c : Thread nD τ).loc main_arg8)) (ix2 (pos t i) l) := by
  have h : iblk m c 10 t (ix2 i l : S1024x128.Idx) = V m c main_v68 (ix2 (pos t i) l : S4096x128.Idx) := by
    unfold pos
    have ht := lt32 t
    blk_ext! [iblk, idx t]
  exact h.trans (congrFun (V_k m c) _)

/-- What a row of a batch and a position is made from. -/
def rowData (X : FVec Ideal S8x4096x1024 .f32) (G : FVec Ideal S1024 .f32) (W : FVec Ideal S1024x704 .f32) (QA : FVec Ideal S384 .f32)
    (KA : FVec Ideal S256 .f32) (U : FVec Ideal S384x1536 .f32) (E : FVec Ideal S256x2048 .f32) (QN KN : FVec Ideal S192 .f32)
    (b : Fin 8) (s : Fin 4096) : Data where
  x k := X (ix3 b s k)
  mg k := G (ix1 k)
  w k j := W (ix2 k j)
  qa k := QA (ix1 k)
  kva k := KA (ix1 k)
  uq k j := U (ix2 k j)
  ukv k j := E (ix2 k j)
  qn d := QN (ix1 d)
  kn d := KN (ix1 d)
  C d := cosines (ix2 s d)
  S d := sines (ix2 s d)

/-- What a row is made from, of a memory's arguments. -/
abbrev data (c : Dev nD) : Fin 8 → Fin 4096 → Data :=
  rowData (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- A point's blocks hold its rows' data. -/
theorem agrees (c : Dev nD) (t : Fin cfg0.N) : Agrees (fun i => data m c (bat t i) (pos t i)) (iblk m c 0 t) (iblk m c 1 t) (iblk m c 2 t)
    (iblk m c 3 t) (iblk m c 4 t) (iblk m c 5 t) (iblk m c 6 t) (iblk m c 7 t) (iblk m c 8 t) (iblk m c 9 t) (iblk m c 10 t) where
  h0 i k := block0 m c t i k
  h1 _ k := block1 m c t k
  h2 _ k j := (block2 m c t k j).trans (wide1_apply _ k j)
  h3 _ k := block3 m c t k
  h4 _ k := block4 m c t k
  h5 _ k h l := (block5 m c t k ⟨256 * h + l, by omega⟩).trans (wideQ_apply _ k h l)
  h6 _ k j := block6 m c t k j
  h7 _ l := block7 m c t l
  h8 _ l := block8 m c t l
  h9 i l := (block9 m c t i l).trans (table_apply _ _ l)
  h10 i l := (block10 m c t i l).trans (table_apply _ _ l)

/-- The rows of every batch and position, side by side. -/
def allRows {n : ℕ} (R : Fin 8 → Fin 4096 → Fin n → EReal) : (⟨2, ![32768, n]⟩ : Shape).Idx → EReal :=
  fun y => R ⟨(y 0).val / 4096, by have : (y 0).val < 32768 := (y 0).isLt; omega⟩ ⟨(y 0).val % 4096, by omega⟩ (y 1)

/-- A row of every batch and position, read where a point writes it. -/
theorem row_at {n : ℕ} (R : Fin 8 → Fin 4096 → Fin n → EReal) (t : Fin cfg0.N) (z : (⟨2, ![32768, n]⟩ : Shape).Idx)
    (y : (⟨2, ![1024, n]⟩ : Shape).Idx) (h0 : (z 0 : ℕ) = t.val * 1024 + y 0) (h1 : z 1 = (y 1 : Fin n)) :
    R (bat t (y 0)) (pos t (y 0)) (y 1) = allRows R z := by
  unfold allRows
  refine Row.three R (Fin.ext ?_) (Fin.ext ?_) h1.symm
  · show (1024 * t.val + (y 0 : ℕ)) / 4096 = (z 0 : ℕ) / 4096
    rw [h0, Nat.mul_comm]
  · show (1024 * t.val + (y 0 : ℕ)) % 4096 = (z 0 : ℕ) % 4096
    rw [h0, Nat.mul_comm]

/-- The queries of a row, head beside head. -/
def qRow (D : Fin 8 → Fin 4096 → Data) (b : Fin 8) (s : Fin 4096) : Fin 2048 → EReal := wide 256 rfl (by decide) (D b s).q

/-- The keys of a row, head beside head. -/
def kRow (D : Fin 8 → Fin 4096 → Data) (b : Fin 8) (s : Fin 4096) : Fin 2048 → EReal := wide 256 rfl (by decide) (D b s).k

/-- The values of a row, head beside head. -/
def vRow (D : Fin 8 → Fin 4096 → Data) (b : Fin 8) (s : Fin 4096) : Fin 1024 → EReal := wide 128 rfl (by decide) (D b s).v

/-- The array of the queries after the run. -/
theorem final_q (c : Dev nD) : (dats m 0 c).arrAt 11 cfg0.N = allRows (qRow (data m c)) := by
  refine (dats m 0 c).arrAt_eq_of_covers 11 _ (by decide +kernel) fun t _ y => ?_
  blk_simp
  have h0 : (((win0_11.blk t).view.emb y) 0 : ℕ) = t.val * 1024 + y 0 := by blk_simp [idx t]
  have h1 : ((win0_11.blk t).view.emb y) 1 = (y 1 : Fin 2048) := Fin.ext (by blk_simp [idx t])
  rw [after0_11]
  exact (out11 (agrees m c t) y).trans (row_at (qRow (data m c)) t _ y h0 h1)

/-- The array of the keys after the run. -/
theorem final_k (c : Dev nD) : (dats m 0 c).arrAt 12 cfg0.N = allRows (kRow (data m c)) := by
  refine (dats m 0 c).arrAt_eq_of_covers 12 _ (by decide +kernel) fun t _ y => ?_
  blk_simp
  have h0 : (((win0_12.blk t).view.emb y) 0 : ℕ) = t.val * 1024 + y 0 := by blk_simp [idx t]
  have h1 : ((win0_12.blk t).view.emb y) 1 = (y 1 : Fin 2048) := Fin.ext (by blk_simp [idx t])
  rw [after0_12]
  exact (out12 (agrees m c t) y).trans (row_at (kRow (data m c)) t _ y h0 h1)

/-- The array of the values after the run. -/
theorem final_v (c : Dev nD) : (dats m 0 c).arrAt 13 cfg0.N = allRows (vRow (data m c)) := by
  refine (dats m 0 c).arrAt_eq_of_covers 13 _ (by decide +kernel) fun t _ y => ?_
  blk_simp
  have h0 : (((win0_13.blk t).view.emb y) 0 : ℕ) = t.val * 1024 + y 0 := by blk_simp [idx t]
  have h1 : ((win0_13.blk t).view.emb y) 1 = (y 1 : Fin 1024) := Fin.ext (by blk_simp [idx t])
  rw [after0_13]
  exact (out13 (agrees m c t) y).trans (row_at (vRow (data m c)) t _ y h0 h1)

end Cert.Mla

end
-- ==== Proof.Mla.Reference5.lean ====
/- The reference of the attention's projections, read at an index. -/
module

public import proofs.«01_k».proof.Proof.Tail.RefSteps
public import proofs.«01_k».proof.Proof.Mla.Array5
public import proofs.«01_k».proof.Proof.Gen.Reference5Ideal.Run

@[expose] public section

set_option maxRecDepth 16384

noncomputable section

namespace Cert.Mla.Ref

open Idealize.ShloMosaic Idealize.ShloMosaic.TcCoe Idealize.SL.Sem Finset
open Cert.Reference5Ideal Cert.Reference5Ideal.Gen

/-- The projected rows. -/
def project (X : FVec Ideal S8x4096x1024 .f32) (G : FVec Ideal S1024 .f32) (W : FVec Ideal S1024x704 .f32) : FVec Ideal S8x4096x704 .f32 :=
  Host.dotGeneral dot_S8x4096x1024_S1024x704_S8x4096x704_2_0_01_1_n_n none (Tail.Ref.norm X G) W

/-- The projected rows, read at an index. -/
theorem project_apply (X : FVec Ideal S8x4096x1024 .f32) (G : FVec Ideal S1024 .f32) (W : FVec Ideal S1024x704 .f32) (b : Fin 8)
    (s : Fin 4096) (j : Fin 704) : project X G W (ix3 b s j)
      = Row.normed (fun k => X (ix3 b s k)) (fun k => G (ix1 k)) fun k => W (ix2 k j) := by
  have e : project X G W (ix3 b s j) = ∑ k : Fin 1024, Tail.Ref.norm X G (ix3 b s k) * W (ix2 k j) := by
    unfold project
    generalize Tail.Ref.norm X G = T
    pointwise
  rw [e]
  exact Finset.sum_congr rfl fun k _ => congrArg (fun x : EReal => x * W (ix2 k j)) (Tail.Ref.norm_apply X G b s k)

/-- The factor of the latent queries. -/
def factorQ (A : FVec Ideal S8x4096x384 .f32) : FVec Ideal S8x4096x1 .f32 :=
  Host.rsqrt (addf (Host.divf (broadcastInDim S8x4096x1 ![0, 1] bcast_S8x4096_S8x4096x1_0_1
      (Host.reduceAdd (mulf A A) (constant S_ .f32 0x00000000#32) reducesTo_S8x4096x384_S8x4096_d2 h_S_))
    (broadcastInDim S8x4096x1 ![] bcast_S_S8x4096x1 (constant S_ .f32 0x43C00000#32)))
    (broadcastInDim S8x4096x1 ![] bcast_S_S8x4096x1 (constant S_ .f32 0x358637BD#32)))

/-- The factor of the latent queries, read at an index. -/
theorem factorQ_apply (A : FVec Ideal S8x4096x384 .f32) (b : Fin 8) (s : Fin 4096) (z : Fin 1) :
    factorQ A (ix3 b s z) = fac n384 fun k : Fin 384 => A (ix3 b s k) := by
  pointwise [factorQ]
  rfl

/-- The normed latent queries. -/
def normQ (A : FVec Ideal S8x4096x384 .f32) (g : FVec Ideal S384 .f32) : FVec Ideal S8x4096x384 .f32 :=
  mulf (mulf A (broadcastInDim S8x4096x384 ![0, 1, 2] bcast_S8x4096x1_S8x4096x384_0_1_2 (factorQ A)))
    (broadcastInDim S8x4096x384 ![0, 1, 2] bcast_S1x1x384_S8x4096x384_0_1_2 (broadcastInDim S1x1x384 ![2] bcast_S384_S1x1x384_2 g))

/-- The normed latent queries, read at an index. -/
theorem normQ_apply (A : FVec Ideal S8x4096x384 .f32) (g : FVec Ideal S384 .f32) (b : Fin 8) (s : Fin 4096) (k : Fin 384) :
    normQ A g (ix3 b s k) = rms n384 (fun k : Fin 384 => A (ix3 b s k)) (fun k => g (ix1 k)) k := by
  have e : normQ A g (ix3 b s k) = A (ix3 b s k) * factorQ A (ix3 b s 0) * g (ix1 k) := by
    pointwise [normQ]
  rw [e, factorQ_apply]
  rfl

/-- The factor of the latent keys. -/
def factorK (A : FVec Ideal S8x4096x256 .f32) : FVec Ideal S8x4096x1 .f32 :=
  Host.rsqrt (addf (Host.divf (broadcastInDim S8x4096x1 ![0, 1] bcast_S8x4096_S8x4096x1_0_1
      (Host.reduceAdd (mulf A A) (constant S_ .f32 0x00000000#32) reducesTo_S8x4096x256_S8x4096_d2 h_S_))
    (broadcastInDim S8x4096x1 ![] bcast_S_S8x4096x1 (constant S_ .f32 0x43800000#32)))
    (broadcastInDim S8x4096x1 ![] bcast_S_S8x4096x1 (constant S_ .f32 0x358637BD#32)))

/-- The factor of the latent keys, read at an index. -/
theorem factorK_apply (A : FVec Ideal S8x4096x256 .f32) (b : Fin 8) (s : Fin 4096) (z : Fin 1) :
    factorK A (ix3 b s z) = fac n256 fun k : Fin 256 => A (ix3 b s k) := by
  pointwise [factorK]
  rfl

/-- The normed latent keys. -/
def normK (A : FVec Ideal S8x4096x256 .f32) (g : FVec Ideal S256 .f32) : FVec Ideal S8x4096x256 .f32 :=
  mulf (mulf A (broadcastInDim S8x4096x256 ![0, 1, 2] bcast_S8x4096x1_S8x4096x256_0_1_2 (factorK A)))
    (broadcastInDim S8x4096x256 ![0, 1, 2] bcast_S1x1x256_S8x4096x256_0_1_2 (broadcastInDim S1x1x256 ![2] bcast_S256_S1x1x256_2 g))

/-- The normed latent keys, read at an index. -/
theorem normK_apply (A : FVec Ideal S8x4096x256 .f32) (g : FVec Ideal S256 .f32) (b : Fin 8) (s : Fin 4096) (k : Fin 256) :
    normK A g (ix3 b s k) = rms n256 (fun k : Fin 256 => A (ix3 b s k)) (fun k => g (ix1 k)) k := by
  have e : normK A g (ix3 b s k) = A (ix3 b s k) * factorK A (ix3 b s 0) * g (ix1 k) := by
    pointwise [normK]
  rw [e, factorK_apply]
  rfl

/-- The factor of the heads. -/
def factorH (A : FVec Ideal S8x4096x8x192 .f32) : FVec Ideal S8x4096x8x1 .f32 :=
  Host.rsqrt (addf (Host.divf (broadcastInDim S8x4096x8x1 ![0, 1, 2] bcast_S8x4096x8_S8x4096x8x1_0_1_2
      (Host.reduceAdd (mulf A A) (constant S_ .f32 0x00000000#32) reducesTo_S8x4096x8x192_S8x4096x8_d3 h_S_))
    (broadcastInDim S8x4096x8x1 ![] bcast_S_S8x4096x8x1 (constant S_ .f32 0x43400000#32)))
    (broadcastInDim S8x4096x8x1 ![] bcast_S_S8x4096x8x1 (constant S_ .f32 0x358637BD#32)))

/-- The factor of the heads, read at an index. -/
theorem factorH_apply (A : FVec Ideal S8x4096x8x192 .f32) (b : Fin 8) (s : Fin 4096) (h : Fin 8) (z : Fin 1) :
    factorH A (ix4 b s h z) = fac n192 fun k : Fin 192 => A (ix4 b s h k) := by
  pointwise [factorH]
  rfl

/-- The normed heads. -/
def normH (A : FVec Ideal S8x4096x8x192 .f32) (g : FVec Ideal S192 .f32) : FVec Ideal S8x4096x8x192 .f32 :=
  mulf (mulf A (broadcastInDim S8x4096x8x192 ![0, 1, 2, 3] bcast_S8x4096x8x1_S8x4096x8x192_0_1_2_3 (factorH A)))
    (broadcastInDim S8x4096x8x192 ![0, 1, 2, 3] bcast_S1x1x1x192_S8x4096x8x192_0_1_2_3 (broadcastInDim S1x1x1x192 ![3] bcast_S192_S1x1x1x192_3 g))

/-- The normed heads, read at an index. -/
theorem normH_apply (A : FVec Ideal S8x4096x8x192 .f32) (g : FVec Ideal S192 .f32) (b : Fin 8) (s : Fin 4096) (h : Fin 8) (k : Fin 192) :
    normH A g (ix4 b s h k) = rms n192 (fun k : Fin 192 => A (ix4 b s h k)) (fun k => g (ix1 k)) k := by
  have e : normH A g (ix4 b s h k) = A (ix4 b s h k) * factorH A (ix4 b s h 0) * g (ix1 k) := by
    pointwise [normH]
  rw [e, factorH_apply]
  rfl

/-- The queries' columns of the first projection. -/
def colsQ (P : FVec Ideal S8x4096x704 .f32) : FVec Ideal S8x4096x384 .f32 :=
  extractStridedSlice S8x4096x384 ![0, 0, 0] P slices_S8x4096x704_S8x4096x384_0_0_0

/-- The queries' columns of the first projection, read at an index. -/
theorem colsQ_apply (P : FVec Ideal S8x4096x704 .f32) (b : Fin 8) (s : Fin 4096) (k : Fin 384) :
    colsQ P (ix3 b s k) = P (ix3 b s ⟨k, by omega⟩) := by
  pointwise [colsQ]

/-- The keys' columns of the first projection. -/
def colsK (P : FVec Ideal S8x4096x704 .f32) : FVec Ideal S8x4096x256 .f32 :=
  extractStridedSlice S8x4096x256 ![0, 0, 384] P slices_S8x4096x704_S8x4096x256_0_0_384

/-- The keys' columns of the first projection, read at an index. -/
theorem colsK_apply (P : FVec Ideal S8x4096x704 .f32) (b : Fin 8) (s : Fin 4096) (k : Fin 256) :
    colsK P (ix3 b s k) = P (ix3 b s ⟨384 + k, by omega⟩) := by
  pointwise [colsK]

/-- The heads of the queries. -/
def headsQ (A : FVec Ideal S8x4096x384 .f32) (U : FVec Ideal S384x1536 .f32) : FVec Ideal S8x4096x8x192 .f32 :=
  shapeCast S8x4096x8x192 (Host.dotGeneral dot_S8x4096x384_S384x1536_S8x4096x1536_2_0_01_1_n_n none A U) shapeCasts_S8x4096x1536_S8x4096x8x192

/-- The heads of the queries, read at an index. -/
theorem headsQ_apply (A : FVec Ideal S8x4096x384 .f32) (U : FVec Ideal S384x1536 .f32) (b : Fin 8) (s : Fin 4096) (h : Fin 8) (d : Fin 192) :
    headsQ A U (ix4 b s h d) = ∑ k : Fin 384, A (ix3 b s k) * U (ix2 k ⟨192 * h + d, by omega⟩) := by
  have e : headsQ A U (ix4 b s h d) = ∑ k : Fin 384, A (ix3 b s k) * U (ix2 k ⟨h * 192 + d, by omega⟩) := by pointwise [headsQ]
  rw [e]
  exact sum_congr rfl fun k _ => congrArg (fun j => A (ix3 b s k) * U (ix2 k j)) (Fin.ext (by simp only; omega))

/-- The heads of the keys and values. -/
def headsE (A : FVec Ideal S8x4096x256 .f32) (E : FVec Ideal S256x2048 .f32) : FVec Ideal S8x4096x8x256 .f32 :=
  shapeCast S8x4096x8x256 (Host.dotGeneral dot_S8x4096x256_S256x2048_S8x4096x2048_2_0_01_1_n_n none A E) shapeCasts_S8x4096x2048_S8x4096x8x256

/-- The heads of the keys and values, read at an index. -/
theorem headsE_apply (A : FVec Ideal S8x4096x256 .f32) (E : FVec Ideal S256x2048 .f32) (b : Fin 8) (s : Fin 4096) (h : Fin 8) (d : Fin 256) :
    headsE A E (ix4 b s h d) = ∑ k : Fin 256, A (ix3 b s k) * E (ix2 k ⟨256 * h + d, by omega⟩) := by
  have e : headsE A E (ix4 b s h d) = ∑ k : Fin 256, A (ix3 b s k) * E (ix2 k ⟨h * 256 + d, by omega⟩) := by pointwise [headsE]
  rw [e]
  exact sum_congr rfl fun k _ => congrArg (fun j => A (ix3 b s k) * E (ix2 k j)) (Fin.ext (by simp only; omega))

/-- The heads of the keys. -/
def headsK (T : FVec Ideal S8x4096x8x256 .f32) (P : FVec Ideal S8x4096x704 .f32) : FVec Ideal S8x4096x8x192 .f32 :=
  concatenate S8x4096x8x192 3 [⟨S8x4096x8x128, extractStridedSlice S8x4096x8x128 ![0, 0, 0, 0] T slices_S8x4096x8x256_S8x4096x8x128_0_0_0_0⟩,
    ⟨S8x4096x8x64, broadcastInDim S8x4096x8x64 ![0, 1, 2, 3] bcast_S8x4096x1x64_S8x4096x8x64_0_1_2_3
      (broadcastInDim S8x4096x1x64 ![0, 1, 3] bcast_S8x4096x64_S8x4096x1x64_0_1_3
        (extractStridedSlice S8x4096x64 ![0, 0, 640] P slices_S8x4096x704_S8x4096x64_0_0_640))⟩]
    concatenates_S8x4096x8x128_S8x4096x8x64_S8x4096x8x192_d3

/-- The heads of the keys, read at an index. -/
theorem headsK_apply (T : FVec Ideal S8x4096x8x256 .f32) (P : FVec Ideal S8x4096x704 .f32) (b : Fin 8) (s : Fin 4096) (h : Fin 8) (d : Fin 192) :
    headsK T P (ix4 b s h d) = if (d : ℕ) < 128 then T (ix4 b s h ⟨d, by omega⟩) else P (ix3 b s ⟨512 + d, by omega⟩) := by
  pointwise [headsK]
  by_cases hd : (d : ℕ) < 128
  · rw [dif_pos hd, if_pos hd]
  · rw [dif_neg hd, if_neg hd]
    exact congrArg (fun j => P (ix3 b s j)) (Fin.ext (by simp only; omega))

/-- The first halves of the rotated columns. -/
def firsts (A : FVec Ideal S8x4096x8x192 .f32) : FVec Ideal S8x4096x8x32 .f32 :=
  extractStridedSlice S8x4096x8x32 ![0, 0, 0, 0] (extractStridedSlice S8x4096x8x64 ![0, 0, 0, 128] A slices_S8x4096x8x192_S8x4096x8x64_0_0_0_128)
    slices_S8x4096x8x64_S8x4096x8x32_0_0_0_0

/-- The first halves of the rotated columns, read at an index. -/
theorem firsts_apply (A : FVec Ideal S8x4096x8x192 .f32) (b : Fin 8) (s : Fin 4096) (h : Fin 8) (d : Fin 32) :
    firsts A (ix4 b s h d) = A (ix4 b s h ⟨128 + d, by omega⟩) := by
  pointwise [firsts]

/-- The second halves of the rotated columns. -/
def seconds (A : FVec Ideal S8x4096x8x192 .f32) : FVec Ideal S8x4096x8x32 .f32 :=
  extractStridedSlice S8x4096x8x32 ![0, 0, 0, 32] (extractStridedSlice S8x4096x8x64 ![0, 0, 0, 128] A slices_S8x4096x8x192_S8x4096x8x64_0_0_0_128)
    slices_S8x4096x8x64_S8x4096x8x32_0_0_0_32

/-- The second halves of the rotated columns, read at an index. -/
theorem seconds_apply (A : FVec Ideal S8x4096x8x192 .f32) (b : Fin 8) (s : Fin 4096) (h : Fin 8) (d : Fin 32) :
    seconds A (ix4 b s h d) = A (ix4 b s h ⟨160 + d, by omega⟩) := by
  have e : seconds A (ix4 b s h d) = A (ix4 b s h ⟨128 + (32 + d), by omega⟩) := by pointwise [seconds]
  exact e.trans (congrArg (fun j => A (ix4 b s h j)) (Fin.ext (by simp only; omega)))

/-- Cosines or sines for every batch and head. -/
def spread (T : FVec Ideal S4096x32 .f32) : FVec Ideal S8x4096x8x32 .f32 :=
  broadcastInDim S8x4096x8x32 ![0, 1, 2, 3] bcast_S1x4096x1x32_S8x4096x8x32_0_1_2_3
    (broadcastInDim S1x4096x1x32 ![1, 2, 3] bcast_S4096x1x32_S1x4096x1x32_1_2_3
      (broadcastInDim S4096x1x32 ![0, 2] bcast_S4096x32_S4096x1x32_0_2 T))

/-- Cosines or sines for every batch and head, read at an index. -/
theorem spread_apply (T : FVec Ideal S4096x32 .f32) (b : Fin 8) (s : Fin 4096) (h : Fin 8) (d : Fin 32) :
    spread T (ix4 b s h d) = T (ix2 s d) := by
  pointwise [spread]

/-- The rotated columns of the heads. -/
def rope (A : FVec Ideal S8x4096x8x192 .f32) (C S : FVec Ideal S4096x32 .f32) : FVec Ideal S8x4096x8x64 .f32 :=
  concatenate S8x4096x8x64 3 [⟨S8x4096x8x32, subf (mulf (firsts A) (spread C)) (mulf (seconds A) (spread S))⟩,
    ⟨S8x4096x8x32, addf (mulf (seconds A) (spread C)) (mulf (firsts A) (spread S))⟩]
    concatenates_S8x4096x8x32_S8x4096x8x32_S8x4096x8x64_d3

/-- The rotated columns of the heads, read at an index. -/
theorem rope_apply (A : FVec Ideal S8x4096x8x192 .f32) (C S : FVec Ideal S4096x32 .f32) (b : Fin 8) (s : Fin 4096) (h : Fin 8) (l : Fin 64) :
    rope A C S (ix4 b s h l) = turn (fun d => A (ix4 b s h d)) (fun d => C (ix2 s d)) (fun d => S (ix2 s d)) l := by
  have f := firsts_apply A b s h
  have g := seconds_apply A b s h
  have hc := spread_apply C b s h
  have hs := spread_apply S b s h
  unfold rope
  generalize firsts A = F at *
  generalize seconds A = E at *
  generalize spread C = U at *
  generalize spread S = V at *
  pointwise
  unfold turn
  by_cases hl : (l : ℕ) < 32
  · rw [dif_pos hl, dif_pos hl, f, g, hc, hs]
  · rw [dif_neg hl, dif_neg hl, f, g, hc, hs]
    exact congrArg₂ (fun x y : EReal => x * C (ix2 s ⟨l - 32, by omega⟩) + y * S (ix2 s ⟨l - 32, by omega⟩))
      (congrArg (fun k => A (ix4 b s h k)) (Fin.ext (by simp only; omega))) (congrArg (fun k => A (ix4 b s h k)) (Fin.ext (by simp only; omega)))

/-- The plain columns of the heads. -/
def plain (A : FVec Ideal S8x4096x8x192 .f32) : FVec Ideal S8x4096x8x128 .f32 :=
  extractStridedSlice S8x4096x8x128 ![0, 0, 0, 0] A slices_S8x4096x8x192_S8x4096x8x128_0_0_0_0

/-- The plain columns of the heads, read at an index. -/
theorem plain_apply (A : FVec Ideal S8x4096x8x192 .f32) (b : Fin 8) (s : Fin 4096) (h : Fin 8) (d : Fin 128) :
    plain A (ix4 b s h d) = A (ix4 b s h ⟨d, by omega⟩) := by
  pointwise [plain]

/-- The queries of the heads. -/
def lanesQ (A : FVec Ideal S8x4096x8x192 .f32) (C S : FVec Ideal S4096x32 .f32) : FVec Ideal S8x4096x8x256 .f32 :=
  Host.divf (Host.divf (concatenate S8x4096x8x256 3 [⟨S8x4096x8x128, plain A⟩, ⟨S8x4096x8x64, rope A C S⟩, ⟨S8x4096x8x64, rope A C S⟩]
      concatenates_S8x4096x8x128_S8x4096x8x64_S8x4096x8x64_S8x4096x8x256_d3)
    (broadcastInDim S8x4096x8x256 ![] bcast_S_S8x4096x8x256 (Host.sqrt (constant S_ .f32 0x43400000#32))))
    (broadcastInDim S8x4096x8x256 ![] bcast_S_S8x4096x8x256 (Host.log (constant S_ .f32 0x40000000#32)))

/-- The queries of the heads, read at an index. -/
theorem lanesQ_apply (A : FVec Ideal S8x4096x8x192 .f32) (C S : FVec Ideal S4096x32 .f32) (b : Fin 8) (s : Fin 4096) (h : Fin 8) (l : Fin 256) :
    lanesQ A C S (ix4 b s h l)
      = Ideal.div (Ideal.div (if _ : (l : ℕ) < 128 then A (ix4 b s h ⟨l, by omega⟩)
          else turn (fun d => A (ix4 b s h d)) (fun d => C (ix2 s d)) (fun d => S (ix2 s d)) ⟨l % 64, by omega⟩)
        (Ideal.sqrt n192)) (Ideal.log (Ideal.ofBits .f32 0x40000000#32)) := by
  have f := plain_apply A b s h
  have g := rope_apply A C S b s h
  unfold lanesQ
  generalize plain A = F at *
  generalize rope A C S = E at *
  pointwise
  refine congrArg (fun a : EReal => Ideal.div (Ideal.div a (Ideal.sqrt n192)) (Ideal.log (Ideal.ofBits .f32 0x40000000#32))) ?_
  simp only [f, g]
  by_cases h1 : (l : ℕ) < 128
  · rw [dif_pos h1, dif_pos h1]
  rw [dif_neg h1, dif_neg h1]
  by_cases h2 : (l : ℕ) - 128 < 64
  · rw [dif_pos h2]
    exact congrArg (turn _ _ _) (Fin.ext (by simp only; omega))
  · rw [dif_neg h2]
    exact congrArg (turn _ _ _) (Fin.ext (by simp only; omega))

/-- The keys of the heads. -/
def lanesK (A : FVec Ideal S8x4096x8x192 .f32) (C S : FVec Ideal S4096x32 .f32) : FVec Ideal S8x4096x8x256 .f32 :=
  concatenate S8x4096x8x256 3 [⟨S8x4096x8x128, plain A⟩, ⟨S8x4096x8x64, rope A C S⟩,
      ⟨S8x4096x8x64, broadcastInDim S8x4096x8x64 ![] bcast_S_S8x4096x8x64 (constant S_ .f32 0x00000000#32)⟩]
    concatenates_S8x4096x8x128_S8x4096x8x64_S8x4096x8x64_S8x4096x8x256_d3

/-- The keys of the heads, read at an index. -/
theorem lanesK_apply (A : FVec Ideal S8x4096x8x192 .f32) (C S : FVec Ideal S4096x32 .f32) (b : Fin 8) (s : Fin 4096) (h : Fin 8) (l : Fin 256) :
    lanesK A C S (ix4 b s h l)
      = if _ : (l : ℕ) < 128 then A (ix4 b s h ⟨l, by omega⟩)
        else if (l : ℕ) < 192 then turn (fun d => A (ix4 b s h d)) (fun d => C (ix2 s d)) (fun d => S (ix2 s d)) ⟨l % 64, by omega⟩ else 0 := by
  have f := plain_apply A b s h
  have g := rope_apply A C S b s h
  unfold lanesK
  generalize plain A = F at *
  generalize rope A C S = E at *
  pointwise
  simp only [f, g]
  by_cases h1 : (l : ℕ) < 128
  · rw [dif_pos h1, dif_pos h1]
  rw [dif_neg h1, dif_neg h1]
  by_cases h2 : (l : ℕ) - 128 < 64
  · rw [dif_pos h2, if_pos (show (l : ℕ) < 192 by omega)]
    exact congrArg (turn _ _ _) (Fin.ext (by simp only; omega))
  · rw [dif_neg h2, if_neg (show ¬ (l : ℕ) < 192 by omega)]

/-- The stored heads. -/
def store (T : FVec Ideal S8x4096x8x256 .f32) : FVec Ideal S32768x2048 .bf16 :=
  truncf .bf16 (shapeCast S32768x2048 T shapeCasts_S8x4096x8x256_S32768x2048) bitsLt_bf16_f32

/-- The stored heads, read at an index. -/
theorem store_apply (T : FVec Ideal S8x4096x8x256 .f32) (r : Fin 32768) (j : Fin 2048) :
    store T (ix2 r j) = T (ix4 ⟨r / 4096, by omega⟩ ⟨r % 4096, by omega⟩ ⟨j / 256, by omega⟩ ⟨j % 256, by omega⟩) := by
  pointwise [store]

/-- The stored values. -/
def storeV (T : FVec Ideal S8x4096x8x256 .f32) : FVec Ideal S32768x1024 .bf16 :=
  truncf .bf16 (shapeCast S32768x1024 (extractStridedSlice S8x4096x8x128 ![0, 0, 0, 128] T slices_S8x4096x8x256_S8x4096x8x128_0_0_0_128)
    shapeCasts_S8x4096x8x128_S32768x1024) bitsLt_bf16_f32

/-- The stored values, read at an index. -/
theorem storeV_apply (T : FVec Ideal S8x4096x8x256 .f32) (r : Fin 32768) (j : Fin 1024) :
    storeV T (ix2 r j) = T (ix4 ⟨r / 4096, by omega⟩ ⟨r % 4096, by omega⟩ ⟨j / 128, by omega⟩ ⟨128 + j % 128, by omega⟩) := by
  pointwise [storeV]

section rows

variable (X : FVec Ideal S8x4096x1024 .f32) (G : FVec Ideal S1024 .f32) (W : FVec Ideal S1024x704 .f32) (QA : FVec Ideal S384 .f32)
  (KA : FVec Ideal S256 .f32) (U : FVec Ideal S384x1536 .f32) (E : FVec Ideal S256x2048 .f32) (QN KN : FVec Ideal S192 .f32)

/-- The queries' heads of the arguments. -/
def allQ : FVec Ideal S8x4096x8x192 .f32 := headsQ (normQ (colsQ (project X G W)) QA) U

/-- The keys' and values' heads of the arguments. -/
def allE : FVec Ideal S8x4096x8x256 .f32 := headsE (normK (colsK (project X G W)) KA) E

/-- The keys' heads of the arguments. -/
def allK : FVec Ideal S8x4096x8x192 .f32 := headsK (allE X G W KA E) (project X G W)

/-- The reference's queries. -/
def query : FVec Ideal S32768x2048 .bf16 := store (lanesQ (normH (allQ X G W QA U) QN) cosines sines)

/-- The reference's keys. -/
def key : FVec Ideal S32768x2048 .bf16 := store (lanesK (normH (allK X G W KA E) KN) cosines sines)

/-- The reference's values. -/
def value : FVec Ideal S32768x1024 .bf16 := storeV (allE X G W KA E)

/-- The queries' heads of the arguments, read at an index. -/
theorem allQ_apply (b : Fin 8) (s : Fin 4096) (h : Fin 8) (d : Fin 192) :
    allQ X G W QA U (ix4 b s h d) = (rowData X G W QA KA U E QN KN b s).qhead h d := by
  refine (headsQ_apply _ _ b s h d).trans (sum_congr rfl fun k _ => congrArg (fun a : EReal => a * U (ix2 k ⟨192 * h + d, by omega⟩)) ?_)
  refine (normQ_apply _ _ b s k).trans (congrArg (fun p => rms n384 p (fun k => QA (ix1 k)) k) (funext fun k => ?_))
  exact (colsQ_apply _ b s k).trans (project_apply X G W b s _)

/-- The keys' and values' heads of the arguments, read at an index. -/
theorem allE_apply (b : Fin 8) (s : Fin 4096) (h : Fin 8) (d : Fin 256) : allE X G W KA E (ix4 b s h d)
    = ∑ k, (rowData X G W QA KA U E QN KN b s).ckv k * E (ix2 k ⟨256 * h + d, by omega⟩) := by
  refine (headsE_apply _ _ b s h d).trans (sum_congr rfl fun k _ => congrArg (fun a : EReal => a * E (ix2 k ⟨256 * h + d, by omega⟩)) ?_)
  refine (normK_apply _ _ b s k).trans (congrArg (fun p => rms n256 p (fun k => KA (ix1 k)) k) (funext fun k => ?_))
  exact (colsK_apply _ b s k).trans (project_apply X G W b s _)

/-- The keys' heads of the arguments, read at an index. -/
theorem allK_apply (b : Fin 8) (s : Fin 4096) (h : Fin 8) (d : Fin 192) :
    allK X G W KA E (ix4 b s h d) = (rowData X G W QA KA U E QN KN b s).khead h d := by
  refine (headsK_apply _ _ b s h d).trans ?_
  unfold Data.khead
  by_cases hd : (d : ℕ) < 128
  · rw [if_pos hd, if_pos hd]
    exact allE_apply X G W QA KA U E QN KN b s h ⟨d, by omega⟩
  · rw [if_neg hd, if_neg hd]
    exact project_apply X G W b s _

/-- The reference's queries, row by row. -/
theorem query_all : query X G W QA U QN = allRows (qRow (rowData X G W QA KA U E QN KN)) := by
  funext y
  have hy : y = (ix2 (y 0 : Fin 32768) (y 1 : Fin 2048) : S32768x2048.Idx) := by funext a; fin_cases a <;> rfl
  refine (congrArg (query X G W QA U QN) hy).trans ((store_apply _ _ _).trans ((lanesQ_apply _ _ _ _ _ _ _).trans ?_))
  simp only [normH_apply, allQ_apply X G W QA KA U E QN KN]
  rfl

/-- The reference's keys, row by row. -/
theorem key_all : key X G W KA E KN = allRows (kRow (rowData X G W QA KA U E QN KN)) := by
  funext y
  have hy : y = (ix2 (y 0 : Fin 32768) (y 1 : Fin 2048) : S32768x2048.Idx) := by funext a; fin_cases a <;> rfl
  refine (congrArg (key X G W KA E KN) hy).trans ((store_apply _ _ _).trans ((lanesK_apply _ _ _ _ _ _ _).trans ?_))
  simp only [normH_apply, allK_apply X G W QA KA U E QN KN]
  rfl

/-- The reference's values, row by row. -/
theorem value_all : value X G W KA E = allRows (vRow (rowData X G W QA KA U E QN KN)) := by
  funext y
  have hy : y = (ix2 (y 0 : Fin 32768) (y 1 : Fin 1024) : S32768x1024.Idx) := by funext a; fin_cases a <;> rfl
  refine (congrArg (value X G W KA E) hy).trans ((storeV_apply _ _ _).trans ((allE_apply X G W QA KA U E QN KN _ _ _ _).trans ?_))
  refine sum_congr rfl fun k _ => congrArg (fun j => (rowData X G W QA KA U E QN KN _ _).ckv k * E (ix2 k j)) (Fin.ext ?_)
  simp only
  omega

end rows

end Cert.Mla.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite
public import proofs.«01_k».proof.Proof.Attn.Equal
public import proofs.«01_k».proof.Proof.Tail.Reference2
public import proofs.«01_k».proof.Proof.Tail.Reference3
public import proofs.«01_k».proof.Proof.Proj.Reference4
public import proofs.«01_k».proof.Proof.Mla.Reference5
public import Idealize.ShloMosaic.Lib.Claim
public import Idealize.ShloMosaic.Adequacy
public import Idealize.ShloMosaic.Init

@[expose] public section

noncomputable section

namespace Cert.Proof

open Idealize.ShloMosaic Idealize.SL.Sem

/-- The attention and its reference end with equal results. -/
theorem attention : @Cert.algebraic_KernelIdeal_ReferenceIdeal_pre_finite Cert.KernelIdeal.Gen.facts Cert.ReferenceIdeal.Gen.facts
    Cert.Pre_finite.Gen.facts := by
  pair_intro
  · run_from Cert.KernelIdeal.Value.run_blocks m g
  · run_from Cert.ReferenceIdeal.Value.run m' g'
    obtain ⟨a0, a1, a2⟩ := hagree c
    have hp := Cert.Attn.real_of_pre _ _ _ (hpre c)
    refine (Cert.Attn.Ref.result_eq m' c).trans ?_
    rw [a0, a1, a2]
    exact (Cert.Attn.agree _ _ _ hp.1 hp.2).trans (Cert.Attn.final m c).symm

/-- The reference runs and leaves its arguments. -/
theorem reference : @Cert.quiescent_ReferenceIdeal Cert.ReferenceIdeal.Gen.facts := by
  intro m g _
  exact (θ_run Cert.ReferenceIdeal.defs _ _).mono
    (fun r h => ⟨fun c => (h c).2, sem_eq_zero_of_no_sems (by decide) r.2⟩) (Cert.ReferenceIdeal.Value.run m g)

/-- The second layer's tail and its reference end with equal results. -/
theorem tail2 : @Cert.algebraic_Kernel2Ideal_Reference2Ideal Cert.Kernel2Ideal.Gen.facts Cert.Reference2Ideal.Gen.facts := by
  pair_intro
  · run_from Cert.Kernel2Ideal.Value.run_blocks m g
  · run_from Cert.Reference2Ideal.Value.run m' g'
    obtain ⟨a0, a1, a2, a3, a4, a5, a6, a7, a8, a9⟩ := hagree c
    refine (Cert.Tail2.Ref.result_eq m' c).trans ?_
    rw [a0, a1, a2, a3, a4, a5, a6, a7, a8, a9]
    exact (Cert.Tail2.Ref.tail_all _ _ _ _ _ _ _ _ _ _).trans (Cert.Tail2.final m c).symm

/-- The reference of the second layer's tail runs and leaves its arguments. -/
theorem reference2 : @Cert.quiescent_Reference2Ideal Cert.Reference2Ideal.Gen.facts := by
  intro m g _
  exact (θ_run Cert.Reference2Ideal.defs _ _).mono
    (fun r h => ⟨fun c => (h c).2, sem_eq_zero_of_no_sems (by decide) r.2⟩) (Cert.Reference2Ideal.Value.run m g)

/-- The first layer's tail and its reference end with equal results. -/
theorem tail3 : @Cert.algebraic_Kernel3Ideal_Reference3Ideal Cert.Kernel3Ideal.Gen.facts Cert.Reference3Ideal.Gen.facts := by
  pair_intro
  · run_from Cert.Kernel3Ideal.Value.run_blocks m g
  · run_from Cert.Reference3Ideal.Value.run m' g'
    obtain ⟨a0, a1, a2, a3, a4, a5, a6, a7, a8, a9, a10⟩ := hagree c
    refine (Cert.Tail3.Ref.result_eq m' c).trans ?_
    rw [a0, a1, a2, a3, a4, a5, a6, a7, a8, a9, a10]
    exact (Cert.Tail3.Ref.tail_all _ _ _ _ _ _ _ _ _ _ _).trans (Cert.Tail3.final m c).symm

/-- The reference of the first layer's tail runs and leaves its arguments. -/
theorem reference3 : @Cert.quiescent_Reference3Ideal Cert.Reference3Ideal.Gen.facts := by
  intro m g _
  exact (θ_run Cert.Reference3Ideal.defs _ _).mono
    (fun r h => ⟨fun c => (h c).2, sem_eq_zero_of_no_sems (by decide) r.2⟩) (Cert.Reference3Ideal.Value.run m g)

/-- The projections and their reference end with equal results. -/
theorem projections : @Cert.algebraic_Kernel4Ideal_Reference4Ideal Cert.Kernel4Ideal.Gen.facts Cert.Reference4Ideal.Gen.facts := by
  pair_intro
  · run_from Cert.Kernel4Ideal.Value.run_blocks m g
  · run_from Cert.Reference4Ideal.Value.run m' g'
    · obtain ⟨a0, a1, a2, a3⟩ := hagree c
      refine (Cert.Proj.Ref.result_q m' c).trans ?_
      rw [a0, a1, a2]
      exact (Cert.Proj.Ref.query_all _ _ _).trans (Cert.Proj.final_q m c).symm
    · obtain ⟨a0, a1, a2, a3⟩ := hagree c
      refine (Cert.Proj.Ref.result_k m' c).trans ?_
      rw [a0, a1, a2]
      exact (Cert.Proj.Ref.key_all _ _ _).trans (Cert.Proj.final_k m c).symm
    · exact (Cert.Proj.Ref.value_all (m ((c.tc : Thread Cert.Kernel4Ideal.nD Cert.Kernel4Ideal.τ).loc Cert.Kernel4Ideal.main_arg0))
        (m ((c.tc : Thread Cert.Kernel4Ideal.nD Cert.Kernel4Ideal.τ).loc Cert.Kernel4Ideal.main_arg1))
        (m ((c.tc : Thread Cert.Kernel4Ideal.nD Cert.Kernel4Ideal.τ).loc Cert.Kernel4Ideal.main_arg2))).trans (Cert.Proj.final_v m c).symm
    · exact (Cert.Proj.Ref.gates_all (m ((c.tc : Thread Cert.Kernel4Ideal.nD Cert.Kernel4Ideal.τ).loc Cert.Kernel4Ideal.main_arg0))
        (m ((c.tc : Thread Cert.Kernel4Ideal.nD Cert.Kernel4Ideal.τ).loc Cert.Kernel4Ideal.main_arg1))
        (m ((c.tc : Thread Cert.Kernel4Ideal.nD Cert.Kernel4Ideal.τ).loc Cert.Kernel4Ideal.main_arg2))
        (m ((c.tc : Thread Cert.Kernel4Ideal.nD Cert.Kernel4Ideal.τ).loc Cert.Kernel4Ideal.main_arg3))).trans (Cert.Proj.final_g m c).symm

/-- The reference of the projections runs and leaves its arguments. -/
theorem reference4 : @Cert.quiescent_Reference4Ideal Cert.Reference4Ideal.Gen.facts := by
  intro m g _
  exact (θ_run Cert.Reference4Ideal.defs _ _).mono
    (fun r h => ⟨fun c => (h c).2.2.2.2, sem_eq_zero_of_no_sems (by decide) r.2⟩) (Cert.Reference4Ideal.Value.run m g)

set_option maxHeartbeats 1600000 in
/-- The attention's projections and their reference end with equal results. -/
theorem latent : @Cert.algebraic_Kernel5Ideal_Reference5Ideal Cert.Kernel5Ideal.Gen.facts Cert.Reference5Ideal.Gen.facts := by
  pair_intro
  · run_from Cert.Kernel5Ideal.Value.run_blocks m g
  · run_from Cert.Reference5Ideal.Value.run m' g'
    all_goals obtain ⟨a0, a1, a2, a3, a4, a5, a6, a7, a8⟩ := hagree c
    · refine Eq.trans (b := Cert.Mla.Ref.query
          (m' (c.tc.loc Cert.Reference5Ideal.main_arg0)) (m' (c.tc.loc Cert.Reference5Ideal.main_arg1)) (m' (c.tc.loc Cert.Reference5Ideal.main_arg2))
          (m' (c.tc.loc Cert.Reference5Ideal.main_arg3)) (m' (c.tc.loc Cert.Reference5Ideal.main_arg5)) (m' (c.tc.loc Cert.Reference5Ideal.main_arg7))) rfl ?_
      rw [a0, a1, a2, a3, a5, a7]
      exact (Cert.Mla.Ref.query_all _ _ _ _ _ _ _ _ _).trans (Cert.Mla.final_q m c).symm
    · refine Eq.trans (b := Cert.Mla.Ref.key
          (m' (c.tc.loc Cert.Reference5Ideal.main_arg0)) (m' (c.tc.loc Cert.Reference5Ideal.main_arg1)) (m' (c.tc.loc Cert.Reference5Ideal.main_arg2))
          (m' (c.tc.loc Cert.Reference5Ideal.main_arg4)) (m' (c.tc.loc Cert.Reference5Ideal.main_arg6)) (m' (c.tc.loc Cert.Reference5Ideal.main_arg8))) rfl ?_
      rw [a0, a1, a2, a4, a6, a8]
      exact (Cert.Mla.Ref.key_all _ _ _ _ _ _ _ _ _).trans (Cert.Mla.final_k m c).symm
    · refine Eq.trans (b := Cert.Mla.Ref.value
          (m' (c.tc.loc Cert.Reference5Ideal.main_arg0)) (m' (c.tc.loc Cert.Reference5Ideal.main_arg1)) (m' (c.tc.loc Cert.Reference5Ideal.main_arg2))
          (m' (c.tc.loc Cert.Reference5Ideal.main_arg4)) (m' (c.tc.loc Cert.Reference5Ideal.main_arg6))) rfl ?_
      rw [a0, a1, a2, a4, a6]
      exact (Cert.Mla.Ref.value_all _ _ _ _ _ _ _ _ _).trans (Cert.Mla.final_v m c).symm

/-- The reference of the attention's projections runs and leaves its arguments. -/
theorem reference5 : @Cert.quiescent_Reference5Ideal Cert.Reference5Ideal.Gen.facts := by
  intro m g _
  exact (θ_run Cert.Reference5Ideal.defs _ _).mono
    (fun r h => ⟨fun c => (h c).2.2.2, sem_eq_zero_of_no_sems (by decide) r.2⟩) (Cert.Reference5Ideal.Value.run m g)

/-- Every claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.Gen.facts,
    fun m ρ _ => Cert.Kernel.Gen.frame m ρ,
    fun m ρ _ => Cert.KernelIdeal.Gen.frame m ρ,
    fun m ρ _ => Cert.KernelIdeal.Gen.frame m ρ,
    reference,
    fun m ρ _ => reference m ρ trivial,
    fun m ρ _ => Cert.Kernel2.Gen.frame m ρ,
    fun m ρ _ => Cert.Kernel2Ideal.Gen.frame m ρ,
    reference2,
    fun m ρ _ => Cert.Kernel3.Gen.frame m ρ,
    fun m ρ _ => Cert.Kernel3Ideal.Gen.frame m ρ,
    reference3,
    fun m ρ _ => Cert.Kernel4.Gen.frame m ρ,
    fun m ρ _ => Cert.Kernel4Ideal.Gen.frame m ρ,
    reference4,
    fun m ρ _ => Cert.Kernel5.Gen.frame m ρ,
    fun m ρ _ => Cert.Kernel5Ideal.Gen.frame m ρ,
    reference5,
    IdealRules.named_const.statement Cert.KernelIdeal.κ "mask" .f32 0xF149F2CA#32 ⊥ rfl,
    attention,
    trivial,
    tail2,
    trivial,
    tail3,
    trivial,
    projections,
    ⟨IdealRules.named_const.statement Cert.Kernel5Ideal.κ "inv_384" .f32 0x3B2AAAAB#32 ((1 / 384 : ℝ) : EReal) rfl,
      IdealRules.named_const.statement Cert.Kernel5Ideal.κ "inv_192" .f32 0x3BAAAAAB#32 ((1 / 192 : ℝ) : EReal) rfl,
      IdealRules.named_const.statement Cert.Kernel5Ideal.κ "scale" .f32 0x3DD53B95#32 (((Real.sqrt 192)⁻¹ * (Real.log 2)⁻¹ : ℝ) : EReal) rfl⟩,
    latent⟩

end Cert.Proof

end
